-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_bwd_finite [hPre_ffn_bwd_finite : Cert.Pre_ffn_bwd_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).2.1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_bwd_finite [hPre_ffn_bwd_finite : Cert.Pre_ffn_bwd_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3))).1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3))).2.1 = (fun _ => 1#1)
    ∧ (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3))).2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnNormBwd (m : (ℓ : Loc Cert.FfnNormBwd.nD Cert.FfnNormBwd.τ Cert.FfnNormBwd.sig) → Buf (Elt Bits) ℓ) : Prop :=
  True

def Pre_FfnNormBwdIdeal (m : (ℓ : Loc Cert.FfnNormBwdIdeal.nD Cert.FfnNormBwdIdeal.τ Cert.FfnNormBwdIdeal.sig) → Buf (Elt Ideal) ℓ) : Prop :=
  True

def Pre_FfnNormBwdIdeal_ffn_norm_bwd_finite [hPre_ffn_norm_bwd_finite : Cert.Pre_ffn_norm_bwd_finite.Facts] (m : (ℓ : Loc Cert.FfnNormBwdIdeal.nD Cert.FfnNormBwdIdeal.τ Cert.FfnNormBwdIdeal.sig) → Buf (Elt Ideal) ℓ) : Prop :=
  ∀ c : Dev Cert.FfnNormBwdIdeal.nD,
    (Cert.Pre_ffn_norm_bwd_finite.fn (F := Ideal) (m ((c.tc : Thread Cert.FfnNormBwdIdeal.nD Cert.FfnNormBwdIdeal.τ).loc Cert.FfnNormBwdIdeal.main_arg0)) (m ((c.tc : Thread Cert.FfnNormBwdIdeal.nD Cert.FfnNormBwdIdeal.τ).loc Cert.FfnNormBwdIdeal.main_arg1)) (m ((c.tc : Thread Cert.FfnNormBwdIdeal.nD Cert.FfnNormBwdIdeal.τ).loc Cert.FfnNormBwdIdeal.main_arg2)) (m ((c.tc : Thread Cert.FfnNormBwdIdeal.nD Cert.FfnNormBwdIdeal.τ).loc Cert.FfnNormBwdIdeal.main_arg3)) (m ((c.tc : Thread Cert.FfnNormBwdIdeal.nD Cert.FfnNormBwdIdeal.τ).loc Cert.FfnNormBwdIdeal.main_arg4)) (m ((c.tc : Thread Cert.FfnNormBwdIdeal.nD Cert.FfnNormBwdIdeal.τ).loc Cert.FfnNormBwdIdeal.main_arg5))).1 = (fun _ => 1#1)
    ∧ (Cert.Pre_ffn_norm_bwd_finite.fn (F := Ideal) (m ((c.tc : Thread Cert.FfnNormBwdIdeal.nD Cert.FfnNormBwdIdeal.τ).loc Cert.FfnNormBwdIdeal.main_arg0)) (m ((c.tc : Thread Cert.FfnNormBwdIdeal.nD Cert.FfnNormBwdIdeal.τ).loc Cert.FfnNormBwdIdeal.main_arg1)) (m ((c.tc : Thread Cert.FfnNormBwdIdeal.nD Cert.FfnNormBwdIdeal.τ).loc Cert.FfnNormBwdIdeal.main_arg2)) (m ((c.tc : Thread Cert.FfnNormBwdIdeal.nD Cert.FfnNormBwdIdeal.τ).loc Cert.FfnNormBwdIdeal.main_arg3)) (m ((c.tc : Thread Cert.FfnNormBwdIdeal.nD Cert.FfnNormBwdIdeal.τ).loc Cert.FfnNormBwdIdeal.main_arg4)) (m ((c.tc : Thread Cert.FfnNormBwdIdeal.nD Cert.FfnNormBwdIdeal.τ).loc Cert.FfnNormBwdIdeal.main_arg5))).2.1 = (fun _ => 1#1)
    ∧ (Cert.Pre_ffn_norm_bwd_finite.fn (F := Ideal) (m ((c.tc : Thread Cert.FfnNormBwdIdeal.nD Cert.FfnNormBwdIdeal.τ).loc Cert.FfnNormBwdIdeal.main_arg0)) (m ((c.tc : Thread Cert.FfnNormBwdIdeal.nD Cert.FfnNormBwdIdeal.τ).loc Cert.FfnNormBwdIdeal.main_arg1)) (m ((c.tc : Thread Cert.FfnNormBwdIdeal.nD Cert.FfnNormBwdIdeal.τ).loc Cert.FfnNormBwdIdeal.main_arg2)) (m ((c.tc : Thread Cert.FfnNormBwdIdeal.nD Cert.FfnNormBwdIdeal.τ).loc Cert.FfnNormBwdIdeal.main_arg3)) (m ((c.tc : Thread Cert.FfnNormBwdIdeal.nD Cert.FfnNormBwdIdeal.τ).loc Cert.FfnNormBwdIdeal.main_arg4)) (m ((c.tc : Thread Cert.FfnNormBwdIdeal.nD Cert.FfnNormBwdIdeal.τ).loc Cert.FfnNormBwdIdeal.main_arg5))).2.2.1 = (fun _ => 1#1)
    ∧ (Cert.Pre_ffn_norm_bwd_finite.fn (F := Ideal) (m ((c.tc : Thread Cert.FfnNormBwdIdeal.nD Cert.FfnNormBwdIdeal.τ).loc Cert.FfnNormBwdIdeal.main_arg0)) (m ((c.tc : Thread Cert.FfnNormBwdIdeal.nD Cert.FfnNormBwdIdeal.τ).loc Cert.FfnNormBwdIdeal.main_arg1)) (m ((c.tc : Thread Cert.FfnNormBwdIdeal.nD Cert.FfnNormBwdIdeal.τ).loc Cert.FfnNormBwdIdeal.main_arg2)) (m ((c.tc : Thread Cert.FfnNormBwdIdeal.nD Cert.FfnNormBwdIdeal.τ).loc Cert.FfnNormBwdIdeal.main_arg3)) (m ((c.tc : Thread Cert.FfnNormBwdIdeal.nD Cert.FfnNormBwdIdeal.τ).loc Cert.FfnNormBwdIdeal.main_arg4)) (m ((c.tc : Thread Cert.FfnNormBwdIdeal.nD Cert.FfnNormBwdIdeal.τ).loc Cert.FfnNormBwdIdeal.main_arg5))).2.2.2.1 = (fun _ => 1#1)
    ∧ (Cert.Pre_ffn_norm_bwd_finite.fn (F := Ideal) (m ((c.tc : Thread Cert.FfnNormBwdIdeal.nD Cert.FfnNormBwdIdeal.τ).loc Cert.FfnNormBwdIdeal.main_arg0)) (m ((c.tc : Thread Cert.FfnNormBwdIdeal.nD Cert.FfnNormBwdIdeal.τ).loc Cert.FfnNormBwdIdeal.main_arg1)) (m ((c.tc : Thread Cert.FfnNormBwdIdeal.nD Cert.FfnNormBwdIdeal.τ).loc Cert.FfnNormBwdIdeal.main_arg2)) (m ((c.tc : Thread Cert.FfnNormBwdIdeal.nD Cert.FfnNormBwdIdeal.τ).loc Cert.FfnNormBwdIdeal.main_arg3)) (m ((c.tc : Thread Cert.FfnNormBwdIdeal.nD Cert.FfnNormBwdIdeal.τ).loc Cert.FfnNormBwdIdeal.main_arg4)) (m ((c.tc : Thread Cert.FfnNormBwdIdeal.nD Cert.FfnNormBwdIdeal.τ).loc Cert.FfnNormBwdIdeal.main_arg5))).2.2.2.2 = (fun _ => 1#1)

def Pre_FfnNormBwdRefIdeal (m : (ℓ : Loc Cert.FfnNormBwdRefIdeal.nD Cert.FfnNormBwdRefIdeal.τ Cert.FfnNormBwdRefIdeal.sig) → Buf (Elt Ideal) ℓ) : Prop :=
  True

def Pre_FfnNormBwdRefIdeal_ffn_norm_bwd_finite [hPre_ffn_norm_bwd_finite : Cert.Pre_ffn_norm_bwd_finite.Facts] (m : (ℓ : Loc Cert.FfnNormBwdRefIdeal.nD Cert.FfnNormBwdRefIdeal.τ Cert.FfnNormBwdRefIdeal.sig) → Buf (Elt Ideal) ℓ) : Prop :=
  ∀ c : Dev Cert.FfnNormBwdRefIdeal.nD,
    (Cert.Pre_ffn_norm_bwd_finite.fn (F := Ideal) (m ((c.tc : Thread Cert.FfnNormBwdRefIdeal.nD Cert.FfnNormBwdRefIdeal.τ).loc Cert.FfnNormBwdRefIdeal.main_arg0)) (m ((c.tc : Thread Cert.FfnNormBwdRefIdeal.nD Cert.FfnNormBwdRefIdeal.τ).loc Cert.FfnNormBwdRefIdeal.main_arg1)) (m ((c.tc : Thread Cert.FfnNormBwdRefIdeal.nD Cert.FfnNormBwdRefIdeal.τ).loc Cert.FfnNormBwdRefIdeal.main_arg2)) (m ((c.tc : Thread Cert.FfnNormBwdRefIdeal.nD Cert.FfnNormBwdRefIdeal.τ).loc Cert.FfnNormBwdRefIdeal.main_arg3)) (m ((c.tc : Thread Cert.FfnNormBwdRefIdeal.nD Cert.FfnNormBwdRefIdeal.τ).loc Cert.FfnNormBwdRefIdeal.main_arg4)) (m ((c.tc : Thread Cert.FfnNormBwdRefIdeal.nD Cert.FfnNormBwdRefIdeal.τ).loc Cert.FfnNormBwdRefIdeal.main_arg5))).1 = (fun _ => 1#1)
    ∧ (Cert.Pre_ffn_norm_bwd_finite.fn (F := Ideal) (m ((c.tc : Thread Cert.FfnNormBwdRefIdeal.nD Cert.FfnNormBwdRefIdeal.τ).loc Cert.FfnNormBwdRefIdeal.main_arg0)) (m ((c.tc : Thread Cert.FfnNormBwdRefIdeal.nD Cert.FfnNormBwdRefIdeal.τ).loc Cert.FfnNormBwdRefIdeal.main_arg1)) (m ((c.tc : Thread Cert.FfnNormBwdRefIdeal.nD Cert.FfnNormBwdRefIdeal.τ).loc Cert.FfnNormBwdRefIdeal.main_arg2)) (m ((c.tc : Thread Cert.FfnNormBwdRefIdeal.nD Cert.FfnNormBwdRefIdeal.τ).loc Cert.FfnNormBwdRefIdeal.main_arg3)) (m ((c.tc : Thread Cert.FfnNormBwdRefIdeal.nD Cert.FfnNormBwdRefIdeal.τ).loc Cert.FfnNormBwdRefIdeal.main_arg4)) (m ((c.tc : Thread Cert.FfnNormBwdRefIdeal.nD Cert.FfnNormBwdRefIdeal.τ).loc Cert.FfnNormBwdRefIdeal.main_arg5))).2.1 = (fun _ => 1#1)
    ∧ (Cert.Pre_ffn_norm_bwd_finite.fn (F := Ideal) (m ((c.tc : Thread Cert.FfnNormBwdRefIdeal.nD Cert.FfnNormBwdRefIdeal.τ).loc Cert.FfnNormBwdRefIdeal.main_arg0)) (m ((c.tc : Thread Cert.FfnNormBwdRefIdeal.nD Cert.FfnNormBwdRefIdeal.τ).loc Cert.FfnNormBwdRefIdeal.main_arg1)) (m ((c.tc : Thread Cert.FfnNormBwdRefIdeal.nD Cert.FfnNormBwdRefIdeal.τ).loc Cert.FfnNormBwdRefIdeal.main_arg2)) (m ((c.tc : Thread Cert.FfnNormBwdRefIdeal.nD Cert.FfnNormBwdRefIdeal.τ).loc Cert.FfnNormBwdRefIdeal.main_arg3)) (m ((c.tc : Thread Cert.FfnNormBwdRefIdeal.nD Cert.FfnNormBwdRefIdeal.τ).loc Cert.FfnNormBwdRefIdeal.main_arg4)) (m ((c.tc : Thread Cert.FfnNormBwdRefIdeal.nD Cert.FfnNormBwdRefIdeal.τ).loc Cert.FfnNormBwdRefIdeal.main_arg5))).2.2.1 = (fun _ => 1#1)
    ∧ (Cert.Pre_ffn_norm_bwd_finite.fn (F := Ideal) (m ((c.tc : Thread Cert.FfnNormBwdRefIdeal.nD Cert.FfnNormBwdRefIdeal.τ).loc Cert.FfnNormBwdRefIdeal.main_arg0)) (m ((c.tc : Thread Cert.FfnNormBwdRefIdeal.nD Cert.FfnNormBwdRefIdeal.τ).loc Cert.FfnNormBwdRefIdeal.main_arg1)) (m ((c.tc : Thread Cert.FfnNormBwdRefIdeal.nD Cert.FfnNormBwdRefIdeal.τ).loc Cert.FfnNormBwdRefIdeal.main_arg2)) (m ((c.tc : Thread Cert.FfnNormBwdRefIdeal.nD Cert.FfnNormBwdRefIdeal.τ).loc Cert.FfnNormBwdRefIdeal.main_arg3)) (m ((c.tc : Thread Cert.FfnNormBwdRefIdeal.nD Cert.FfnNormBwdRefIdeal.τ).loc Cert.FfnNormBwdRefIdeal.main_arg4)) (m ((c.tc : Thread Cert.FfnNormBwdRefIdeal.nD Cert.FfnNormBwdRefIdeal.τ).loc Cert.FfnNormBwdRefIdeal.main_arg5))).2.2.2.1 = (fun _ => 1#1)
    ∧ (Cert.Pre_ffn_norm_bwd_finite.fn (F := Ideal) (m ((c.tc : Thread Cert.FfnNormBwdRefIdeal.nD Cert.FfnNormBwdRefIdeal.τ).loc Cert.FfnNormBwdRefIdeal.main_arg0)) (m ((c.tc : Thread Cert.FfnNormBwdRefIdeal.nD Cert.FfnNormBwdRefIdeal.τ).loc Cert.FfnNormBwdRefIdeal.main_arg1)) (m ((c.tc : Thread Cert.FfnNormBwdRefIdeal.nD Cert.FfnNormBwdRefIdeal.τ).loc Cert.FfnNormBwdRefIdeal.main_arg2)) (m ((c.tc : Thread Cert.FfnNormBwdRefIdeal.nD Cert.FfnNormBwdRefIdeal.τ).loc Cert.FfnNormBwdRefIdeal.main_arg3)) (m ((c.tc : Thread Cert.FfnNormBwdRefIdeal.nD Cert.FfnNormBwdRefIdeal.τ).loc Cert.FfnNormBwdRefIdeal.main_arg4)) (m ((c.tc : Thread Cert.FfnNormBwdRefIdeal.nD Cert.FfnNormBwdRefIdeal.τ).loc Cert.FfnNormBwdRefIdeal.main_arg5))).2.2.2.2 = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2.2 = (fun _ => 1#1)

def Pre_MixNormBwd (m : (ℓ : Loc Cert.MixNormBwd.nD Cert.MixNormBwd.τ Cert.MixNormBwd.sig) → Buf (Elt Bits) ℓ) : Prop :=
  True

def Pre_MixNormBwdIdeal (m : (ℓ : Loc Cert.MixNormBwdIdeal.nD Cert.MixNormBwdIdeal.τ Cert.MixNormBwdIdeal.sig) → Buf (Elt Ideal) ℓ) : Prop :=
  True

def Pre_MixNormBwdIdeal_mix_norm_bwd_finite [hPre_mix_norm_bwd_finite : Cert.Pre_mix_norm_bwd_finite.Facts] (m : (ℓ : Loc Cert.MixNormBwdIdeal.nD Cert.MixNormBwdIdeal.τ Cert.MixNormBwdIdeal.sig) → Buf (Elt Ideal) ℓ) : Prop :=
  ∀ c : Dev Cert.MixNormBwdIdeal.nD,
    (Cert.Pre_mix_norm_bwd_finite.fn (F := Ideal) (m ((c.tc : Thread Cert.MixNormBwdIdeal.nD Cert.MixNormBwdIdeal.τ).loc Cert.MixNormBwdIdeal.main_arg0)) (m ((c.tc : Thread Cert.MixNormBwdIdeal.nD Cert.MixNormBwdIdeal.τ).loc Cert.MixNormBwdIdeal.main_arg1)) (m ((c.tc : Thread Cert.MixNormBwdIdeal.nD Cert.MixNormBwdIdeal.τ).loc Cert.MixNormBwdIdeal.main_arg2)) (m ((c.tc : Thread Cert.MixNormBwdIdeal.nD Cert.MixNormBwdIdeal.τ).loc Cert.MixNormBwdIdeal.main_arg3)) (m ((c.tc : Thread Cert.MixNormBwdIdeal.nD Cert.MixNormBwdIdeal.τ).loc Cert.MixNormBwdIdeal.main_arg4))).1 = (fun _ => 1#1)
    ∧ (Cert.Pre_mix_norm_bwd_finite.fn (F := Ideal) (m ((c.tc : Thread Cert.MixNormBwdIdeal.nD Cert.MixNormBwdIdeal.τ).loc Cert.MixNormBwdIdeal.main_arg0)) (m ((c.tc : Thread Cert.MixNormBwdIdeal.nD Cert.MixNormBwdIdeal.τ).loc Cert.MixNormBwdIdeal.main_arg1)) (m ((c.tc : Thread Cert.MixNormBwdIdeal.nD Cert.MixNormBwdIdeal.τ).loc Cert.MixNormBwdIdeal.main_arg2)) (m ((c.tc : Thread Cert.MixNormBwdIdeal.nD Cert.MixNormBwdIdeal.τ).loc Cert.MixNormBwdIdeal.main_arg3)) (m ((c.tc : Thread Cert.MixNormBwdIdeal.nD Cert.MixNormBwdIdeal.τ).loc Cert.MixNormBwdIdeal.main_arg4))).2.1 = (fun _ => 1#1)
    ∧ (Cert.Pre_mix_norm_bwd_finite.fn (F := Ideal) (m ((c.tc : Thread Cert.MixNormBwdIdeal.nD Cert.MixNormBwdIdeal.τ).loc Cert.MixNormBwdIdeal.main_arg0)) (m ((c.tc : Thread Cert.MixNormBwdIdeal.nD Cert.MixNormBwdIdeal.τ).loc Cert.MixNormBwdIdeal.main_arg1)) (m ((c.tc : Thread Cert.MixNormBwdIdeal.nD Cert.MixNormBwdIdeal.τ).loc Cert.MixNormBwdIdeal.main_arg2)) (m ((c.tc : Thread Cert.MixNormBwdIdeal.nD Cert.MixNormBwdIdeal.τ).loc Cert.MixNormBwdIdeal.main_arg3)) (m ((c.tc : Thread Cert.MixNormBwdIdeal.nD Cert.MixNormBwdIdeal.τ).loc Cert.MixNormBwdIdeal.main_arg4))).2.2.1 = (fun _ => 1#1)
    ∧ (Cert.Pre_mix_norm_bwd_finite.fn (F := Ideal) (m ((c.tc : Thread Cert.MixNormBwdIdeal.nD Cert.MixNormBwdIdeal.τ).loc Cert.MixNormBwdIdeal.main_arg0)) (m ((c.tc : Thread Cert.MixNormBwdIdeal.nD Cert.MixNormBwdIdeal.τ).loc Cert.MixNormBwdIdeal.main_arg1)) (m ((c.tc : Thread Cert.MixNormBwdIdeal.nD Cert.MixNormBwdIdeal.τ).loc Cert.MixNormBwdIdeal.main_arg2)) (m ((c.tc : Thread Cert.MixNormBwdIdeal.nD Cert.MixNormBwdIdeal.τ).loc Cert.MixNormBwdIdeal.main_arg3)) (m ((c.tc : Thread Cert.MixNormBwdIdeal.nD Cert.MixNormBwdIdeal.τ).loc Cert.MixNormBwdIdeal.main_arg4))).2.2.2 = (fun _ => 1#1)

def Pre_MixNormBwdRefIdeal (m : (ℓ : Loc Cert.MixNormBwdRefIdeal.nD Cert.MixNormBwdRefIdeal.τ Cert.MixNormBwdRefIdeal.sig) → Buf (Elt Ideal) ℓ) : Prop :=
  True

def Pre_MixNormBwdRefIdeal_mix_norm_bwd_finite [hPre_mix_norm_bwd_finite : Cert.Pre_mix_norm_bwd_finite.Facts] (m : (ℓ : Loc Cert.MixNormBwdRefIdeal.nD Cert.MixNormBwdRefIdeal.τ Cert.MixNormBwdRefIdeal.sig) → Buf (Elt Ideal) ℓ) : Prop :=
  ∀ c : Dev Cert.MixNormBwdRefIdeal.nD,
    (Cert.Pre_mix_norm_bwd_finite.fn (F := Ideal) (m ((c.tc : Thread Cert.MixNormBwdRefIdeal.nD Cert.MixNormBwdRefIdeal.τ).loc Cert.MixNormBwdRefIdeal.main_arg0)) (m ((c.tc : Thread Cert.MixNormBwdRefIdeal.nD Cert.MixNormBwdRefIdeal.τ).loc Cert.MixNormBwdRefIdeal.main_arg1)) (m ((c.tc : Thread Cert.MixNormBwdRefIdeal.nD Cert.MixNormBwdRefIdeal.τ).loc Cert.MixNormBwdRefIdeal.main_arg2)) (m ((c.tc : Thread Cert.MixNormBwdRefIdeal.nD Cert.MixNormBwdRefIdeal.τ).loc Cert.MixNormBwdRefIdeal.main_arg3)) (m ((c.tc : Thread Cert.MixNormBwdRefIdeal.nD Cert.MixNormBwdRefIdeal.τ).loc Cert.MixNormBwdRefIdeal.main_arg4))).1 = (fun _ => 1#1)
    ∧ (Cert.Pre_mix_norm_bwd_finite.fn (F := Ideal) (m ((c.tc : Thread Cert.MixNormBwdRefIdeal.nD Cert.MixNormBwdRefIdeal.τ).loc Cert.MixNormBwdRefIdeal.main_arg0)) (m ((c.tc : Thread Cert.MixNormBwdRefIdeal.nD Cert.MixNormBwdRefIdeal.τ).loc Cert.MixNormBwdRefIdeal.main_arg1)) (m ((c.tc : Thread Cert.MixNormBwdRefIdeal.nD Cert.MixNormBwdRefIdeal.τ).loc Cert.MixNormBwdRefIdeal.main_arg2)) (m ((c.tc : Thread Cert.MixNormBwdRefIdeal.nD Cert.MixNormBwdRefIdeal.τ).loc Cert.MixNormBwdRefIdeal.main_arg3)) (m ((c.tc : Thread Cert.MixNormBwdRefIdeal.nD Cert.MixNormBwdRefIdeal.τ).loc Cert.MixNormBwdRefIdeal.main_arg4))).2.1 = (fun _ => 1#1)
    ∧ (Cert.Pre_mix_norm_bwd_finite.fn (F := Ideal) (m ((c.tc : Thread Cert.MixNormBwdRefIdeal.nD Cert.MixNormBwdRefIdeal.τ).loc Cert.MixNormBwdRefIdeal.main_arg0)) (m ((c.tc : Thread Cert.MixNormBwdRefIdeal.nD Cert.MixNormBwdRefIdeal.τ).loc Cert.MixNormBwdRefIdeal.main_arg1)) (m ((c.tc : Thread Cert.MixNormBwdRefIdeal.nD Cert.MixNormBwdRefIdeal.τ).loc Cert.MixNormBwdRefIdeal.main_arg2)) (m ((c.tc : Thread Cert.MixNormBwdRefIdeal.nD Cert.MixNormBwdRefIdeal.τ).loc Cert.MixNormBwdRefIdeal.main_arg3)) (m ((c.tc : Thread Cert.MixNormBwdRefIdeal.nD Cert.MixNormBwdRefIdeal.τ).loc Cert.MixNormBwdRefIdeal.main_arg4))).2.2.1 = (fun _ => 1#1)
    ∧ (Cert.Pre_mix_norm_bwd_finite.fn (F := Ideal) (m ((c.tc : Thread Cert.MixNormBwdRefIdeal.nD Cert.MixNormBwdRefIdeal.τ).loc Cert.MixNormBwdRefIdeal.main_arg0)) (m ((c.tc : Thread Cert.MixNormBwdRefIdeal.nD Cert.MixNormBwdRefIdeal.τ).loc Cert.MixNormBwdRefIdeal.main_arg1)) (m ((c.tc : Thread Cert.MixNormBwdRefIdeal.nD Cert.MixNormBwdRefIdeal.τ).loc Cert.MixNormBwdRefIdeal.main_arg2)) (m ((c.tc : Thread Cert.MixNormBwdRefIdeal.nD Cert.MixNormBwdRefIdeal.τ).loc Cert.MixNormBwdRefIdeal.main_arg3)) (m ((c.tc : Thread Cert.MixNormBwdRefIdeal.nD Cert.MixNormBwdRefIdeal.τ).loc Cert.MixNormBwdRefIdeal.main_arg4))).2.2.2 = (fun _ => 1#1)

def Pre_DwMix (m : (ℓ : Loc Cert.DwMix.nD Cert.DwMix.τ Cert.DwMix.sig) → Buf (Elt Bits) ℓ) : Prop :=
  True

def Pre_DwMixIdeal (m : (ℓ : Loc Cert.DwMixIdeal.nD Cert.DwMixIdeal.τ Cert.DwMixIdeal.sig) → Buf (Elt Ideal) ℓ) : Prop :=
  True

def Pre_DwMixRefIdeal (m : (ℓ : Loc Cert.DwMixRefIdeal.nD Cert.DwMixRefIdeal.τ Cert.DwMixRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjRefIdeal (m : (ℓ : Loc Cert.DwProjRefIdeal.nD Cert.DwProjRefIdeal.τ Cert.DwProjRefIdeal.sig) → Buf (Elt Ideal) ℓ) : Prop :=
  True

def Pre_AdamGains (m : (ℓ : Loc Cert.AdamGains.nD Cert.AdamGains.τ Cert.AdamGains.sig) → Buf (Elt Bits) ℓ) : Prop :=
  True

def Pre_AdamGainsIdeal (m : (ℓ : Loc Cert.AdamGainsIdeal.nD Cert.AdamGainsIdeal.τ Cert.AdamGainsIdeal.sig) → Buf (Elt Ideal) ℓ) : Prop :=
  True

def Pre_AdamGainsRefIdeal (m : (ℓ : Loc Cert.AdamGainsRefIdeal.nD Cert.AdamGainsRefIdeal.τ Cert.AdamGainsRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GainSum (m : (ℓ : Loc Cert.GainSum.nD Cert.GainSum.τ Cert.GainSum.sig) → Buf (Elt Bits) ℓ) : Prop :=
  True

def Pre_GainSumIdeal (m : (ℓ : Loc Cert.GainSumIdeal.nD Cert.GainSumIdeal.τ Cert.GainSumIdeal.sig) → Buf (Elt Ideal) ℓ) : Prop :=
  True

def Pre_GainSumRefIdeal (m : (ℓ : Loc Cert.GainSumRefIdeal.nD Cert.GainSumRefIdeal.τ Cert.GainSumRefIdeal.sig) → Buf (Elt Ideal) ℓ) : Prop :=
  True

def Pre_AdamFfn1Out (m : (ℓ : Loc Cert.AdamFfn1Out.nD Cert.AdamFfn1Out.τ Cert.AdamFfn1Out.sig) → Buf (Elt Bits) ℓ) : Prop :=
  True

def Pre_AdamFfn1OutIdeal (m : (ℓ : Loc Cert.AdamFfn1OutIdeal.nD Cert.AdamFfn1OutIdeal.τ Cert.AdamFfn1OutIdeal.sig) → Buf (Elt Ideal) ℓ) : Prop :=
  True

def Pre_AdamFfn1OutRefIdeal (m : (ℓ : Loc Cert.AdamFfn1OutRefIdeal.nD Cert.AdamFfn1OutRefIdeal.τ Cert.AdamFfn1OutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamLatent (m : (ℓ : Loc Cert.AdamLatent.nD Cert.AdamLatent.τ Cert.AdamLatent.sig) → Buf (Elt Bits) ℓ) : Prop :=
  True

def Pre_AdamLatentIdeal (m : (ℓ : Loc Cert.AdamLatentIdeal.nD Cert.AdamLatentIdeal.τ Cert.AdamLatentIdeal.sig) → Buf (Elt Ideal) ℓ) : Prop :=
  True

def Pre_AdamLatentRefIdeal (m : (ℓ : Loc Cert.AdamLatentRefIdeal.nD Cert.AdamLatentRefIdeal.τ Cert.AdamLatentRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamQUp (m : (ℓ : Loc Cert.AdamQUp.nD Cert.AdamQUp.τ Cert.AdamQUp.sig) → Buf (Elt Bits) ℓ) : Prop :=
  True

def Pre_AdamQUpIdeal (m : (ℓ : Loc Cert.AdamQUpIdeal.nD Cert.AdamQUpIdeal.τ Cert.AdamQUpIdeal.sig) → Buf (Elt Ideal) ℓ) : Prop :=
  True

def Pre_AdamQUpRefIdeal (m : (ℓ : Loc Cert.AdamQUpRefIdeal.nD Cert.AdamQUpRefIdeal.τ Cert.AdamQUpRefIdeal.sig) → Buf (Elt Ideal) ℓ) : Prop :=
  True

def Pre_AdamKvUp (m : (ℓ : Loc Cert.AdamKvUp.nD Cert.AdamKvUp.τ Cert.AdamKvUp.sig) → Buf (Elt Bits) ℓ) : Prop :=
  True

def Pre_AdamKvUpIdeal (m : (ℓ : Loc Cert.AdamKvUpIdeal.nD Cert.AdamKvUpIdeal.τ Cert.AdamKvUpIdeal.sig) → Buf (Elt Ideal) ℓ) : Prop :=
  True

def Pre_AdamKvUpRefIdeal (m : (ℓ : Loc Cert.AdamKvUpRefIdeal.nD Cert.AdamKvUpRefIdeal.τ Cert.AdamKvUpRefIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdIdeal_pre_ffn_bwd_finite [hFfnBwdIdeal : Cert.FfnBwdIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_bwd_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3))
      ∧ r.2.sem = fun _ => 0)

def quiescent_FfnBwdRefIdeal_pre_ffn_bwd_finite [hFfnBwdRefIdeal : Cert.FfnBwdRefIdeal.Facts] [hPre_ffn_bwd_finite : Cert.Pre_ffn_bwd_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_bwd_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_FfnNormBwd [hFfnNormBwd : Cert.FfnNormBwd.Facts] : Prop :=
  ∀ (m : (ℓ : Loc Cert.FfnNormBwd.nD Cert.FfnNormBwd.τ Cert.FfnNormBwd.sig) → Buf (Elt Bits) ℓ) (g : Dev Cert.FfnNormBwd.nD → PrngReg), Pre_FfnNormBwd m →
    θ_run (Cert.FfnNormBwd.defs (F := Bits)) (onTc (τ := Cert.FfnNormBwd.τ) (Cert.FfnNormBwd.main (F := Bits))) ⟨m, fun _ => 0, g⟩ (fun r => (∀ c : Dev Cert.FfnNormBwd.nD,
      r.2.mem ((c.tc : Thread Cert.FfnNormBwd.nD Cert.FfnNormBwd.τ).loc Cert.FfnNormBwd.main_arg0) = m ((c.tc : Thread Cert.FfnNormBwd.nD Cert.FfnNormBwd.τ).loc Cert.FfnNormBwd.main_arg0)
      ∧ r.2.mem ((c.tc : Thread Cert.FfnNormBwd.nD Cert.FfnNormBwd.τ).loc Cert.FfnNormBwd.main_arg1) = m ((c.tc : Thread Cert.FfnNormBwd.nD Cert.FfnNormBwd.τ).loc Cert.FfnNormBwd.main_arg1)
      ∧ r.2.mem ((c.tc : Thread Cert.FfnNormBwd.nD Cert.FfnNormBwd.τ).loc Cert.FfnNormBwd.main_arg2) = m ((c.tc : Thread Cert.FfnNormBwd.nD Cert.FfnNormBwd.τ).loc Cert.FfnNormBwd.main_arg2)
      ∧ r.2.mem ((c.tc : Thread Cert.FfnNormBwd.nD Cert.FfnNormBwd.τ).loc Cert.FfnNormBwd.main_arg3) = m ((c.tc : Thread Cert.FfnNormBwd.nD Cert.FfnNormBwd.τ).loc Cert.FfnNormBwd.main_arg3)
      ∧ r.2.mem ((c.tc : Thread Cert.FfnNormBwd.nD Cert.FfnNormBwd.τ).loc Cert.FfnNormBwd.main_arg4) = m ((c.tc : Thread Cert.FfnNormBwd.nD Cert.FfnNormBwd.τ).loc Cert.FfnNormBwd.main_arg4)
      ∧ r.2.mem ((c.tc : Thread Cert.FfnNormBwd.nD Cert.FfnNormBwd.τ).loc Cert.FfnNormBwd.main_arg5) = m ((c.tc : Thread Cert.FfnNormBwd.nD Cert.FfnNormBwd.τ).loc Cert.FfnNormBwd.main_arg5))
      ∧ r.2.sem = fun _ => 0)

def quiescent_FfnNormBwdIdeal [hFfnNormBwdIdeal : Cert.FfnNormBwdIdeal.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg), Pre_FfnNormBwdIdeal m →
    θ_run (Cert.FfnNormBwdIdeal.defs (F := Ideal)) (onTc (τ := Cert.FfnNormBwdIdeal.τ) (Cert.FfnNormBwdIdeal.main (F := Ideal))) ⟨m, fun _ => 0, g⟩ (fun r => (∀ c : Dev Cert.FfnNormBwdIdeal.nD,
      r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
      ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
      ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
      ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
      ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
      ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5))
      ∧ r.2.sem = fun _ => 0)

def quiescent_FfnNormBwdIdeal_pre_ffn_norm_bwd_finite [hFfnNormBwdIdeal : Cert.FfnNormBwdIdeal.Facts] [hPre_ffn_norm_bwd_finite : Cert.Pre_ffn_norm_bwd_finite.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg), Pre_FfnNormBwdIdeal_ffn_norm_bwd_finite m →
    θ_run (Cert.FfnNormBwdIdeal.defs (F := Ideal)) (onTc (τ := Cert.FfnNormBwdIdeal.τ) (Cert.FfnNormBwdIdeal.main (F := Ideal))) ⟨m, fun _ => 0, g⟩ (fun r => (∀ c : Dev Cert.FfnNormBwdIdeal.nD,
      r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
      ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
      ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
      ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
      ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
      ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5))
      ∧ r.2.sem = fun _ => 0)

def quiescent_FfnNormBwdRefIdeal [hFfnNormBwdRefIdeal : Cert.FfnNormBwdRefIdeal.Facts] : Prop :=
  ∀ (m : (ℓ : Loc Cert.FfnNormBwdRefIdeal.nD Cert.FfnNormBwdRefIdeal.τ Cert.FfnNormBwdRefIdeal.sig) → Buf (Elt Ideal) ℓ) (g : Dev Cert.FfnNormBwdRefIdeal.nD → PrngReg), Pre_FfnNormBwdRefIdeal m →
    θ_run (Cert.FfnNormBwdRefIdeal.defs (F := Ideal)) (onTc (τ := Cert.FfnNormBwdRefIdeal.τ) (Cert.FfnNormBwdRefIdeal.main (F := Ideal))) ⟨m, fun _ => 0, g⟩ (fun r => (∀ c : Dev Cert.FfnNormBwdRefIdeal.nD,
      r.2.mem ((c.tc : Thread Cert.FfnNormBwdRefIdeal.nD Cert.FfnNormBwdRefIdeal.τ).loc Cert.FfnNormBwdRefIdeal.main_arg0) = m ((c.tc : Thread Cert.FfnNormBwdRefIdeal.nD Cert.FfnNormBwdRefIdeal.τ).loc Cert.FfnNormBwdRefIdeal.main_arg0)
      ∧ r.2.mem ((c.tc : Thread Cert.FfnNormBwdRefIdeal.nD Cert.FfnNormBwdRefIdeal.τ).loc Cert.FfnNormBwdRefIdeal.main_arg1) = m ((c.tc : Thread Cert.FfnNormBwdRefIdeal.nD Cert.FfnNormBwdRefIdeal.τ).loc Cert.FfnNormBwdRefIdeal.main_arg1)
      ∧ r.2.mem ((c.tc : Thread Cert.FfnNormBwdRefIdeal.nD Cert.FfnNormBwdRefIdeal.τ).loc Cert.FfnNormBwdRefIdeal.main_arg2) = m ((c.tc : Thread Cert.FfnNormBwdRefIdeal.nD Cert.FfnNormBwdRefIdeal.τ).loc Cert.FfnNormBwdRefIdeal.main_arg2)
      ∧ r.2.mem ((c.tc : Thread Cert.FfnNormBwdRefIdeal.nD Cert.FfnNormBwdRefIdeal.τ).loc Cert.FfnNormBwdRefIdeal.main_arg3) = m ((c.tc : Thread Cert.FfnNormBwdRefIdeal.nD Cert.FfnNormBwdRefIdeal.τ).loc Cert.FfnNormBwdRefIdeal.main_arg3)
      ∧ r.2.mem ((c.tc : Thread Cert.FfnNormBwdRefIdeal.nD Cert.FfnNormBwdRefIdeal.τ).loc Cert.FfnNormBwdRefIdeal.main_arg4) = m ((c.tc : Thread Cert.FfnNormBwdRefIdeal.nD Cert.FfnNormBwdRefIdeal.τ).loc Cert.FfnNormBwdRefIdeal.main_arg4)
      ∧ r.2.mem ((c.tc : Thread Cert.FfnNormBwdRefIdeal.nD Cert.FfnNormBwdRefIdeal.τ).loc Cert.FfnNormBwdRefIdeal.main_arg5) = m ((c.tc : Thread Cert.FfnNormBwdRefIdeal.nD Cert.FfnNormBwdRefIdeal.τ).loc Cert.FfnNormBwdRefIdeal.main_arg5))
      ∧ r.2.sem = fun _ => 0)

def quiescent_FfnNormBwdRefIdeal_pre_ffn_norm_bwd_finite [hFfnNormBwdRefIdeal : Cert.FfnNormBwdRefIdeal.Facts] [hPre_ffn_norm_bwd_finite : Cert.Pre_ffn_norm_bwd_finite.Facts] : Prop :=
  ∀ (m : (ℓ : Loc Cert.FfnNormBwdRefIdeal.nD Cert.FfnNormBwdRefIdeal.τ Cert.FfnNormBwdRefIdeal.sig) → Buf (Elt Ideal) ℓ) (g : Dev Cert.FfnNormBwdRefIdeal.nD → PrngReg), Pre_FfnNormBwdRefIdeal_ffn_norm_bwd_finite m →
    θ_run (Cert.FfnNormBwdRefIdeal.defs (F := Ideal)) (onTc (τ := Cert.FfnNormBwdRefIdeal.τ) (Cert.FfnNormBwdRefIdeal.main (F := Ideal))) ⟨m, fun _ => 0, g⟩ (fun r => (∀ c : Dev Cert.FfnNormBwdRefIdeal.nD,
      r.2.mem ((c.tc : Thread Cert.FfnNormBwdRefIdeal.nD Cert.FfnNormBwdRefIdeal.τ).loc Cert.FfnNormBwdRefIdeal.main_arg0) = m ((c.tc : Thread Cert.FfnNormBwdRefIdeal.nD Cert.FfnNormBwdRefIdeal.τ).loc Cert.FfnNormBwdRefIdeal.main_arg0)
      ∧ r.2.mem ((c.tc : Thread Cert.FfnNormBwdRefIdeal.nD Cert.FfnNormBwdRefIdeal.τ).loc Cert.FfnNormBwdRefIdeal.main_arg1) = m ((c.tc : Thread Cert.FfnNormBwdRefIdeal.nD Cert.FfnNormBwdRefIdeal.τ).loc Cert.FfnNormBwdRefIdeal.main_arg1)
      ∧ r.2.mem ((c.tc : Thread Cert.FfnNormBwdRefIdeal.nD Cert.FfnNormBwdRefIdeal.τ).loc Cert.FfnNormBwdRefIdeal.main_arg2) = m ((c.tc : Thread Cert.FfnNormBwdRefIdeal.nD Cert.FfnNormBwdRefIdeal.τ).loc Cert.FfnNormBwdRefIdeal.main_arg2)
      ∧ r.2.mem ((c.tc : Thread Cert.FfnNormBwdRefIdeal.nD Cert.FfnNormBwdRefIdeal.τ).loc Cert.FfnNormBwdRefIdeal.main_arg3) = m ((c.tc : Thread Cert.FfnNormBwdRefIdeal.nD Cert.FfnNormBwdRefIdeal.τ).loc Cert.FfnNormBwdRefIdeal.main_arg3)
      ∧ r.2.mem ((c.tc : Thread Cert.FfnNormBwdRefIdeal.nD Cert.FfnNormBwdRefIdeal.τ).loc Cert.FfnNormBwdRefIdeal.main_arg4) = m ((c.tc : Thread Cert.FfnNormBwdRefIdeal.nD Cert.FfnNormBwdRefIdeal.τ).loc Cert.FfnNormBwdRefIdeal.main_arg4)
      ∧ r.2.mem ((c.tc : Thread Cert.FfnNormBwdRefIdeal.nD Cert.FfnNormBwdRefIdeal.τ).loc Cert.FfnNormBwdRefIdeal.main_arg5) = m ((c.tc : Thread Cert.FfnNormBwdRefIdeal.nD Cert.FfnNormBwdRefIdeal.τ).loc Cert.FfnNormBwdRefIdeal.main_arg5))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5)
      ∧ r.2.mem ((c.tc : Thread Cert.MergeOut.nD Cert.MergeOut.τ).loc Cert.MergeOut.main_arg6) = m ((c.tc : Thread Cert.MergeOut.nD Cert.MergeOut.τ).loc Cert.MergeOut.main_arg6)
      ∧ r.2.mem ((c.tc : Thread Cert.MergeOut.nD Cert.MergeOut.τ).loc Cert.MergeOut.main_arg7) = m ((c.tc : Thread Cert.MergeOut.nD Cert.MergeOut.τ).loc Cert.MergeOut.main_arg7))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
      ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5)
      ∧ r.2.mem ((c.tc : Thread Cert.MergeOutRefIdeal.nD Cert.MergeOutRefIdeal.τ).loc Cert.MergeOutRefIdeal.main_arg6) = m ((c.tc : Thread Cert.MergeOutRefIdeal.nD Cert.MergeOutRefIdeal.τ).loc Cert.MergeOutRefIdeal.main_arg6)
      ∧ r.2.mem ((c.tc : Thread Cert.MergeOutRefIdeal.nD Cert.MergeOutRefIdeal.τ).loc Cert.MergeOutRefIdeal.main_arg7) = m ((c.tc : Thread Cert.MergeOutRefIdeal.nD Cert.MergeOutRefIdeal.τ).loc Cert.MergeOutRefIdeal.main_arg7))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_MixNormBwd [hMixNormBwd : Cert.MixNormBwd.Facts] : Prop :=
  ∀ (m : (ℓ : Loc Cert.MixNormBwd.nD Cert.MixNormBwd.τ Cert.MixNormBwd.sig) → Buf (Elt Bits) ℓ) (g : Dev Cert.MixNormBwd.nD → PrngReg), Pre_MixNormBwd m →
    θ_run (Cert.MixNormBwd.defs (F := Bits)) (onTc (τ := Cert.MixNormBwd.τ) (Cert.MixNormBwd.main (F := Bits))) ⟨m, fun _ => 0, g⟩ (fun r => (∀ c : Dev Cert.MixNormBwd.nD,
      r.2.mem ((c.tc : Thread Cert.MixNormBwd.nD Cert.MixNormBwd.τ).loc Cert.MixNormBwd.main_arg0) = m ((c.tc : Thread Cert.MixNormBwd.nD Cert.MixNormBwd.τ).loc Cert.MixNormBwd.main_arg0)
      ∧ r.2.mem ((c.tc : Thread Cert.MixNormBwd.nD Cert.MixNormBwd.τ).loc Cert.MixNormBwd.main_arg1) = m ((c.tc : Thread Cert.MixNormBwd.nD Cert.MixNormBwd.τ).loc Cert.MixNormBwd.main_arg1)
      ∧ r.2.mem ((c.tc : Thread Cert.MixNormBwd.nD Cert.MixNormBwd.τ).loc Cert.MixNormBwd.main_arg2) = m ((c.tc : Thread Cert.MixNormBwd.nD Cert.MixNormBwd.τ).loc Cert.MixNormBwd.main_arg2)
      ∧ r.2.mem ((c.tc : Thread Cert.MixNormBwd.nD Cert.MixNormBwd.τ).loc Cert.MixNormBwd.main_arg3) = m ((c.tc : Thread Cert.MixNormBwd.nD Cert.MixNormBwd.τ).loc Cert.MixNormBwd.main_arg3)
      ∧ r.2.mem ((c.tc : Thread Cert.MixNormBwd.nD Cert.MixNormBwd.τ).loc Cert.MixNormBwd.main_arg4) = m ((c.tc : Thread Cert.MixNormBwd.nD Cert.MixNormBwd.τ).loc Cert.MixNormBwd.main_arg4))
      ∧ r.2.sem = fun _ => 0)

def quiescent_MixNormBwdIdeal [hMixNormBwdIdeal : Cert.MixNormBwdIdeal.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg), Pre_MixNormBwdIdeal m →
    θ_run (Cert.MixNormBwdIdeal.defs (F := Ideal)) (onTc (τ := Cert.MixNormBwdIdeal.τ) (Cert.MixNormBwdIdeal.main (F := Ideal))) ⟨m, fun _ => 0, g⟩ (fun r => (∀ c : Dev Cert.MixNormBwdIdeal.nD,
      r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
      ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
      ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
      ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
      ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4))
      ∧ r.2.sem = fun _ => 0)

def quiescent_MixNormBwdIdeal_pre_mix_norm_bwd_finite [hMixNormBwdIdeal : Cert.MixNormBwdIdeal.Facts] [hPre_mix_norm_bwd_finite : Cert.Pre_mix_norm_bwd_finite.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg), Pre_MixNormBwdIdeal_mix_norm_bwd_finite m →
    θ_run (Cert.MixNormBwdIdeal.defs (F := Ideal)) (onTc (τ := Cert.MixNormBwdIdeal.τ) (Cert.MixNormBwdIdeal.main (F := Ideal))) ⟨m, fun _ => 0, g⟩ (fun r => (∀ c : Dev Cert.MixNormBwdIdeal.nD,
      r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
      ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
      ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
      ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
      ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4))
      ∧ r.2.sem = fun _ => 0)

def quiescent_MixNormBwdRefIdeal [hMixNormBwdRefIdeal : Cert.MixNormBwdRefIdeal.Facts] : Prop :=
  ∀ (m : (ℓ : Loc Cert.MixNormBwdRefIdeal.nD Cert.MixNormBwdRefIdeal.τ Cert.MixNormBwdRefIdeal.sig) → Buf (Elt Ideal) ℓ) (g : Dev Cert.MixNormBwdRefIdeal.nD → PrngReg), Pre_MixNormBwdRefIdeal m →
    θ_run (Cert.MixNormBwdRefIdeal.defs (F := Ideal)) (onTc (τ := Cert.MixNormBwdRefIdeal.τ) (Cert.MixNormBwdRefIdeal.main (F := Ideal))) ⟨m, fun _ => 0, g⟩ (fun r => (∀ c : Dev Cert.MixNormBwdRefIdeal.nD,
      r.2.mem ((c.tc : Thread Cert.MixNormBwdRefIdeal.nD Cert.MixNormBwdRefIdeal.τ).loc Cert.MixNormBwdRefIdeal.main_arg0) = m ((c.tc : Thread Cert.MixNormBwdRefIdeal.nD Cert.MixNormBwdRefIdeal.τ).loc Cert.MixNormBwdRefIdeal.main_arg0)
      ∧ r.2.mem ((c.tc : Thread Cert.MixNormBwdRefIdeal.nD Cert.MixNormBwdRefIdeal.τ).loc Cert.MixNormBwdRefIdeal.main_arg1) = m ((c.tc : Thread Cert.MixNormBwdRefIdeal.nD Cert.MixNormBwdRefIdeal.τ).loc Cert.MixNormBwdRefIdeal.main_arg1)
      ∧ r.2.mem ((c.tc : Thread Cert.MixNormBwdRefIdeal.nD Cert.MixNormBwdRefIdeal.τ).loc Cert.MixNormBwdRefIdeal.main_arg2) = m ((c.tc : Thread Cert.MixNormBwdRefIdeal.nD Cert.MixNormBwdRefIdeal.τ).loc Cert.MixNormBwdRefIdeal.main_arg2)
      ∧ r.2.mem ((c.tc : Thread Cert.MixNormBwdRefIdeal.nD Cert.MixNormBwdRefIdeal.τ).loc Cert.MixNormBwdRefIdeal.main_arg3) = m ((c.tc : Thread Cert.MixNormBwdRefIdeal.nD Cert.MixNormBwdRefIdeal.τ).loc Cert.MixNormBwdRefIdeal.main_arg3)
      ∧ r.2.mem ((c.tc : Thread Cert.MixNormBwdRefIdeal.nD Cert.MixNormBwdRefIdeal.τ).loc Cert.MixNormBwdRefIdeal.main_arg4) = m ((c.tc : Thread Cert.MixNormBwdRefIdeal.nD Cert.MixNormBwdRefIdeal.τ).loc Cert.MixNormBwdRefIdeal.main_arg4))
      ∧ r.2.sem = fun _ => 0)

def quiescent_MixNormBwdRefIdeal_pre_mix_norm_bwd_finite [hMixNormBwdRefIdeal : Cert.MixNormBwdRefIdeal.Facts] [hPre_mix_norm_bwd_finite : Cert.Pre_mix_norm_bwd_finite.Facts] : Prop :=
  ∀ (m : (ℓ : Loc Cert.MixNormBwdRefIdeal.nD Cert.MixNormBwdRefIdeal.τ Cert.MixNormBwdRefIdeal.sig) → Buf (Elt Ideal) ℓ) (g : Dev Cert.MixNormBwdRefIdeal.nD → PrngReg), Pre_MixNormBwdRefIdeal_mix_norm_bwd_finite m →
    θ_run (Cert.MixNormBwdRefIdeal.defs (F := Ideal)) (onTc (τ := Cert.MixNormBwdRefIdeal.τ) (Cert.MixNormBwdRefIdeal.main (F := Ideal))) ⟨m, fun _ => 0, g⟩ (fun r => (∀ c : Dev Cert.MixNormBwdRefIdeal.nD,
      r.2.mem ((c.tc : Thread Cert.MixNormBwdRefIdeal.nD Cert.MixNormBwdRefIdeal.τ).loc Cert.MixNormBwdRefIdeal.main_arg0) = m ((c.tc : Thread Cert.MixNormBwdRefIdeal.nD Cert.MixNormBwdRefIdeal.τ).loc Cert.MixNormBwdRefIdeal.main_arg0)
      ∧ r.2.mem ((c.tc : Thread Cert.MixNormBwdRefIdeal.nD Cert.MixNormBwdRefIdeal.τ).loc Cert.MixNormBwdRefIdeal.main_arg1) = m ((c.tc : Thread Cert.MixNormBwdRefIdeal.nD Cert.MixNormBwdRefIdeal.τ).loc Cert.MixNormBwdRefIdeal.main_arg1)
      ∧ r.2.mem ((c.tc : Thread Cert.MixNormBwdRefIdeal.nD Cert.MixNormBwdRefIdeal.τ).loc Cert.MixNormBwdRefIdeal.main_arg2) = m ((c.tc : Thread Cert.MixNormBwdRefIdeal.nD Cert.MixNormBwdRefIdeal.τ).loc Cert.MixNormBwdRefIdeal.main_arg2)
      ∧ r.2.mem ((c.tc : Thread Cert.MixNormBwdRefIdeal.nD Cert.MixNormBwdRefIdeal.τ).loc Cert.MixNormBwdRefIdeal.main_arg3) = m ((c.tc : Thread Cert.MixNormBwdRefIdeal.nD Cert.MixNormBwdRefIdeal.τ).loc Cert.MixNormBwdRefIdeal.main_arg3)
      ∧ r.2.mem ((c.tc : Thread Cert.MixNormBwdRefIdeal.nD Cert.MixNormBwdRefIdeal.τ).loc Cert.MixNormBwdRefIdeal.main_arg4) = m ((c.tc : Thread Cert.MixNormBwdRefIdeal.nD Cert.MixNormBwdRefIdeal.τ).loc Cert.MixNormBwdRefIdeal.main_arg4))
      ∧ r.2.sem = fun _ => 0)

def quiescent_DwMix [hDwMix : Cert.DwMix.Facts] : Prop :=
  ∀ (m : (ℓ : Loc Cert.DwMix.nD Cert.DwMix.τ Cert.DwMix.sig) → Buf (Elt Bits) ℓ) (g : Dev Cert.DwMix.nD → PrngReg), Pre_DwMix m →
    θ_run (Cert.DwMix.defs (F := Bits)) (onTc (τ := Cert.DwMix.τ) (Cert.DwMix.main (F := Bits))) ⟨m, fun _ => 0, g⟩ (fun r => (∀ c : Dev Cert.DwMix.nD,
      r.2.mem ((c.tc : Thread Cert.DwMix.nD Cert.DwMix.τ).loc Cert.DwMix.main_arg0) = m ((c.tc : Thread Cert.DwMix.nD Cert.DwMix.τ).loc Cert.DwMix.main_arg0)
      ∧ r.2.mem ((c.tc : Thread Cert.DwMix.nD Cert.DwMix.τ).loc Cert.DwMix.main_arg1) = m ((c.tc : Thread Cert.DwMix.nD Cert.DwMix.τ).loc Cert.DwMix.main_arg1))
      ∧ r.2.sem = fun _ => 0)

def quiescent_DwMixIdeal [hDwMixIdeal : Cert.DwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg), Pre_DwMixIdeal m →
    θ_run (Cert.DwMixIdeal.defs (F := Ideal)) (onTc (τ := Cert.DwMixIdeal.τ) (Cert.DwMixIdeal.main (F := Ideal))) ⟨m, fun _ => 0, g⟩ (fun r => (∀ c : Dev Cert.DwMixIdeal.nD,
      r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
      ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ r.2.sem = fun _ => 0)

def quiescent_DwMixRefIdeal [hDwMixRefIdeal : Cert.DwMixRefIdeal.Facts] : Prop :=
  ∀ (m : (ℓ : Loc Cert.DwMixRefIdeal.nD Cert.DwMixRefIdeal.τ Cert.DwMixRefIdeal.sig) → Buf (Elt Ideal) ℓ) (g : Dev Cert.DwMixRefIdeal.nD → PrngReg), Pre_DwMixRefIdeal m →
    θ_run (Cert.DwMixRefIdeal.defs (F := Ideal)) (onTc (τ := Cert.DwMixRefIdeal.τ) (Cert.DwMixRefIdeal.main (F := Ideal))) ⟨m, fun _ => 0, g⟩ (fun r => (∀ c : Dev Cert.DwMixRefIdeal.nD,
      r.2.mem ((c.tc : Thread Cert.DwMixRefIdeal.nD Cert.DwMixRefIdeal.τ).loc Cert.DwMixRefIdeal.main_arg0) = m ((c.tc : Thread Cert.DwMixRefIdeal.nD Cert.DwMixRefIdeal.τ).loc Cert.DwMixRefIdeal.main_arg0)
      ∧ r.2.mem ((c.tc : Thread Cert.DwMixRefIdeal.nD Cert.DwMixRefIdeal.τ).loc Cert.DwMixRefIdeal.main_arg1) = m ((c.tc : Thread Cert.DwMixRefIdeal.nD Cert.DwMixRefIdeal.τ).loc Cert.DwMixRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjRefIdeal [hDwProjRefIdeal : Cert.DwProjRefIdeal.Facts] : Prop :=
  ∀ (m : (ℓ : Loc Cert.DwProjRefIdeal.nD Cert.DwProjRefIdeal.τ Cert.DwProjRefIdeal.sig) → Buf (Elt Ideal) ℓ) (g : Dev Cert.DwProjRefIdeal.nD → PrngReg), Pre_DwProjRefIdeal m →
    θ_run (Cert.DwProjRefIdeal.defs (F := Ideal)) (onTc (τ := Cert.DwProjRefIdeal.τ) (Cert.DwProjRefIdeal.main (F := Ideal))) ⟨m, fun _ => 0, g⟩ (fun r => (∀ c : Dev Cert.DwProjRefIdeal.nD,
      r.2.mem ((c.tc : Thread Cert.DwProjRefIdeal.nD Cert.DwProjRefIdeal.τ).loc Cert.DwProjRefIdeal.main_arg0) = m ((c.tc : Thread Cert.DwProjRefIdeal.nD Cert.DwProjRefIdeal.τ).loc Cert.DwProjRefIdeal.main_arg0)
      ∧ r.2.mem ((c.tc : Thread Cert.DwProjRefIdeal.nD Cert.DwProjRefIdeal.τ).loc Cert.DwProjRefIdeal.main_arg1) = m ((c.tc : Thread Cert.DwProjRefIdeal.nD Cert.DwProjRefIdeal.τ).loc Cert.DwProjRefIdeal.main_arg1))
      ∧ r.2.sem = fun _ => 0)

def quiescent_AdamGains [hAdamGains : Cert.AdamGains.Facts] : Prop :=
  ∀ (m : (ℓ : Loc Cert.AdamGains.nD Cert.AdamGains.τ Cert.AdamGains.sig) → Buf (Elt Bits) ℓ) (g : Dev Cert.AdamGains.nD → PrngReg), Pre_AdamGains m →
    θ_run (Cert.AdamGains.defs (F := Bits)) (onTc (τ := Cert.AdamGains.τ) (Cert.AdamGains.main (F := Bits))) ⟨m, fun _ => 0, g⟩ (fun r => (∀ c : Dev Cert.AdamGains.nD,
      r.2.mem ((c.tc : Thread Cert.AdamGains.nD Cert.AdamGains.τ).loc Cert.AdamGains.main_arg0) = m ((c.tc : Thread Cert.AdamGains.nD Cert.AdamGains.τ).loc Cert.AdamGains.main_arg0)
      ∧ r.2.mem ((c.tc : Thread Cert.AdamGains.nD Cert.AdamGains.τ).loc Cert.AdamGains.main_arg1) = m ((c.tc : Thread Cert.AdamGains.nD Cert.AdamGains.τ).loc Cert.AdamGains.main_arg1)
      ∧ r.2.mem ((c.tc : Thread Cert.AdamGains.nD Cert.AdamGains.τ).loc Cert.AdamGains.main_arg2) = m ((c.tc : Thread Cert.AdamGains.nD Cert.AdamGains.τ).loc Cert.AdamGains.main_arg2)
      ∧ r.2.mem ((c.tc : Thread Cert.AdamGains.nD Cert.AdamGains.τ).loc Cert.AdamGains.main_arg3) = m ((c.tc : Thread Cert.AdamGains.nD Cert.AdamGains.τ).loc Cert.AdamGains.main_arg3))
      ∧ r.2.sem = fun _ => 0)

def quiescent_AdamGainsIdeal [hAdamGainsIdeal : Cert.AdamGainsIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg), Pre_AdamGainsIdeal m →
    θ_run (Cert.AdamGainsIdeal.defs (F := Ideal)) (onTc (τ := Cert.AdamGainsIdeal.τ) (Cert.AdamGainsIdeal.main (F := Ideal))) ⟨m, fun _ => 0, g⟩ (fun r => (∀ c : Dev Cert.AdamGainsIdeal.nD,
      r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
      ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
      ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
      ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ r.2.sem = fun _ => 0)

def quiescent_AdamGainsRefIdeal [hAdamGainsRefIdeal : Cert.AdamGainsRefIdeal.Facts] : Prop :=
  ∀ (m : (ℓ : Loc Cert.AdamGainsRefIdeal.nD Cert.AdamGainsRefIdeal.τ Cert.AdamGainsRefIdeal.sig) → Buf (Elt Ideal) ℓ) (g : Dev Cert.AdamGainsRefIdeal.nD → PrngReg), Pre_AdamGainsRefIdeal m →
    θ_run (Cert.AdamGainsRefIdeal.defs (F := Ideal)) (onTc (τ := Cert.AdamGainsRefIdeal.τ) (Cert.AdamGainsRefIdeal.main (F := Ideal))) ⟨m, fun _ => 0, g⟩ (fun r => (∀ c : Dev Cert.AdamGainsRefIdeal.nD,
      r.2.mem ((c.tc : Thread Cert.AdamGainsRefIdeal.nD Cert.AdamGainsRefIdeal.τ).loc Cert.AdamGainsRefIdeal.main_arg0) = m ((c.tc : Thread Cert.AdamGainsRefIdeal.nD Cert.AdamGainsRefIdeal.τ).loc Cert.AdamGainsRefIdeal.main_arg0)
      ∧ r.2.mem ((c.tc : Thread Cert.AdamGainsRefIdeal.nD Cert.AdamGainsRefIdeal.τ).loc Cert.AdamGainsRefIdeal.main_arg1) = m ((c.tc : Thread Cert.AdamGainsRefIdeal.nD Cert.AdamGainsRefIdeal.τ).loc Cert.AdamGainsRefIdeal.main_arg1)
      ∧ r.2.mem ((c.tc : Thread Cert.AdamGainsRefIdeal.nD Cert.AdamGainsRefIdeal.τ).loc Cert.AdamGainsRefIdeal.main_arg2) = m ((c.tc : Thread Cert.AdamGainsRefIdeal.nD Cert.AdamGainsRefIdeal.τ).loc Cert.AdamGainsRefIdeal.main_arg2)
      ∧ r.2.mem ((c.tc : Thread Cert.AdamGainsRefIdeal.nD Cert.AdamGainsRefIdeal.τ).loc Cert.AdamGainsRefIdeal.main_arg3) = m ((c.tc : Thread Cert.AdamGainsRefIdeal.nD Cert.AdamGainsRefIdeal.τ).loc Cert.AdamGainsRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_GainSum [hGainSum : Cert.GainSum.Facts] : Prop :=
  ∀ (m : (ℓ : Loc Cert.GainSum.nD Cert.GainSum.τ Cert.GainSum.sig) → Buf (Elt Bits) ℓ) (g : Dev Cert.GainSum.nD → PrngReg), Pre_GainSum m →
    θ_run (Cert.GainSum.defs (F := Bits)) (onTc (τ := Cert.GainSum.τ) (Cert.GainSum.main (F := Bits))) ⟨m, fun _ => 0, g⟩ (fun r => (∀ c : Dev Cert.GainSum.nD,
      r.2.mem ((c.tc : Thread Cert.GainSum.nD Cert.GainSum.τ).loc Cert.GainSum.main_arg0) = m ((c.tc : Thread Cert.GainSum.nD Cert.GainSum.τ).loc Cert.GainSum.main_arg0))
      ∧ r.2.sem = fun _ => 0)

def quiescent_GainSumIdeal [hGainSumIdeal : Cert.GainSumIdeal.Facts] : Prop :=
  ∀ (m : (ℓ : Loc Cert.GainSumIdeal.nD Cert.GainSumIdeal.τ Cert.GainSumIdeal.sig) → Buf (Elt Ideal) ℓ) (g : Dev Cert.GainSumIdeal.nD → PrngReg), Pre_GainSumIdeal m →
    θ_run (Cert.GainSumIdeal.defs (F := Ideal)) (onTc (τ := Cert.GainSumIdeal.τ) (Cert.GainSumIdeal.main (F := Ideal))) ⟨m, fun _ => 0, g⟩ (fun r => (∀ c : Dev Cert.GainSumIdeal.nD,
      r.2.mem ((c.tc : Thread Cert.GainSumIdeal.nD Cert.GainSumIdeal.τ).loc Cert.GainSumIdeal.main_arg0) = m ((c.tc : Thread Cert.GainSumIdeal.nD Cert.GainSumIdeal.τ).loc Cert.GainSumIdeal.main_arg0))
      ∧ r.2.sem = fun _ => 0)

def quiescent_GainSumRefIdeal [hGainSumRefIdeal : Cert.GainSumRefIdeal.Facts] : Prop :=
  ∀ (m : (ℓ : Loc Cert.GainSumRefIdeal.nD Cert.GainSumRefIdeal.τ Cert.GainSumRefIdeal.sig) → Buf (Elt Ideal) ℓ) (g : Dev Cert.GainSumRefIdeal.nD → PrngReg), Pre_GainSumRefIdeal m →
    θ_run (Cert.GainSumRefIdeal.defs (F := Ideal)) (onTc (τ := Cert.GainSumRefIdeal.τ) (Cert.GainSumRefIdeal.main (F := Ideal))) ⟨m, fun _ => 0, g⟩ (fun r => (∀ c : Dev Cert.GainSumRefIdeal.nD,
      r.2.mem ((c.tc : Thread Cert.GainSumRefIdeal.nD Cert.GainSumRefIdeal.τ).loc Cert.GainSumRefIdeal.main_arg0) = m ((c.tc : Thread Cert.GainSumRefIdeal.nD Cert.GainSumRefIdeal.τ).loc Cert.GainSumRefIdeal.main_arg0))
      ∧ r.2.sem = fun _ => 0)

def quiescent_AdamFfn1Out [hAdamFfn1Out : Cert.AdamFfn1Out.Facts] : Prop :=
  ∀ (m : (ℓ : Loc Cert.AdamFfn1Out.nD Cert.AdamFfn1Out.τ Cert.AdamFfn1Out.sig) → Buf (Elt Bits) ℓ) (g : Dev Cert.AdamFfn1Out.nD → PrngReg), Pre_AdamFfn1Out m →
    θ_run (Cert.AdamFfn1Out.defs (F := Bits)) (onTc (τ := Cert.AdamFfn1Out.τ) (Cert.AdamFfn1Out.main (F := Bits))) ⟨m, fun _ => 0, g⟩ (fun r => (∀ c : Dev Cert.AdamFfn1Out.nD,
      r.2.mem ((c.tc : Thread Cert.AdamFfn1Out.nD Cert.AdamFfn1Out.τ).loc Cert.AdamFfn1Out.main_arg0) = m ((c.tc : Thread Cert.AdamFfn1Out.nD Cert.AdamFfn1Out.τ).loc Cert.AdamFfn1Out.main_arg0)
      ∧ r.2.mem ((c.tc : Thread Cert.AdamFfn1Out.nD Cert.AdamFfn1Out.τ).loc Cert.AdamFfn1Out.main_arg1) = m ((c.tc : Thread Cert.AdamFfn1Out.nD Cert.AdamFfn1Out.τ).loc Cert.AdamFfn1Out.main_arg1)
      ∧ r.2.mem ((c.tc : Thread Cert.AdamFfn1Out.nD Cert.AdamFfn1Out.τ).loc Cert.AdamFfn1Out.main_arg2) = m ((c.tc : Thread Cert.AdamFfn1Out.nD Cert.AdamFfn1Out.τ).loc Cert.AdamFfn1Out.main_arg2)
      ∧ r.2.mem ((c.tc : Thread Cert.AdamFfn1Out.nD Cert.AdamFfn1Out.τ).loc Cert.AdamFfn1Out.main_arg3) = m ((c.tc : Thread Cert.AdamFfn1Out.nD Cert.AdamFfn1Out.τ).loc Cert.AdamFfn1Out.main_arg3))
      ∧ r.2.sem = fun _ => 0)

def quiescent_AdamFfn1OutIdeal [hAdamFfn1OutIdeal : Cert.AdamFfn1OutIdeal.Facts] : Prop :=
  ∀ (m : (ℓ : Loc Cert.AdamFfn1OutIdeal.nD Cert.AdamFfn1OutIdeal.τ Cert.AdamFfn1OutIdeal.sig) → Buf (Elt Ideal) ℓ) (g : Dev Cert.AdamFfn1OutIdeal.nD → PrngReg), Pre_AdamFfn1OutIdeal m →
    θ_run (Cert.AdamFfn1OutIdeal.defs (F := Ideal)) (onTc (τ := Cert.AdamFfn1OutIdeal.τ) (Cert.AdamFfn1OutIdeal.main (F := Ideal))) ⟨m, fun _ => 0, g⟩ (fun r => (∀ c : Dev Cert.AdamFfn1OutIdeal.nD,
      r.2.mem ((c.tc : Thread Cert.AdamFfn1OutIdeal.nD Cert.AdamFfn1OutIdeal.τ).loc Cert.AdamFfn1OutIdeal.main_arg0) = m ((c.tc : Thread Cert.AdamFfn1OutIdeal.nD Cert.AdamFfn1OutIdeal.τ).loc Cert.AdamFfn1OutIdeal.main_arg0)
      ∧ r.2.mem ((c.tc : Thread Cert.AdamFfn1OutIdeal.nD Cert.AdamFfn1OutIdeal.τ).loc Cert.AdamFfn1OutIdeal.main_arg1) = m ((c.tc : Thread Cert.AdamFfn1OutIdeal.nD Cert.AdamFfn1OutIdeal.τ).loc Cert.AdamFfn1OutIdeal.main_arg1)
      ∧ r.2.mem ((c.tc : Thread Cert.AdamFfn1OutIdeal.nD Cert.AdamFfn1OutIdeal.τ).loc Cert.AdamFfn1OutIdeal.main_arg2) = m ((c.tc : Thread Cert.AdamFfn1OutIdeal.nD Cert.AdamFfn1OutIdeal.τ).loc Cert.AdamFfn1OutIdeal.main_arg2)
      ∧ r.2.mem ((c.tc : Thread Cert.AdamFfn1OutIdeal.nD Cert.AdamFfn1OutIdeal.τ).loc Cert.AdamFfn1OutIdeal.main_arg3) = m ((c.tc : Thread Cert.AdamFfn1OutIdeal.nD Cert.AdamFfn1OutIdeal.τ).loc Cert.AdamFfn1OutIdeal.main_arg3))
      ∧ r.2.sem = fun _ => 0)

def quiescent_AdamFfn1OutRefIdeal [hAdamFfn1OutRefIdeal : Cert.AdamFfn1OutRefIdeal.Facts] : Prop :=
  ∀ (m : (ℓ : Loc Cert.AdamFfn1OutRefIdeal.nD Cert.AdamFfn1OutRefIdeal.τ Cert.AdamFfn1OutRefIdeal.sig) → Buf (Elt Ideal) ℓ) (g : Dev Cert.AdamFfn1OutRefIdeal.nD → PrngReg), Pre_AdamFfn1OutRefIdeal m →
    θ_run (Cert.AdamFfn1OutRefIdeal.defs (F := Ideal)) (onTc (τ := Cert.AdamFfn1OutRefIdeal.τ) (Cert.AdamFfn1OutRefIdeal.main (F := Ideal))) ⟨m, fun _ => 0, g⟩ (fun r => (∀ c : Dev Cert.AdamFfn1OutRefIdeal.nD,
      r.2.mem ((c.tc : Thread Cert.AdamFfn1OutRefIdeal.nD Cert.AdamFfn1OutRefIdeal.τ).loc Cert.AdamFfn1OutRefIdeal.main_arg0) = m ((c.tc : Thread Cert.AdamFfn1OutRefIdeal.nD Cert.AdamFfn1OutRefIdeal.τ).loc Cert.AdamFfn1OutRefIdeal.main_arg0)
      ∧ r.2.mem ((c.tc : Thread Cert.AdamFfn1OutRefIdeal.nD Cert.AdamFfn1OutRefIdeal.τ).loc Cert.AdamFfn1OutRefIdeal.main_arg1) = m ((c.tc : Thread Cert.AdamFfn1OutRefIdeal.nD Cert.AdamFfn1OutRefIdeal.τ).loc Cert.AdamFfn1OutRefIdeal.main_arg1)
      ∧ r.2.mem ((c.tc : Thread Cert.AdamFfn1OutRefIdeal.nD Cert.AdamFfn1OutRefIdeal.τ).loc Cert.AdamFfn1OutRefIdeal.main_arg2) = m ((c.tc : Thread Cert.AdamFfn1OutRefIdeal.nD Cert.AdamFfn1OutRefIdeal.τ).loc Cert.AdamFfn1OutRefIdeal.main_arg2)
      ∧ r.2.mem ((c.tc : Thread Cert.AdamFfn1OutRefIdeal.nD Cert.AdamFfn1OutRefIdeal.τ).loc Cert.AdamFfn1OutRefIdeal.main_arg3) = m ((c.tc : Thread Cert.AdamFfn1OutRefIdeal.nD Cert.AdamFfn1OutRefIdeal.τ).loc Cert.AdamFfn1OutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamLatent [hAdamLatent : Cert.AdamLatent.Facts] : Prop :=
  ∀ (m : (ℓ : Loc Cert.AdamLatent.nD Cert.AdamLatent.τ Cert.AdamLatent.sig) → Buf (Elt Bits) ℓ) (g : Dev Cert.AdamLatent.nD → PrngReg), Pre_AdamLatent m →
    θ_run (Cert.AdamLatent.defs (F := Bits)) (onTc (τ := Cert.AdamLatent.τ) (Cert.AdamLatent.main (F := Bits))) ⟨m, fun _ => 0, g⟩ (fun r => (∀ c : Dev Cert.AdamLatent.nD,
      r.2.mem ((c.tc : Thread Cert.AdamLatent.nD Cert.AdamLatent.τ).loc Cert.AdamLatent.main_arg0) = m ((c.tc : Thread Cert.AdamLatent.nD Cert.AdamLatent.τ).loc Cert.AdamLatent.main_arg0)
      ∧ r.2.mem ((c.tc : Thread Cert.AdamLatent.nD Cert.AdamLatent.τ).loc Cert.AdamLatent.main_arg1) = m ((c.tc : Thread Cert.AdamLatent.nD Cert.AdamLatent.τ).loc Cert.AdamLatent.main_arg1)
      ∧ r.2.mem ((c.tc : Thread Cert.AdamLatent.nD Cert.AdamLatent.τ).loc Cert.AdamLatent.main_arg2) = m ((c.tc : Thread Cert.AdamLatent.nD Cert.AdamLatent.τ).loc Cert.AdamLatent.main_arg2)
      ∧ r.2.mem ((c.tc : Thread Cert.AdamLatent.nD Cert.AdamLatent.τ).loc Cert.AdamLatent.main_arg3) = m ((c.tc : Thread Cert.AdamLatent.nD Cert.AdamLatent.τ).loc Cert.AdamLatent.main_arg3))
      ∧ r.2.sem = fun _ => 0)

def quiescent_AdamLatentIdeal [hAdamLatentIdeal : Cert.AdamLatentIdeal.Facts] : Prop :=
  ∀ (m : (ℓ : Loc Cert.AdamLatentIdeal.nD Cert.AdamLatentIdeal.τ Cert.AdamLatentIdeal.sig) → Buf (Elt Ideal) ℓ) (g : Dev Cert.AdamLatentIdeal.nD → PrngReg), Pre_AdamLatentIdeal m →
    θ_run (Cert.AdamLatentIdeal.defs (F := Ideal)) (onTc (τ := Cert.AdamLatentIdeal.τ) (Cert.AdamLatentIdeal.main (F := Ideal))) ⟨m, fun _ => 0, g⟩ (fun r => (∀ c : Dev Cert.AdamLatentIdeal.nD,
      r.2.mem ((c.tc : Thread Cert.AdamLatentIdeal.nD Cert.AdamLatentIdeal.τ).loc Cert.AdamLatentIdeal.main_arg0) = m ((c.tc : Thread Cert.AdamLatentIdeal.nD Cert.AdamLatentIdeal.τ).loc Cert.AdamLatentIdeal.main_arg0)
      ∧ r.2.mem ((c.tc : Thread Cert.AdamLatentIdeal.nD Cert.AdamLatentIdeal.τ).loc Cert.AdamLatentIdeal.main_arg1) = m ((c.tc : Thread Cert.AdamLatentIdeal.nD Cert.AdamLatentIdeal.τ).loc Cert.AdamLatentIdeal.main_arg1)
      ∧ r.2.mem ((c.tc : Thread Cert.AdamLatentIdeal.nD Cert.AdamLatentIdeal.τ).loc Cert.AdamLatentIdeal.main_arg2) = m ((c.tc : Thread Cert.AdamLatentIdeal.nD Cert.AdamLatentIdeal.τ).loc Cert.AdamLatentIdeal.main_arg2)
      ∧ r.2.mem ((c.tc : Thread Cert.AdamLatentIdeal.nD Cert.AdamLatentIdeal.τ).loc Cert.AdamLatentIdeal.main_arg3) = m ((c.tc : Thread Cert.AdamLatentIdeal.nD Cert.AdamLatentIdeal.τ).loc Cert.AdamLatentIdeal.main_arg3))
      ∧ r.2.sem = fun _ => 0)

def quiescent_AdamLatentRefIdeal [hAdamLatentRefIdeal : Cert.AdamLatentRefIdeal.Facts] : Prop :=
  ∀ (m : (ℓ : Loc Cert.AdamLatentRefIdeal.nD Cert.AdamLatentRefIdeal.τ Cert.AdamLatentRefIdeal.sig) → Buf (Elt Ideal) ℓ) (g : Dev Cert.AdamLatentRefIdeal.nD → PrngReg), Pre_AdamLatentRefIdeal m →
    θ_run (Cert.AdamLatentRefIdeal.defs (F := Ideal)) (onTc (τ := Cert.AdamLatentRefIdeal.τ) (Cert.AdamLatentRefIdeal.main (F := Ideal))) ⟨m, fun _ => 0, g⟩ (fun r => (∀ c : Dev Cert.AdamLatentRefIdeal.nD,
      r.2.mem ((c.tc : Thread Cert.AdamLatentRefIdeal.nD Cert.AdamLatentRefIdeal.τ).loc Cert.AdamLatentRefIdeal.main_arg0) = m ((c.tc : Thread Cert.AdamLatentRefIdeal.nD Cert.AdamLatentRefIdeal.τ).loc Cert.AdamLatentRefIdeal.main_arg0)
      ∧ r.2.mem ((c.tc : Thread Cert.AdamLatentRefIdeal.nD Cert.AdamLatentRefIdeal.τ).loc Cert.AdamLatentRefIdeal.main_arg1) = m ((c.tc : Thread Cert.AdamLatentRefIdeal.nD Cert.AdamLatentRefIdeal.τ).loc Cert.AdamLatentRefIdeal.main_arg1)
      ∧ r.2.mem ((c.tc : Thread Cert.AdamLatentRefIdeal.nD Cert.AdamLatentRefIdeal.τ).loc Cert.AdamLatentRefIdeal.main_arg2) = m ((c.tc : Thread Cert.AdamLatentRefIdeal.nD Cert.AdamLatentRefIdeal.τ).loc Cert.AdamLatentRefIdeal.main_arg2)
      ∧ r.2.mem ((c.tc : Thread Cert.AdamLatentRefIdeal.nD Cert.AdamLatentRefIdeal.τ).loc Cert.AdamLatentRefIdeal.main_arg3) = m ((c.tc : Thread Cert.AdamLatentRefIdeal.nD Cert.AdamLatentRefIdeal.τ).loc Cert.AdamLatentRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamQUp [hAdamQUp : Cert.AdamQUp.Facts] : Prop :=
  ∀ (m : (ℓ : Loc Cert.AdamQUp.nD Cert.AdamQUp.τ Cert.AdamQUp.sig) → Buf (Elt Bits) ℓ) (g : Dev Cert.AdamQUp.nD → PrngReg), Pre_AdamQUp m →
    θ_run (Cert.AdamQUp.defs (F := Bits)) (onTc (τ := Cert.AdamQUp.τ) (Cert.AdamQUp.main (F := Bits))) ⟨m, fun _ => 0, g⟩ (fun r => (∀ c : Dev Cert.AdamQUp.nD,
      r.2.mem ((c.tc : Thread Cert.AdamQUp.nD Cert.AdamQUp.τ).loc Cert.AdamQUp.main_arg0) = m ((c.tc : Thread Cert.AdamQUp.nD Cert.AdamQUp.τ).loc Cert.AdamQUp.main_arg0)
      ∧ r.2.mem ((c.tc : Thread Cert.AdamQUp.nD Cert.AdamQUp.τ).loc Cert.AdamQUp.main_arg1) = m ((c.tc : Thread Cert.AdamQUp.nD Cert.AdamQUp.τ).loc Cert.AdamQUp.main_arg1)
      ∧ r.2.mem ((c.tc : Thread Cert.AdamQUp.nD Cert.AdamQUp.τ).loc Cert.AdamQUp.main_arg2) = m ((c.tc : Thread Cert.AdamQUp.nD Cert.AdamQUp.τ).loc Cert.AdamQUp.main_arg2)
      ∧ r.2.mem ((c.tc : Thread Cert.AdamQUp.nD Cert.AdamQUp.τ).loc Cert.AdamQUp.main_arg3) = m ((c.tc : Thread Cert.AdamQUp.nD Cert.AdamQUp.τ).loc Cert.AdamQUp.main_arg3))
      ∧ r.2.sem = fun _ => 0)

def quiescent_AdamQUpIdeal [hAdamQUpIdeal : Cert.AdamQUpIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg), Pre_AdamQUpIdeal m →
    θ_run (Cert.AdamQUpIdeal.defs (F := Ideal)) (onTc (τ := Cert.AdamQUpIdeal.τ) (Cert.AdamQUpIdeal.main (F := Ideal))) ⟨m, fun _ => 0, g⟩ (fun r => (∀ c : Dev Cert.AdamQUpIdeal.nD,
      r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
      ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
      ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
      ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3))
      ∧ r.2.sem = fun _ => 0)

def quiescent_AdamQUpRefIdeal [hAdamQUpRefIdeal : Cert.AdamQUpRefIdeal.Facts] : Prop :=
  ∀ (m : (ℓ : Loc Cert.AdamQUpRefIdeal.nD Cert.AdamQUpRefIdeal.τ Cert.AdamQUpRefIdeal.sig) → Buf (Elt Ideal) ℓ) (g : Dev Cert.AdamQUpRefIdeal.nD → PrngReg), Pre_AdamQUpRefIdeal m →
    θ_run (Cert.AdamQUpRefIdeal.defs (F := Ideal)) (onTc (τ := Cert.AdamQUpRefIdeal.τ) (Cert.AdamQUpRefIdeal.main (F := Ideal))) ⟨m, fun _ => 0, g⟩ (fun r => (∀ c : Dev Cert.AdamQUpRefIdeal.nD,
      r.2.mem ((c.tc : Thread Cert.AdamQUpRefIdeal.nD Cert.AdamQUpRefIdeal.τ).loc Cert.AdamQUpRefIdeal.main_arg0) = m ((c.tc : Thread Cert.AdamQUpRefIdeal.nD Cert.AdamQUpRefIdeal.τ).loc Cert.AdamQUpRefIdeal.main_arg0)
      ∧ r.2.mem ((c.tc : Thread Cert.AdamQUpRefIdeal.nD Cert.AdamQUpRefIdeal.τ).loc Cert.AdamQUpRefIdeal.main_arg1) = m ((c.tc : Thread Cert.AdamQUpRefIdeal.nD Cert.AdamQUpRefIdeal.τ).loc Cert.AdamQUpRefIdeal.main_arg1)
      ∧ r.2.mem ((c.tc : Thread Cert.AdamQUpRefIdeal.nD Cert.AdamQUpRefIdeal.τ).loc Cert.AdamQUpRefIdeal.main_arg2) = m ((c.tc : Thread Cert.AdamQUpRefIdeal.nD Cert.AdamQUpRefIdeal.τ).loc Cert.AdamQUpRefIdeal.main_arg2)
      ∧ r.2.mem ((c.tc : Thread Cert.AdamQUpRefIdeal.nD Cert.AdamQUpRefIdeal.τ).loc Cert.AdamQUpRefIdeal.main_arg3) = m ((c.tc : Thread Cert.AdamQUpRefIdeal.nD Cert.AdamQUpRefIdeal.τ).loc Cert.AdamQUpRefIdeal.main_arg3))
      ∧ r.2.sem = fun _ => 0)

def quiescent_AdamKvUp [hAdamKvUp : Cert.AdamKvUp.Facts] : Prop :=
  ∀ (m : (ℓ : Loc Cert.AdamKvUp.nD Cert.AdamKvUp.τ Cert.AdamKvUp.sig) → Buf (Elt Bits) ℓ) (g : Dev Cert.AdamKvUp.nD → PrngReg), Pre_AdamKvUp m →
    θ_run (Cert.AdamKvUp.defs (F := Bits)) (onTc (τ := Cert.AdamKvUp.τ) (Cert.AdamKvUp.main (F := Bits))) ⟨m, fun _ => 0, g⟩ (fun r => (∀ c : Dev Cert.AdamKvUp.nD,
      r.2.mem ((c.tc : Thread Cert.AdamKvUp.nD Cert.AdamKvUp.τ).loc Cert.AdamKvUp.main_arg0) = m ((c.tc : Thread Cert.AdamKvUp.nD Cert.AdamKvUp.τ).loc Cert.AdamKvUp.main_arg0)
      ∧ r.2.mem ((c.tc : Thread Cert.AdamKvUp.nD Cert.AdamKvUp.τ).loc Cert.AdamKvUp.main_arg1) = m ((c.tc : Thread Cert.AdamKvUp.nD Cert.AdamKvUp.τ).loc Cert.AdamKvUp.main_arg1)
      ∧ r.2.mem ((c.tc : Thread Cert.AdamKvUp.nD Cert.AdamKvUp.τ).loc Cert.AdamKvUp.main_arg2) = m ((c.tc : Thread Cert.AdamKvUp.nD Cert.AdamKvUp.τ).loc Cert.AdamKvUp.main_arg2)
      ∧ r.2.mem ((c.tc : Thread Cert.AdamKvUp.nD Cert.AdamKvUp.τ).loc Cert.AdamKvUp.main_arg3) = m ((c.tc : Thread Cert.AdamKvUp.nD Cert.AdamKvUp.τ).loc Cert.AdamKvUp.main_arg3))
      ∧ r.2.sem = fun _ => 0)

def quiescent_AdamKvUpIdeal [hAdamKvUpIdeal : Cert.AdamKvUpIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg), Pre_AdamKvUpIdeal m →
    θ_run (Cert.AdamKvUpIdeal.defs (F := Ideal)) (onTc (τ := Cert.AdamKvUpIdeal.τ) (Cert.AdamKvUpIdeal.main (F := Ideal))) ⟨m, fun _ => 0, g⟩ (fun r => (∀ c : Dev Cert.AdamKvUpIdeal.nD,
      r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
      ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
      ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
      ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3))
      ∧ r.2.sem = fun _ => 0)

def quiescent_AdamKvUpRefIdeal [hAdamKvUpRefIdeal : Cert.AdamKvUpRefIdeal.Facts] : Prop :=
  ∀ (m : (ℓ : Loc Cert.AdamKvUpRefIdeal.nD Cert.AdamKvUpRefIdeal.τ Cert.AdamKvUpRefIdeal.sig) → Buf (Elt Ideal) ℓ) (g : Dev Cert.AdamKvUpRefIdeal.nD → PrngReg), Pre_AdamKvUpRefIdeal m →
    θ_run (Cert.AdamKvUpRefIdeal.defs (F := Ideal)) (onTc (τ := Cert.AdamKvUpRefIdeal.τ) (Cert.AdamKvUpRefIdeal.main (F := Ideal))) ⟨m, fun _ => 0, g⟩ (fun r => (∀ c : Dev Cert.AdamKvUpRefIdeal.nD,
      r.2.mem ((c.tc : Thread Cert.AdamKvUpRefIdeal.nD Cert.AdamKvUpRefIdeal.τ).loc Cert.AdamKvUpRefIdeal.main_arg0) = m ((c.tc : Thread Cert.AdamKvUpRefIdeal.nD Cert.AdamKvUpRefIdeal.τ).loc Cert.AdamKvUpRefIdeal.main_arg0)
      ∧ r.2.mem ((c.tc : Thread Cert.AdamKvUpRefIdeal.nD Cert.AdamKvUpRefIdeal.τ).loc Cert.AdamKvUpRefIdeal.main_arg1) = m ((c.tc : Thread Cert.AdamKvUpRefIdeal.nD Cert.AdamKvUpRefIdeal.τ).loc Cert.AdamKvUpRefIdeal.main_arg1)
      ∧ r.2.mem ((c.tc : Thread Cert.AdamKvUpRefIdeal.nD Cert.AdamKvUpRefIdeal.τ).loc Cert.AdamKvUpRefIdeal.main_arg2) = m ((c.tc : Thread Cert.AdamKvUpRefIdeal.nD Cert.AdamKvUpRefIdeal.τ).loc Cert.AdamKvUpRefIdeal.main_arg2)
      ∧ r.2.mem ((c.tc : Thread Cert.AdamKvUpRefIdeal.nD Cert.AdamKvUpRefIdeal.τ).loc Cert.AdamKvUpRefIdeal.main_arg3) = m ((c.tc : Thread Cert.AdamKvUpRefIdeal.nD Cert.AdamKvUpRefIdeal.τ).loc Cert.AdamKvUpRefIdeal.main_arg3))
      ∧ r.2.sem = fun _ => 0)

def preserves_FfnBwd_FfnBwdIdeal : Prop :=
  True

def algebraic_FfnBwdIdeal_FfnBwdRefIdeal_pre_ffn_bwd_finite [hFfnBwdIdeal : Cert.FfnBwdIdeal.Facts] [hFfnBwdRefIdeal : Cert.FfnBwdRefIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_bwd_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v4_0)) (v1 : (c : Dev Cert.FfnBwdIdeal.nD) → Buf (Elt Ideal) ((c.tc : Thread Cert.FfnBwdIdeal.nD Cert.FfnBwdIdeal.τ).loc Cert.FfnBwdIdeal.main_v4_1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v4_0) = v0 c
          ∧ r.2.mem ((c.tc : Thread Cert.FfnBwdIdeal.nD Cert.FfnBwdIdeal.τ).loc Cert.FfnBwdIdeal.main_v4_1) = v1 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v11) = v0 c
          ∧ r.2.mem ((c.tc : Thread Cert.FfnBwdRefIdeal.nD Cert.FfnBwdRefIdeal.τ).loc Cert.FfnBwdRefIdeal.main_v12) = v1 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v4_0)) (v1 : (c : Dev Cert.FfnInIdeal.nD) → Buf (Elt Ideal) ((c.tc : Thread Cert.FfnInIdeal.nD Cert.FfnInIdeal.τ).loc Cert.FfnInIdeal.main_v4_1)) (v2 : (c : Dev Cert.FfnInIdeal.nD) → Buf (Elt Ideal) ((c.tc : Thread Cert.FfnInIdeal.nD Cert.FfnInIdeal.τ).loc Cert.FfnInIdeal.main_v4_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4_0) = v0 c
          ∧ r.2.mem ((c.tc : Thread Cert.FfnInIdeal.nD Cert.FfnInIdeal.τ).loc Cert.FfnInIdeal.main_v4_1) = v1 c
          ∧ r.2.mem ((c.tc : Thread Cert.FfnInIdeal.nD Cert.FfnInIdeal.τ).loc Cert.FfnInIdeal.main_v4_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v1) = v0 c
          ∧ r.2.mem ((c.tc : Thread Cert.FfnInRefIdeal.nD Cert.FfnInRefIdeal.τ).loc Cert.FfnInRefIdeal.main_v2) = v1 c
          ∧ r.2.mem ((c.tc : Thread Cert.FfnInRefIdeal.nD Cert.FfnInRefIdeal.τ).loc Cert.FfnInRefIdeal.main_v5) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v2_0)) (v1 : (c : Dev Cert.FfnOutIdeal.nD) → Buf (Elt Ideal) ((c.tc : Thread Cert.FfnOutIdeal.nD Cert.FfnOutIdeal.τ).loc Cert.FfnOutIdeal.main_v2_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2_0) = v0 c
          ∧ r.2.mem ((c.tc : Thread Cert.FfnOutIdeal.nD Cert.FfnOutIdeal.τ).loc Cert.FfnOutIdeal.main_v2_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v16) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_FfnNormBwd_FfnNormBwdIdeal : Prop :=
  True

def algebraic_FfnNormBwdIdeal_FfnNormBwdRefIdeal_pre_ffn_norm_bwd_finite [hFfnNormBwdIdeal : Cert.FfnNormBwdIdeal.Facts] [hFfnNormBwdRefIdeal : Cert.FfnNormBwdRefIdeal.Facts] [hPre_ffn_norm_bwd_finite : Cert.Pre_ffn_norm_bwd_finite.Facts] : Prop :=
  ∀ (m : (ℓ : Loc Cert.FfnNormBwdIdeal.nD Cert.FfnNormBwdIdeal.τ Cert.FfnNormBwdIdeal.sig) → Buf (Elt Ideal) ℓ) (g : Dev Cert.FfnNormBwdIdeal.nD → PrngReg)
    (m' : (ℓ : Loc Cert.FfnNormBwdRefIdeal.nD Cert.FfnNormBwdRefIdeal.τ Cert.FfnNormBwdRefIdeal.sig) → Buf (Elt Ideal) ℓ) (g' : Dev Cert.FfnNormBwdRefIdeal.nD → PrngReg), Pre_FfnNormBwdIdeal_ffn_norm_bwd_finite m →
    (∀ c : Dev Cert.FfnNormBwdIdeal.nD,
      m' ((c.tc : Thread Cert.FfnNormBwdRefIdeal.nD Cert.FfnNormBwdRefIdeal.τ).loc Cert.FfnNormBwdRefIdeal.main_arg0) = m ((c.tc : Thread Cert.FfnNormBwdIdeal.nD Cert.FfnNormBwdIdeal.τ).loc Cert.FfnNormBwdIdeal.main_arg0)
      ∧ m' ((c.tc : Thread Cert.FfnNormBwdRefIdeal.nD Cert.FfnNormBwdRefIdeal.τ).loc Cert.FfnNormBwdRefIdeal.main_arg1) = m ((c.tc : Thread Cert.FfnNormBwdIdeal.nD Cert.FfnNormBwdIdeal.τ).loc Cert.FfnNormBwdIdeal.main_arg1)
      ∧ m' ((c.tc : Thread Cert.FfnNormBwdRefIdeal.nD Cert.FfnNormBwdRefIdeal.τ).loc Cert.FfnNormBwdRefIdeal.main_arg2) = m ((c.tc : Thread Cert.FfnNormBwdIdeal.nD Cert.FfnNormBwdIdeal.τ).loc Cert.FfnNormBwdIdeal.main_arg2)
      ∧ m' ((c.tc : Thread Cert.FfnNormBwdRefIdeal.nD Cert.FfnNormBwdRefIdeal.τ).loc Cert.FfnNormBwdRefIdeal.main_arg3) = m ((c.tc : Thread Cert.FfnNormBwdIdeal.nD Cert.FfnNormBwdIdeal.τ).loc Cert.FfnNormBwdIdeal.main_arg3)
      ∧ m' ((c.tc : Thread Cert.FfnNormBwdRefIdeal.nD Cert.FfnNormBwdRefIdeal.τ).loc Cert.FfnNormBwdRefIdeal.main_arg4) = m ((c.tc : Thread Cert.FfnNormBwdIdeal.nD Cert.FfnNormBwdIdeal.τ).loc Cert.FfnNormBwdIdeal.main_arg4)
      ∧ m' ((c.tc : Thread Cert.FfnNormBwdRefIdeal.nD Cert.FfnNormBwdRefIdeal.τ).loc Cert.FfnNormBwdRefIdeal.main_arg5) = m ((c.tc : Thread Cert.FfnNormBwdIdeal.nD Cert.FfnNormBwdIdeal.τ).loc Cert.FfnNormBwdIdeal.main_arg5)) →
    ∃ (v0 : (c : Dev Cert.FfnNormBwdIdeal.nD) → Buf (Elt Ideal) ((c.tc : Thread Cert.FfnNormBwdIdeal.nD Cert.FfnNormBwdIdeal.τ).loc Cert.FfnNormBwdIdeal.main_v5_0)) (v1 : (c : Dev Cert.FfnNormBwdIdeal.nD) → Buf (Elt Ideal) ((c.tc : Thread Cert.FfnNormBwdIdeal.nD Cert.FfnNormBwdIdeal.τ).loc Cert.FfnNormBwdIdeal.main_v5_1)) (v2 : (c : Dev Cert.FfnNormBwdIdeal.nD) → Buf (Elt Ideal) ((c.tc : Thread Cert.FfnNormBwdIdeal.nD Cert.FfnNormBwdIdeal.τ).loc Cert.FfnNormBwdIdeal.main_v5_2)),
      θ_run (Cert.FfnNormBwdIdeal.defs (F := Ideal)) (onTc (τ := Cert.FfnNormBwdIdeal.τ) (Cert.FfnNormBwdIdeal.main (F := Ideal))) ⟨m, fun _ => 0, g⟩ (fun r => ∀ c : Dev Cert.FfnNormBwdIdeal.nD,
          r.2.mem ((c.tc : Thread Cert.FfnNormBwdIdeal.nD Cert.FfnNormBwdIdeal.τ).loc Cert.FfnNormBwdIdeal.main_v5_0) = v0 c
          ∧ r.2.mem ((c.tc : Thread Cert.FfnNormBwdIdeal.nD Cert.FfnNormBwdIdeal.τ).loc Cert.FfnNormBwdIdeal.main_v5_1) = v1 c
          ∧ r.2.mem ((c.tc : Thread Cert.FfnNormBwdIdeal.nD Cert.FfnNormBwdIdeal.τ).loc Cert.FfnNormBwdIdeal.main_v5_2) = v2 c
          ∧ r.2.mem ((c.tc : Thread Cert.FfnNormBwdIdeal.nD Cert.FfnNormBwdIdeal.τ).loc Cert.FfnNormBwdIdeal.main_arg0) = m ((c.tc : Thread Cert.FfnNormBwdIdeal.nD Cert.FfnNormBwdIdeal.τ).loc Cert.FfnNormBwdIdeal.main_arg0)
          ∧ r.2.mem ((c.tc : Thread Cert.FfnNormBwdIdeal.nD Cert.FfnNormBwdIdeal.τ).loc Cert.FfnNormBwdIdeal.main_arg1) = m ((c.tc : Thread Cert.FfnNormBwdIdeal.nD Cert.FfnNormBwdIdeal.τ).loc Cert.FfnNormBwdIdeal.main_arg1)
          ∧ r.2.mem ((c.tc : Thread Cert.FfnNormBwdIdeal.nD Cert.FfnNormBwdIdeal.τ).loc Cert.FfnNormBwdIdeal.main_arg2) = m ((c.tc : Thread Cert.FfnNormBwdIdeal.nD Cert.FfnNormBwdIdeal.τ).loc Cert.FfnNormBwdIdeal.main_arg2)
          ∧ r.2.mem ((c.tc : Thread Cert.FfnNormBwdIdeal.nD Cert.FfnNormBwdIdeal.τ).loc Cert.FfnNormBwdIdeal.main_arg3) = m ((c.tc : Thread Cert.FfnNormBwdIdeal.nD Cert.FfnNormBwdIdeal.τ).loc Cert.FfnNormBwdIdeal.main_arg3)
          ∧ r.2.mem ((c.tc : Thread Cert.FfnNormBwdIdeal.nD Cert.FfnNormBwdIdeal.τ).loc Cert.FfnNormBwdIdeal.main_arg4) = m ((c.tc : Thread Cert.FfnNormBwdIdeal.nD Cert.FfnNormBwdIdeal.τ).loc Cert.FfnNormBwdIdeal.main_arg4)
          ∧ r.2.mem ((c.tc : Thread Cert.FfnNormBwdIdeal.nD Cert.FfnNormBwdIdeal.τ).loc Cert.FfnNormBwdIdeal.main_arg5) = m ((c.tc : Thread Cert.FfnNormBwdIdeal.nD Cert.FfnNormBwdIdeal.τ).loc Cert.FfnNormBwdIdeal.main_arg5))
      ∧ θ_run (Cert.FfnNormBwdRefIdeal.defs (F := Ideal)) (onTc (τ := Cert.FfnNormBwdRefIdeal.τ) (Cert.FfnNormBwdRefIdeal.main (F := Ideal))) ⟨m', fun _ => 0, g'⟩ (fun r => ∀ c : Dev Cert.FfnNormBwdRefIdeal.nD,
          r.2.mem ((c.tc : Thread Cert.FfnNormBwdRefIdeal.nD Cert.FfnNormBwdRefIdeal.τ).loc Cert.FfnNormBwdRefIdeal.main_v39) = v0 c
          ∧ r.2.mem ((c.tc : Thread Cert.FfnNormBwdRefIdeal.nD Cert.FfnNormBwdRefIdeal.τ).loc Cert.FfnNormBwdRefIdeal.main_v40) = v1 c
          ∧ r.2.mem ((c.tc : Thread Cert.FfnNormBwdRefIdeal.nD Cert.FfnNormBwdRefIdeal.τ).loc Cert.FfnNormBwdRefIdeal.main_v22) = v2 c
          ∧ r.2.mem ((c.tc : Thread Cert.FfnNormBwdRefIdeal.nD Cert.FfnNormBwdRefIdeal.τ).loc Cert.FfnNormBwdRefIdeal.main_arg0) = m' ((c.tc : Thread Cert.FfnNormBwdRefIdeal.nD Cert.FfnNormBwdRefIdeal.τ).loc Cert.FfnNormBwdRefIdeal.main_arg0)
          ∧ r.2.mem ((c.tc : Thread Cert.FfnNormBwdRefIdeal.nD Cert.FfnNormBwdRefIdeal.τ).loc Cert.FfnNormBwdRefIdeal.main_arg1) = m' ((c.tc : Thread Cert.FfnNormBwdRefIdeal.nD Cert.FfnNormBwdRefIdeal.τ).loc Cert.FfnNormBwdRefIdeal.main_arg1)
          ∧ r.2.mem ((c.tc : Thread Cert.FfnNormBwdRefIdeal.nD Cert.FfnNormBwdRefIdeal.τ).loc Cert.FfnNormBwdRefIdeal.main_arg2) = m' ((c.tc : Thread Cert.FfnNormBwdRefIdeal.nD Cert.FfnNormBwdRefIdeal.τ).loc Cert.FfnNormBwdRefIdeal.main_arg2)
          ∧ r.2.mem ((c.tc : Thread Cert.FfnNormBwdRefIdeal.nD Cert.FfnNormBwdRefIdeal.τ).loc Cert.FfnNormBwdRefIdeal.main_arg3) = m' ((c.tc : Thread Cert.FfnNormBwdRefIdeal.nD Cert.FfnNormBwdRefIdeal.τ).loc Cert.FfnNormBwdRefIdeal.main_arg3)
          ∧ r.2.mem ((c.tc : Thread Cert.FfnNormBwdRefIdeal.nD Cert.FfnNormBwdRefIdeal.τ).loc Cert.FfnNormBwdRefIdeal.main_arg4) = m' ((c.tc : Thread Cert.FfnNormBwdRefIdeal.nD Cert.FfnNormBwdRefIdeal.τ).loc Cert.FfnNormBwdRefIdeal.main_arg4)
          ∧ r.2.mem ((c.tc : Thread Cert.FfnNormBwdRefIdeal.nD Cert.FfnNormBwdRefIdeal.τ).loc Cert.FfnNormBwdRefIdeal.main_arg5) = m' ((c.tc : Thread Cert.FfnNormBwdRefIdeal.nD Cert.FfnNormBwdRefIdeal.τ).loc Cert.FfnNormBwdRefIdeal.main_arg5))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v4)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v4) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v8) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v9_0)) (v1 : (c : Dev Cert.MixInIdeal.nD) → Buf (Elt Ideal) ((c.tc : Thread Cert.MixInIdeal.nD Cert.MixInIdeal.τ).loc Cert.MixInIdeal.main_v9_1)) (v2 : (c : Dev Cert.MixInIdeal.nD) → Buf (Elt Ideal) ((c.tc : Thread Cert.MixInIdeal.nD Cert.MixInIdeal.τ).loc Cert.MixInIdeal.main_v9_2)) (v3 : (c : Dev Cert.MixInIdeal.nD) → Buf (Elt Ideal) ((c.tc : Thread Cert.MixInIdeal.nD Cert.MixInIdeal.τ).loc Cert.MixInIdeal.main_v9_3)) (v4 : (c : Dev Cert.MixInIdeal.nD) → Buf (Elt Ideal) ((c.tc : Thread Cert.MixInIdeal.nD Cert.MixInIdeal.τ).loc Cert.MixInIdeal.main_v9_4)) (v5 : (c : Dev Cert.MixInIdeal.nD) → Buf (Elt Ideal) ((c.tc : Thread Cert.MixInIdeal.nD Cert.MixInIdeal.τ).loc Cert.MixInIdeal.main_v9_5)) (v6 : (c : Dev Cert.MixInIdeal.nD) → Buf (Elt Ideal) ((c.tc : Thread Cert.MixInIdeal.nD Cert.MixInIdeal.τ).loc Cert.MixInIdeal.main_v9_6)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v9_0) = v0 c
          ∧ r.2.mem ((c.tc : Thread Cert.MixInIdeal.nD Cert.MixInIdeal.τ).loc Cert.MixInIdeal.main_v9_1) = v1 c
          ∧ r.2.mem ((c.tc : Thread Cert.MixInIdeal.nD Cert.MixInIdeal.τ).loc Cert.MixInIdeal.main_v9_2) = v2 c
          ∧ r.2.mem ((c.tc : Thread Cert.MixInIdeal.nD Cert.MixInIdeal.τ).loc Cert.MixInIdeal.main_v9_3) = v3 c
          ∧ r.2.mem ((c.tc : Thread Cert.MixInIdeal.nD Cert.MixInIdeal.τ).loc Cert.MixInIdeal.main_v9_4) = v4 c
          ∧ r.2.mem ((c.tc : Thread Cert.MixInIdeal.nD Cert.MixInIdeal.τ).loc Cert.MixInIdeal.main_v9_5) = v5 c
          ∧ r.2.mem ((c.tc : Thread Cert.MixInIdeal.nD Cert.MixInIdeal.τ).loc Cert.MixInIdeal.main_v9_6) = v6 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v1) = v0 c
          ∧ r.2.mem ((c.tc : Thread Cert.MixInRefIdeal.nD Cert.MixInRefIdeal.τ).loc Cert.MixInRefIdeal.main_v2) = v1 c
          ∧ r.2.mem ((c.tc : Thread Cert.MixInRefIdeal.nD Cert.MixInRefIdeal.τ).loc Cert.MixInRefIdeal.main_v9) = v2 c
          ∧ r.2.mem ((c.tc : Thread Cert.MixInRefIdeal.nD Cert.MixInRefIdeal.τ).loc Cert.MixInRefIdeal.main_v10) = v3 c
          ∧ r.2.mem ((c.tc : Thread Cert.MixInRefIdeal.nD Cert.MixInRefIdeal.τ).loc Cert.MixInRefIdeal.main_v11) = v4 c
          ∧ r.2.mem ((c.tc : Thread Cert.MixInRefIdeal.nD Cert.MixInRefIdeal.τ).loc Cert.MixInRefIdeal.main_v12) = v5 c
          ∧ r.2.mem ((c.tc : Thread Cert.MixInRefIdeal.nD Cert.MixInRefIdeal.τ).loc Cert.MixInRefIdeal.main_v5) = v6 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)
      ∧ m' ((c.tc : Thread Cert.MergeOutRefIdeal.nD Cert.MergeOutRefIdeal.τ).loc Cert.MergeOutRefIdeal.main_arg5) = m ((c.tc : Thread Cert.MergeOutIdeal.nD Cert.MergeOutIdeal.τ).loc Cert.MergeOutIdeal.main_arg5)
      ∧ m' ((c.tc : Thread Cert.MergeOutRefIdeal.nD Cert.MergeOutRefIdeal.τ).loc Cert.MergeOutRefIdeal.main_arg6) = m ((c.tc : Thread Cert.MergeOutIdeal.nD Cert.MergeOutIdeal.τ).loc Cert.MergeOutIdeal.main_arg6)
      ∧ m' ((c.tc : Thread Cert.MergeOutRefIdeal.nD Cert.MergeOutRefIdeal.τ).loc Cert.MergeOutRefIdeal.main_arg7) = m ((c.tc : Thread Cert.MergeOutIdeal.nD Cert.MergeOutIdeal.τ).loc Cert.MergeOutIdeal.main_arg7)) →
    ∃ (v0 : (c : Dev Cert.MergeOutIdeal.nD) → Buf (Elt Ideal) ((c.tc : Thread Cert.MergeOutIdeal.nD Cert.MergeOutIdeal.τ).loc Cert.MergeOutIdeal.main_v7_0)) (v1 : (c : Dev Cert.MergeOutIdeal.nD) → Buf (Elt Ideal) ((c.tc : Thread Cert.MergeOutIdeal.nD Cert.MergeOutIdeal.τ).loc Cert.MergeOutIdeal.main_v7_1)) (v2 : (c : Dev Cert.MergeOutIdeal.nD) → Buf (Elt Ideal) ((c.tc : Thread Cert.MergeOutIdeal.nD Cert.MergeOutIdeal.τ).loc Cert.MergeOutIdeal.main_v7_2)) (v3 : (c : Dev Cert.MergeOutIdeal.nD) → Buf (Elt Ideal) ((c.tc : Thread Cert.MergeOutIdeal.nD Cert.MergeOutIdeal.τ).loc Cert.MergeOutIdeal.main_v7_3)) (v4 : (c : Dev Cert.MergeOutIdeal.nD) → Buf (Elt Ideal) ((c.tc : Thread Cert.MergeOutIdeal.nD Cert.MergeOutIdeal.τ).loc Cert.MergeOutIdeal.main_v7_4)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v7_0) = v0 c
          ∧ r.2.mem ((c.tc : Thread Cert.MergeOutIdeal.nD Cert.MergeOutIdeal.τ).loc Cert.MergeOutIdeal.main_v7_1) = v1 c
          ∧ r.2.mem ((c.tc : Thread Cert.MergeOutIdeal.nD Cert.MergeOutIdeal.τ).loc Cert.MergeOutIdeal.main_v7_2) = v2 c
          ∧ r.2.mem ((c.tc : Thread Cert.MergeOutIdeal.nD Cert.MergeOutIdeal.τ).loc Cert.MergeOutIdeal.main_v7_3) = v3 c
          ∧ r.2.mem ((c.tc : Thread Cert.MergeOutIdeal.nD Cert.MergeOutIdeal.τ).loc Cert.MergeOutIdeal.main_v7_4) = v4 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
          ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6)
          ∧ r.2.mem ((c.tc : Thread Cert.MergeOutIdeal.nD Cert.MergeOutIdeal.τ).loc Cert.MergeOutIdeal.main_arg7) = m ((c.tc : Thread Cert.MergeOutIdeal.nD Cert.MergeOutIdeal.τ).loc Cert.MergeOutIdeal.main_arg7))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v17) = v0 c
          ∧ r.2.mem ((c.tc : Thread Cert.MergeOutRefIdeal.nD Cert.MergeOutRefIdeal.τ).loc Cert.MergeOutRefIdeal.main_v11) = v1 c
          ∧ r.2.mem ((c.tc : Thread Cert.MergeOutRefIdeal.nD Cert.MergeOutRefIdeal.τ).loc Cert.MergeOutRefIdeal.main_v12) = v2 c
          ∧ r.2.mem ((c.tc : Thread Cert.MergeOutRefIdeal.nD Cert.MergeOutRefIdeal.τ).loc Cert.MergeOutRefIdeal.main_v18) = v3 c
          ∧ r.2.mem ((c.tc : Thread Cert.MergeOutRefIdeal.nD Cert.MergeOutRefIdeal.τ).loc Cert.MergeOutRefIdeal.main_v31) = v4 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4)
          ∧ r.2.mem ((c.tc : Thread Cert.MergeOutRefIdeal.nD Cert.MergeOutRefIdeal.τ).loc Cert.MergeOutRefIdeal.main_arg5) = m' ((c.tc : Thread Cert.MergeOutRefIdeal.nD Cert.MergeOutRefIdeal.τ).loc Cert.MergeOutRefIdeal.main_arg5)
          ∧ r.2.mem ((c.tc : Thread Cert.MergeOutRefIdeal.nD Cert.MergeOutRefIdeal.τ).loc Cert.MergeOutRefIdeal.main_arg6) = m' ((c.tc : Thread Cert.MergeOutRefIdeal.nD Cert.MergeOutRefIdeal.τ).loc Cert.MergeOutRefIdeal.main_arg6)
          ∧ r.2.mem ((c.tc : Thread Cert.MergeOutRefIdeal.nD Cert.MergeOutRefIdeal.τ).loc Cert.MergeOutRefIdeal.main_arg7) = m' ((c.tc : Thread Cert.MergeOutRefIdeal.nD Cert.MergeOutRefIdeal.τ).loc Cert.MergeOutRefIdeal.main_arg7))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v7_0)) (v1 : (c : Dev Cert.MergeBwdIdeal.nD) → Buf (Elt Ideal) ((c.tc : Thread Cert.MergeBwdIdeal.nD Cert.MergeBwdIdeal.τ).loc Cert.MergeBwdIdeal.main_v7_1)) (v2 : (c : Dev Cert.MergeBwdIdeal.nD) → Buf (Elt Ideal) ((c.tc : Thread Cert.MergeBwdIdeal.nD Cert.MergeBwdIdeal.τ).loc Cert.MergeBwdIdeal.main_v7_2)) (v3 : (c : Dev Cert.MergeBwdIdeal.nD) → Buf (Elt Ideal) ((c.tc : Thread Cert.MergeBwdIdeal.nD Cert.MergeBwdIdeal.τ).loc Cert.MergeBwdIdeal.main_v7_3)) (v4 : (c : Dev Cert.MergeBwdIdeal.nD) → Buf (Elt Ideal) ((c.tc : Thread Cert.MergeBwdIdeal.nD Cert.MergeBwdIdeal.τ).loc Cert.MergeBwdIdeal.main_v7_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v7_0) = v0 c
          ∧ r.2.mem ((c.tc : Thread Cert.MergeBwdIdeal.nD Cert.MergeBwdIdeal.τ).loc Cert.MergeBwdIdeal.main_v7_1) = v1 c
          ∧ r.2.mem ((c.tc : Thread Cert.MergeBwdIdeal.nD Cert.MergeBwdIdeal.τ).loc Cert.MergeBwdIdeal.main_v7_2) = v2 c
          ∧ r.2.mem ((c.tc : Thread Cert.MergeBwdIdeal.nD Cert.MergeBwdIdeal.τ).loc Cert.MergeBwdIdeal.main_v7_3) = v3 c
          ∧ r.2.mem ((c.tc : Thread Cert.MergeBwdIdeal.nD Cert.MergeBwdIdeal.τ).loc Cert.MergeBwdIdeal.main_v7_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v34) = v0 c
          ∧ r.2.mem ((c.tc : Thread Cert.MergeBwdRefIdeal.nD Cert.MergeBwdRefIdeal.τ).loc Cert.MergeBwdRefIdeal.main_v35) = v1 c
          ∧ r.2.mem ((c.tc : Thread Cert.MergeBwdRefIdeal.nD Cert.MergeBwdRefIdeal.τ).loc Cert.MergeBwdRefIdeal.main_v36) = v2 c
          ∧ r.2.mem ((c.tc : Thread Cert.MergeBwdRefIdeal.nD Cert.MergeBwdRefIdeal.τ).loc Cert.MergeBwdRefIdeal.main_v37) = v3 c
          ∧ r.2.mem ((c.tc : Thread Cert.MergeBwdRefIdeal.nD Cert.MergeBwdRefIdeal.τ).loc Cert.MergeBwdRefIdeal.main_v38) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v2_0)) (v1 : (c : Dev Cert.PleIdeal.nD) → Buf (Elt Ideal) ((c.tc : Thread Cert.PleIdeal.nD Cert.PleIdeal.τ).loc Cert.PleIdeal.main_v2_1)) (v2 : (c : Dev Cert.PleIdeal.nD) → Buf (Elt Ideal) ((c.tc : Thread Cert.PleIdeal.nD Cert.PleIdeal.τ).loc Cert.PleIdeal.main_v2_2)) (v3 : (c : Dev Cert.PleIdeal.nD) → Buf (Elt Ideal) ((c.tc : Thread Cert.PleIdeal.nD Cert.PleIdeal.τ).loc Cert.PleIdeal.main_v2_3)) (v4 : (c : Dev Cert.PleIdeal.nD) → Buf (Elt Ideal) ((c.tc : Thread Cert.PleIdeal.nD Cert.PleIdeal.τ).loc Cert.PleIdeal.main_v2_4)) (v5 : (c : Dev Cert.PleIdeal.nD) → Buf (Elt Ideal) ((c.tc : Thread Cert.PleIdeal.nD Cert.PleIdeal.τ).loc Cert.PleIdeal.main_v2_5)) (v6 : (c : Dev Cert.PleIdeal.nD) → Buf (Elt Ideal) ((c.tc : Thread Cert.PleIdeal.nD Cert.PleIdeal.τ).loc Cert.PleIdeal.main_v2_6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2_0) = v0 c
          ∧ r.2.mem ((c.tc : Thread Cert.PleIdeal.nD Cert.PleIdeal.τ).loc Cert.PleIdeal.main_v2_1) = v1 c
          ∧ r.2.mem ((c.tc : Thread Cert.PleIdeal.nD Cert.PleIdeal.τ).loc Cert.PleIdeal.main_v2_2) = v2 c
          ∧ r.2.mem ((c.tc : Thread Cert.PleIdeal.nD Cert.PleIdeal.τ).loc Cert.PleIdeal.main_v2_3) = v3 c
          ∧ r.2.mem ((c.tc : Thread Cert.PleIdeal.nD Cert.PleIdeal.τ).loc Cert.PleIdeal.main_v2_4) = v4 c
          ∧ r.2.mem ((c.tc : Thread Cert.PleIdeal.nD Cert.PleIdeal.τ).loc Cert.PleIdeal.main_v2_5) = v5 c
          ∧ r.2.mem ((c.tc : Thread Cert.PleIdeal.nD Cert.PleIdeal.τ).loc Cert.PleIdeal.main_v2_6) = v6 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v68) = v0 c
          ∧ r.2.mem ((c.tc : Thread Cert.PleRefIdeal.nD Cert.PleRefIdeal.τ).loc Cert.PleRefIdeal.main_v71) = v1 c
          ∧ r.2.mem ((c.tc : Thread Cert.PleRefIdeal.nD Cert.PleRefIdeal.τ).loc Cert.PleRefIdeal.main_v72) = v2 c
          ∧ r.2.mem ((c.tc : Thread Cert.PleRefIdeal.nD Cert.PleRefIdeal.τ).loc Cert.PleRefIdeal.main_v73) = v3 c
          ∧ r.2.mem ((c.tc : Thread Cert.PleRefIdeal.nD Cert.PleRefIdeal.τ).loc Cert.PleRefIdeal.main_v74) = v4 c
          ∧ r.2.mem ((c.tc : Thread Cert.PleRefIdeal.nD Cert.PleRefIdeal.τ).loc Cert.PleRefIdeal.main_v51) = v5 c
          ∧ r.2.mem ((c.tc : Thread Cert.PleRefIdeal.nD Cert.PleRefIdeal.τ).loc Cert.PleRefIdeal.main_v76) = v6 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_MixNormBwd_MixNormBwdIdeal : Prop :=
  True

def algebraic_MixNormBwdIdeal_MixNormBwdRefIdeal_pre_mix_norm_bwd_finite [hMixNormBwdIdeal : Cert.MixNormBwdIdeal.Facts] [hMixNormBwdRefIdeal : Cert.MixNormBwdRefIdeal.Facts] [hPre_mix_norm_bwd_finite : Cert.Pre_mix_norm_bwd_finite.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg)
    (m' : (ℓ : Loc Cert.MixNormBwdRefIdeal.nD Cert.MixNormBwdRefIdeal.τ Cert.MixNormBwdRefIdeal.sig) → Buf (Elt Ideal) ℓ) (g' : Dev Cert.MixNormBwdRefIdeal.nD → PrngReg), Pre_MixNormBwdIdeal_mix_norm_bwd_finite m →
    (∀ c : Dev Cert.MixNormBwdIdeal.nD,
      m' ((c.tc : Thread Cert.MixNormBwdRefIdeal.nD Cert.MixNormBwdRefIdeal.τ).loc Cert.MixNormBwdRefIdeal.main_arg0) = m ((c.tc : Thread Cert.MixNormBwdIdeal.nD Cert.MixNormBwdIdeal.τ).loc Cert.MixNormBwdIdeal.main_arg0)
      ∧ m' ((c.tc : Thread Cert.MixNormBwdRefIdeal.nD Cert.MixNormBwdRefIdeal.τ).loc Cert.MixNormBwdRefIdeal.main_arg1) = m ((c.tc : Thread Cert.MixNormBwdIdeal.nD Cert.MixNormBwdIdeal.τ).loc Cert.MixNormBwdIdeal.main_arg1)
      ∧ m' ((c.tc : Thread Cert.MixNormBwdRefIdeal.nD Cert.MixNormBwdRefIdeal.τ).loc Cert.MixNormBwdRefIdeal.main_arg2) = m ((c.tc : Thread Cert.MixNormBwdIdeal.nD Cert.MixNormBwdIdeal.τ).loc Cert.MixNormBwdIdeal.main_arg2)
      ∧ m' ((c.tc : Thread Cert.MixNormBwdRefIdeal.nD Cert.MixNormBwdRefIdeal.τ).loc Cert.MixNormBwdRefIdeal.main_arg3) = m ((c.tc : Thread Cert.MixNormBwdIdeal.nD Cert.MixNormBwdIdeal.τ).loc Cert.MixNormBwdIdeal.main_arg3)
      ∧ m' ((c.tc : Thread Cert.MixNormBwdRefIdeal.nD Cert.MixNormBwdRefIdeal.τ).loc Cert.MixNormBwdRefIdeal.main_arg4) = m ((c.tc : Thread Cert.MixNormBwdIdeal.nD Cert.MixNormBwdIdeal.τ).loc Cert.MixNormBwdIdeal.main_arg4)) →
    ∃ (v0 : (c : Dev Cert.MixNormBwdIdeal.nD) → Buf (Elt Ideal) ((c.tc : Thread Cert.MixNormBwdIdeal.nD Cert.MixNormBwdIdeal.τ).loc Cert.MixNormBwdIdeal.main_v9_0)) (v1 : (c : Dev Cert.MixNormBwdIdeal.nD) → Buf (Elt Ideal) ((c.tc : Thread Cert.MixNormBwdIdeal.nD Cert.MixNormBwdIdeal.τ).loc Cert.MixNormBwdIdeal.main_v9_1)) (v2 : (c : Dev Cert.MixNormBwdIdeal.nD) → Buf (Elt Ideal) ((c.tc : Thread Cert.MixNormBwdIdeal.nD Cert.MixNormBwdIdeal.τ).loc Cert.MixNormBwdIdeal.main_v9_2)),
      θ_run (Cert.MixNormBwdIdeal.defs (F := Ideal)) (onTc (τ := Cert.MixNormBwdIdeal.τ) (Cert.MixNormBwdIdeal.main (F := Ideal))) ⟨m, fun _ => 0, g⟩ (fun r => ∀ c : Dev Cert.MixNormBwdIdeal.nD,
          r.2.mem ((c.tc : Thread Cert.MixNormBwdIdeal.nD Cert.MixNormBwdIdeal.τ).loc Cert.MixNormBwdIdeal.main_v9_0) = v0 c
          ∧ r.2.mem ((c.tc : Thread Cert.MixNormBwdIdeal.nD Cert.MixNormBwdIdeal.τ).loc Cert.MixNormBwdIdeal.main_v9_1) = v1 c
          ∧ r.2.mem ((c.tc : Thread Cert.MixNormBwdIdeal.nD Cert.MixNormBwdIdeal.τ).loc Cert.MixNormBwdIdeal.main_v9_2) = v2 c
          ∧ r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
          ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
          ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
          ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
          ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4))
      ∧ θ_run (Cert.MixNormBwdRefIdeal.defs (F := Ideal)) (onTc (τ := Cert.MixNormBwdRefIdeal.τ) (Cert.MixNormBwdRefIdeal.main (F := Ideal))) ⟨m', fun _ => 0, g'⟩ (fun r => ∀ c : Dev Cert.MixNormBwdRefIdeal.nD,
          r.2.mem ((c.tc : Thread Cert.MixNormBwdRefIdeal.nD Cert.MixNormBwdRefIdeal.τ).loc Cert.MixNormBwdRefIdeal.main_v54) = v0 c
          ∧ r.2.mem ((c.tc : Thread Cert.MixNormBwdRefIdeal.nD Cert.MixNormBwdRefIdeal.τ).loc Cert.MixNormBwdRefIdeal.main_v57) = v1 c
          ∧ r.2.mem ((c.tc : Thread Cert.MixNormBwdRefIdeal.nD Cert.MixNormBwdRefIdeal.τ).loc Cert.MixNormBwdRefIdeal.main_v37) = v2 c
          ∧ r.2.mem ((c.tc : Thread Cert.MixNormBwdRefIdeal.nD Cert.MixNormBwdRefIdeal.τ).loc Cert.MixNormBwdRefIdeal.main_arg0) = m' ((c.tc : Thread Cert.MixNormBwdRefIdeal.nD Cert.MixNormBwdRefIdeal.τ).loc Cert.MixNormBwdRefIdeal.main_arg0)
          ∧ r.2.mem ((c.tc : Thread Cert.MixNormBwdRefIdeal.nD Cert.MixNormBwdRefIdeal.τ).loc Cert.MixNormBwdRefIdeal.main_arg1) = m' ((c.tc : Thread Cert.MixNormBwdRefIdeal.nD Cert.MixNormBwdRefIdeal.τ).loc Cert.MixNormBwdRefIdeal.main_arg1)
          ∧ r.2.mem ((c.tc : Thread Cert.MixNormBwdRefIdeal.nD Cert.MixNormBwdRefIdeal.τ).loc Cert.MixNormBwdRefIdeal.main_arg2) = m' ((c.tc : Thread Cert.MixNormBwdRefIdeal.nD Cert.MixNormBwdRefIdeal.τ).loc Cert.MixNormBwdRefIdeal.main_arg2)
          ∧ r.2.mem ((c.tc : Thread Cert.MixNormBwdRefIdeal.nD Cert.MixNormBwdRefIdeal.τ).loc Cert.MixNormBwdRefIdeal.main_arg3) = m' ((c.tc : Thread Cert.MixNormBwdRefIdeal.nD Cert.MixNormBwdRefIdeal.τ).loc Cert.MixNormBwdRefIdeal.main_arg3)
          ∧ r.2.mem ((c.tc : Thread Cert.MixNormBwdRefIdeal.nD Cert.MixNormBwdRefIdeal.τ).loc Cert.MixNormBwdRefIdeal.main_arg4) = m' ((c.tc : Thread Cert.MixNormBwdRefIdeal.nD Cert.MixNormBwdRefIdeal.τ).loc Cert.MixNormBwdRefIdeal.main_arg4))

def preserves_DwMix_DwMixIdeal : Prop :=
  True

def algebraic_DwMixIdeal_DwMixRefIdeal [hDwMixIdeal : Cert.DwMixIdeal.Facts] [hDwMixRefIdeal : Cert.DwMixRefIdeal.Facts] : Prop :=
  ∀ (m : (ℓ : Loc Cert.DwMixIdeal.nD Cert.DwMixIdeal.τ Cert.DwMixIdeal.sig) → Buf (Elt Ideal) ℓ) (g : Dev Cert.DwMixIdeal.nD → PrngReg)
    (m' : (ℓ : Loc Cert.DwMixRefIdeal.nD Cert.DwMixRefIdeal.τ Cert.DwMixRefIdeal.sig) → Buf (Elt Ideal) ℓ) (g' : Dev Cert.DwMixRefIdeal.nD → PrngReg), Pre_DwMixIdeal m →
    (∀ c : Dev Cert.DwMixIdeal.nD,
      m' ((c.tc : Thread Cert.DwMixRefIdeal.nD Cert.DwMixRefIdeal.τ).loc Cert.DwMixRefIdeal.main_arg0) = m ((c.tc : Thread Cert.DwMixIdeal.nD Cert.DwMixIdeal.τ).loc Cert.DwMixIdeal.main_arg0)
      ∧ m' ((c.tc : Thread Cert.DwMixRefIdeal.nD Cert.DwMixRefIdeal.τ).loc Cert.DwMixRefIdeal.main_arg1) = m ((c.tc : Thread Cert.DwMixIdeal.nD Cert.DwMixIdeal.τ).loc Cert.DwMixIdeal.main_arg1)) →
    ∃ (v0 : (c : Dev Cert.DwMixIdeal.nD) → Buf (Elt Ideal) ((c.tc : Thread Cert.DwMixIdeal.nD Cert.DwMixIdeal.τ).loc Cert.DwMixIdeal.main_v2)),
      θ_run (Cert.DwMixIdeal.defs (F := Ideal)) (onTc (τ := Cert.DwMixIdeal.τ) (Cert.DwMixIdeal.main (F := Ideal))) ⟨m, fun _ => 0, g⟩ (fun r => ∀ c : Dev Cert.DwMixIdeal.nD,
          r.2.mem ((c.tc : Thread Cert.DwMixIdeal.nD Cert.DwMixIdeal.τ).loc Cert.DwMixIdeal.main_v2) = v0 c
          ∧ r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
          ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ θ_run (Cert.DwMixRefIdeal.defs (F := Ideal)) (onTc (τ := Cert.DwMixRefIdeal.τ) (Cert.DwMixRefIdeal.main (F := Ideal))) ⟨m', fun _ => 0, g'⟩ (fun r => ∀ c : Dev Cert.DwMixRefIdeal.nD,
          r.2.mem ((c.tc : Thread Cert.DwMixRefIdeal.nD Cert.DwMixRefIdeal.τ).loc Cert.DwMixRefIdeal.main_v6) = v0 c
          ∧ r.2.mem ((c.tc : Thread Cert.DwMixRefIdeal.nD Cert.DwMixRefIdeal.τ).loc Cert.DwMixRefIdeal.main_arg0) = m' ((c.tc : Thread Cert.DwMixRefIdeal.nD Cert.DwMixRefIdeal.τ).loc Cert.DwMixRefIdeal.main_arg0)
          ∧ r.2.mem ((c.tc : Thread Cert.DwMixRefIdeal.nD Cert.DwMixRefIdeal.τ).loc Cert.DwMixRefIdeal.main_arg1) = m' ((c.tc : Thread Cert.DwMixRefIdeal.nD Cert.DwMixRefIdeal.τ).loc Cert.DwMixRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v2)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v2) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v4) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v1)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v1) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v4) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_DwProj_DwProjIdeal : Prop :=
  True

def algebraic_DwProjIdeal_DwProjRefIdeal [hDwProjIdeal : Cert.DwProjIdeal.Facts] [hDwProjRefIdeal : Cert.DwProjRefIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjRefIdeal.nD Cert.DwProjRefIdeal.τ Cert.DwProjRefIdeal.sig) → Buf (Elt Ideal) ℓ) (g' : Dev Cert.DwProjRefIdeal.nD → PrngReg), Pre_DwProjIdeal m →
    (∀ c : Dev Cert.DwProjIdeal.nD,
      m' ((c.tc : Thread Cert.DwProjRefIdeal.nD Cert.DwProjRefIdeal.τ).loc Cert.DwProjRefIdeal.main_arg0) = m ((c.tc : Thread Cert.DwProjIdeal.nD Cert.DwProjIdeal.τ).loc Cert.DwProjIdeal.main_arg0)
      ∧ m' ((c.tc : Thread Cert.DwProjRefIdeal.nD Cert.DwProjRefIdeal.τ).loc Cert.DwProjRefIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v1)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v1) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjRefIdeal.defs (F := Ideal)) (onTc (τ := Cert.DwProjRefIdeal.τ) (Cert.DwProjRefIdeal.main (F := Ideal))) ⟨m', fun _ => 0, g'⟩ (fun r => ∀ c : Dev Cert.DwProjRefIdeal.nD,
          r.2.mem ((c.tc : Thread Cert.DwProjRefIdeal.nD Cert.DwProjRefIdeal.τ).loc Cert.DwProjRefIdeal.main_v4) = v0 c
          ∧ r.2.mem ((c.tc : Thread Cert.DwProjRefIdeal.nD Cert.DwProjRefIdeal.τ).loc Cert.DwProjRefIdeal.main_arg0) = m' ((c.tc : Thread Cert.DwProjRefIdeal.nD Cert.DwProjRefIdeal.τ).loc Cert.DwProjRefIdeal.main_arg0)
          ∧ r.2.mem ((c.tc : Thread Cert.DwProjRefIdeal.nD Cert.DwProjRefIdeal.τ).loc Cert.DwProjRefIdeal.main_arg1) = m' ((c.tc : Thread Cert.DwProjRefIdeal.nD Cert.DwProjRefIdeal.τ).loc Cert.DwProjRefIdeal.main_arg1))

def preserves_AdamGains_AdamGainsIdeal : Prop :=
  True

def algebraic_AdamGainsIdeal_AdamGainsRefIdeal [hAdamGainsIdeal : Cert.AdamGainsIdeal.Facts] [hAdamGainsRefIdeal : Cert.AdamGainsRefIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg)
    (m' : (ℓ : Loc Cert.AdamGainsRefIdeal.nD Cert.AdamGainsRefIdeal.τ Cert.AdamGainsRefIdeal.sig) → Buf (Elt Ideal) ℓ) (g' : Dev Cert.AdamGainsRefIdeal.nD → PrngReg), Pre_AdamGainsIdeal m →
    (∀ c : Dev Cert.AdamGainsIdeal.nD,
      m' ((c.tc : Thread Cert.AdamGainsRefIdeal.nD Cert.AdamGainsRefIdeal.τ).loc Cert.AdamGainsRefIdeal.main_arg0) = m ((c.tc : Thread Cert.AdamGainsIdeal.nD Cert.AdamGainsIdeal.τ).loc Cert.AdamGainsIdeal.main_arg0)
      ∧ m' ((c.tc : Thread Cert.AdamGainsRefIdeal.nD Cert.AdamGainsRefIdeal.τ).loc Cert.AdamGainsRefIdeal.main_arg1) = m ((c.tc : Thread Cert.AdamGainsIdeal.nD Cert.AdamGainsIdeal.τ).loc Cert.AdamGainsIdeal.main_arg1)
      ∧ m' ((c.tc : Thread Cert.AdamGainsRefIdeal.nD Cert.AdamGainsRefIdeal.τ).loc Cert.AdamGainsRefIdeal.main_arg2) = m ((c.tc : Thread Cert.AdamGainsIdeal.nD Cert.AdamGainsIdeal.τ).loc Cert.AdamGainsIdeal.main_arg2)
      ∧ m' ((c.tc : Thread Cert.AdamGainsRefIdeal.nD Cert.AdamGainsRefIdeal.τ).loc Cert.AdamGainsRefIdeal.main_arg3) = m ((c.tc : Thread Cert.AdamGainsIdeal.nD Cert.AdamGainsIdeal.τ).loc Cert.AdamGainsIdeal.main_arg3)) →
    ∃ (v0 : (c : Dev Cert.AdamGainsIdeal.nD) → Buf (Elt Ideal) ((c.tc : Thread Cert.AdamGainsIdeal.nD Cert.AdamGainsIdeal.τ).loc Cert.AdamGainsIdeal.main_v0_0)) (v1 : (c : Dev Cert.AdamGainsIdeal.nD) → Buf (Elt Ideal) ((c.tc : Thread Cert.AdamGainsIdeal.nD Cert.AdamGainsIdeal.τ).loc Cert.AdamGainsIdeal.main_v0_1)) (v2 : (c : Dev Cert.AdamGainsIdeal.nD) → Buf (Elt Ideal) ((c.tc : Thread Cert.AdamGainsIdeal.nD Cert.AdamGainsIdeal.τ).loc Cert.AdamGainsIdeal.main_v0_2)) (v3 : (c : Dev Cert.AdamGainsIdeal.nD) → Buf (Elt Ideal) ((c.tc : Thread Cert.AdamGainsIdeal.nD Cert.AdamGainsIdeal.τ).loc Cert.AdamGainsIdeal.main_v0_3)),
      θ_run (Cert.AdamGainsIdeal.defs (F := Ideal)) (onTc (τ := Cert.AdamGainsIdeal.τ) (Cert.AdamGainsIdeal.main (F := Ideal))) ⟨m, fun _ => 0, g⟩ (fun r => ∀ c : Dev Cert.AdamGainsIdeal.nD,
          r.2.mem ((c.tc : Thread Cert.AdamGainsIdeal.nD Cert.AdamGainsIdeal.τ).loc Cert.AdamGainsIdeal.main_v0_0) = v0 c
          ∧ r.2.mem ((c.tc : Thread Cert.AdamGainsIdeal.nD Cert.AdamGainsIdeal.τ).loc Cert.AdamGainsIdeal.main_v0_1) = v1 c
          ∧ r.2.mem ((c.tc : Thread Cert.AdamGainsIdeal.nD Cert.AdamGainsIdeal.τ).loc Cert.AdamGainsIdeal.main_v0_2) = v2 c
          ∧ r.2.mem ((c.tc : Thread Cert.AdamGainsIdeal.nD Cert.AdamGainsIdeal.τ).loc Cert.AdamGainsIdeal.main_v0_3) = v3 c
          ∧ r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
          ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
          ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
          ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ θ_run (Cert.AdamGainsRefIdeal.defs (F := Ideal)) (onTc (τ := Cert.AdamGainsRefIdeal.τ) (Cert.AdamGainsRefIdeal.main (F := Ideal))) ⟨m', fun _ => 0, g'⟩ (fun r => ∀ c : Dev Cert.AdamGainsRefIdeal.nD,
          r.2.mem ((c.tc : Thread Cert.AdamGainsRefIdeal.nD Cert.AdamGainsRefIdeal.τ).loc Cert.AdamGainsRefIdeal.main_v0) = v0 c
          ∧ r.2.mem ((c.tc : Thread Cert.AdamGainsRefIdeal.nD Cert.AdamGainsRefIdeal.τ).loc Cert.AdamGainsRefIdeal.main_v24) = v1 c
          ∧ r.2.mem ((c.tc : Thread Cert.AdamGainsRefIdeal.nD Cert.AdamGainsRefIdeal.τ).loc Cert.AdamGainsRefIdeal.main_v5) = v2 c
          ∧ r.2.mem ((c.tc : Thread Cert.AdamGainsRefIdeal.nD Cert.AdamGainsRefIdeal.τ).loc Cert.AdamGainsRefIdeal.main_v11) = v3 c
          ∧ r.2.mem ((c.tc : Thread Cert.AdamGainsRefIdeal.nD Cert.AdamGainsRefIdeal.τ).loc Cert.AdamGainsRefIdeal.main_arg0) = m' ((c.tc : Thread Cert.AdamGainsRefIdeal.nD Cert.AdamGainsRefIdeal.τ).loc Cert.AdamGainsRefIdeal.main_arg0)
          ∧ r.2.mem ((c.tc : Thread Cert.AdamGainsRefIdeal.nD Cert.AdamGainsRefIdeal.τ).loc Cert.AdamGainsRefIdeal.main_arg1) = m' ((c.tc : Thread Cert.AdamGainsRefIdeal.nD Cert.AdamGainsRefIdeal.τ).loc Cert.AdamGainsRefIdeal.main_arg1)
          ∧ r.2.mem ((c.tc : Thread Cert.AdamGainsRefIdeal.nD Cert.AdamGainsRefIdeal.τ).loc Cert.AdamGainsRefIdeal.main_arg2) = m' ((c.tc : Thread Cert.AdamGainsRefIdeal.nD Cert.AdamGainsRefIdeal.τ).loc Cert.AdamGainsRefIdeal.main_arg2)
          ∧ r.2.mem ((c.tc : Thread Cert.AdamGainsRefIdeal.nD Cert.AdamGainsRefIdeal.τ).loc Cert.AdamGainsRefIdeal.main_arg3) = m' ((c.tc : Thread Cert.AdamGainsRefIdeal.nD Cert.AdamGainsRefIdeal.τ).loc Cert.AdamGainsRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_arg1) = v0 c
          ∧ r.2.mem ((c.tc : Thread Cert.AdamFfnInRefIdeal.nD Cert.AdamFfnInRefIdeal.τ).loc Cert.AdamFfnInRefIdeal.main_v23) = v1 c
          ∧ r.2.mem ((c.tc : Thread Cert.AdamFfnInRefIdeal.nD Cert.AdamFfnInRefIdeal.τ).loc Cert.AdamFfnInRefIdeal.main_v4) = v2 c
          ∧ r.2.mem ((c.tc : Thread Cert.AdamFfnInRefIdeal.nD Cert.AdamFfnInRefIdeal.τ).loc Cert.AdamFfnInRefIdeal.main_v10) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v0) = v0 c
          ∧ r.2.mem ((c.tc : Thread Cert.AdamFfnOutRefIdeal.nD Cert.AdamFfnOutRefIdeal.τ).loc Cert.AdamFfnOutRefIdeal.main_v24) = v1 c
          ∧ r.2.mem ((c.tc : Thread Cert.AdamFfnOutRefIdeal.nD Cert.AdamFfnOutRefIdeal.τ).loc Cert.AdamFfnOutRefIdeal.main_v5) = v2 c
          ∧ r.2.mem ((c.tc : Thread Cert.AdamFfnOutRefIdeal.nD Cert.AdamFfnOutRefIdeal.τ).loc Cert.AdamFfnOutRefIdeal.main_v11) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamMixIn_AdamMixInIdeal : Prop :=
  True

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)) →
    ∃ (v0 : (c : Dev Cert.AdamMixInIdeal.nD) → Buf (Elt Ideal) ((c.tc : Thread Cert.AdamMixInIdeal.nD Cert.AdamMixInIdeal.τ).loc Cert.AdamMixInIdeal.main_v3_0)) (v1 : (c : Dev Cert.AdamMixInIdeal.nD) → Buf (Elt Ideal) ((c.tc : Thread Cert.AdamMixInIdeal.nD Cert.AdamMixInIdeal.τ).loc Cert.AdamMixInIdeal.main_v3_1)) (v2 : (c : Dev Cert.AdamMixInIdeal.nD) → Buf (Elt Ideal) ((c.tc : Thread Cert.AdamMixInIdeal.nD Cert.AdamMixInIdeal.τ).loc Cert.AdamMixInIdeal.main_v3_2)) (v3 : (c : Dev Cert.AdamMixInIdeal.nD) → Buf (Elt Ideal) ((c.tc : Thread Cert.AdamMixInIdeal.nD Cert.AdamMixInIdeal.τ).loc Cert.AdamMixInIdeal.main_v3_3)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v3_0) = v0 c
          ∧ r.2.mem ((c.tc : Thread Cert.AdamMixInIdeal.nD Cert.AdamMixInIdeal.τ).loc Cert.AdamMixInIdeal.main_v3_1) = v1 c
          ∧ r.2.mem ((c.tc : Thread Cert.AdamMixInIdeal.nD Cert.AdamMixInIdeal.τ).loc Cert.AdamMixInIdeal.main_v3_2) = v2 c
          ∧ r.2.mem ((c.tc : Thread Cert.AdamMixInIdeal.nD Cert.AdamMixInIdeal.τ).loc Cert.AdamMixInIdeal.main_v3_3) = v3 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_v26) = v0 c
          ∧ r.2.mem ((c.tc : Thread Cert.AdamMixInRefIdeal.nD Cert.AdamMixInRefIdeal.τ).loc Cert.AdamMixInRefIdeal.main_v27) = v1 c
          ∧ r.2.mem ((c.tc : Thread Cert.AdamMixInRefIdeal.nD Cert.AdamMixInRefIdeal.τ).loc Cert.AdamMixInRefIdeal.main_v28) = v2 c
          ∧ r.2.mem ((c.tc : Thread Cert.AdamMixInRefIdeal.nD Cert.AdamMixInRefIdeal.τ).loc Cert.AdamMixInRefIdeal.main_v29) = v3 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_GainSum_GainSumIdeal : Prop :=
  True

def algebraic_GainSumIdeal_GainSumRefIdeal [hGainSumIdeal : Cert.GainSumIdeal.Facts] [hGainSumRefIdeal : Cert.GainSumRefIdeal.Facts] : Prop :=
  ∀ (m : (ℓ : Loc Cert.GainSumIdeal.nD Cert.GainSumIdeal.τ Cert.GainSumIdeal.sig) → Buf (Elt Ideal) ℓ) (g : Dev Cert.GainSumIdeal.nD → PrngReg)
    (m' : (ℓ : Loc Cert.GainSumRefIdeal.nD Cert.GainSumRefIdeal.τ Cert.GainSumRefIdeal.sig) → Buf (Elt Ideal) ℓ) (g' : Dev Cert.GainSumRefIdeal.nD → PrngReg), Pre_GainSumIdeal m →
    (∀ c : Dev Cert.GainSumIdeal.nD,
      m' ((c.tc : Thread Cert.GainSumRefIdeal.nD Cert.GainSumRefIdeal.τ).loc Cert.GainSumRefIdeal.main_arg0) = m ((c.tc : Thread Cert.GainSumIdeal.nD Cert.GainSumIdeal.τ).loc Cert.GainSumIdeal.main_arg0)) →
    ∃ (v0 : (c : Dev Cert.GainSumIdeal.nD) → Buf (Elt Ideal) ((c.tc : Thread Cert.GainSumIdeal.nD Cert.GainSumIdeal.τ).loc Cert.GainSumIdeal.main_v0)) (v1 : (c : Dev Cert.GainSumIdeal.nD) → Buf (Elt Ideal) ((c.tc : Thread Cert.GainSumIdeal.nD Cert.GainSumIdeal.τ).loc Cert.GainSumIdeal.main_v5)),
      θ_run (Cert.GainSumIdeal.defs (F := Ideal)) (onTc (τ := Cert.GainSumIdeal.τ) (Cert.GainSumIdeal.main (F := Ideal))) ⟨m, fun _ => 0, g⟩ (fun r => ∀ c : Dev Cert.GainSumIdeal.nD,
          r.2.mem ((c.tc : Thread Cert.GainSumIdeal.nD Cert.GainSumIdeal.τ).loc Cert.GainSumIdeal.main_v0) = v0 c
          ∧ r.2.mem ((c.tc : Thread Cert.GainSumIdeal.nD Cert.GainSumIdeal.τ).loc Cert.GainSumIdeal.main_v5) = v1 c
          ∧ r.2.mem ((c.tc : Thread Cert.GainSumIdeal.nD Cert.GainSumIdeal.τ).loc Cert.GainSumIdeal.main_arg0) = m ((c.tc : Thread Cert.GainSumIdeal.nD Cert.GainSumIdeal.τ).loc Cert.GainSumIdeal.main_arg0))
      ∧ θ_run (Cert.GainSumRefIdeal.defs (F := Ideal)) (onTc (τ := Cert.GainSumRefIdeal.τ) (Cert.GainSumRefIdeal.main (F := Ideal))) ⟨m', fun _ => 0, g'⟩ (fun r => ∀ c : Dev Cert.GainSumRefIdeal.nD,
          r.2.mem ((c.tc : Thread Cert.GainSumRefIdeal.nD Cert.GainSumRefIdeal.τ).loc Cert.GainSumRefIdeal.main_v0) = v0 c
          ∧ r.2.mem ((c.tc : Thread Cert.GainSumRefIdeal.nD Cert.GainSumRefIdeal.τ).loc Cert.GainSumRefIdeal.main_v5) = v1 c
          ∧ r.2.mem ((c.tc : Thread Cert.GainSumRefIdeal.nD Cert.GainSumRefIdeal.τ).loc Cert.GainSumRefIdeal.main_arg0) = m' ((c.tc : Thread Cert.GainSumRefIdeal.nD Cert.GainSumRefIdeal.τ).loc Cert.GainSumRefIdeal.main_arg0))

def preserves_AdamFfn1Out_AdamFfn1OutIdeal : Prop :=
  True

def algebraic_AdamFfn1OutIdeal_AdamFfn1OutRefIdeal [hAdamFfn1OutIdeal : Cert.AdamFfn1OutIdeal.Facts] [hAdamFfn1OutRefIdeal : Cert.AdamFfn1OutRefIdeal.Facts] : Prop :=
  ∀ (m : (ℓ : Loc Cert.AdamFfn1OutIdeal.nD Cert.AdamFfn1OutIdeal.τ Cert.AdamFfn1OutIdeal.sig) → Buf (Elt Ideal) ℓ) (g : Dev Cert.AdamFfn1OutIdeal.nD → PrngReg)
    (m' : (ℓ : Loc Cert.AdamFfn1OutRefIdeal.nD Cert.AdamFfn1OutRefIdeal.τ Cert.AdamFfn1OutRefIdeal.sig) → Buf (Elt Ideal) ℓ) (g' : Dev Cert.AdamFfn1OutRefIdeal.nD → PrngReg), Pre_AdamFfn1OutIdeal m →
    (∀ c : Dev Cert.AdamFfn1OutIdeal.nD,
      m' ((c.tc : Thread Cert.AdamFfn1OutRefIdeal.nD Cert.AdamFfn1OutRefIdeal.τ).loc Cert.AdamFfn1OutRefIdeal.main_arg0) = m ((c.tc : Thread Cert.AdamFfn1OutIdeal.nD Cert.AdamFfn1OutIdeal.τ).loc Cert.AdamFfn1OutIdeal.main_arg0)
      ∧ m' ((c.tc : Thread Cert.AdamFfn1OutRefIdeal.nD Cert.AdamFfn1OutRefIdeal.τ).loc Cert.AdamFfn1OutRefIdeal.main_arg1) = m ((c.tc : Thread Cert.AdamFfn1OutIdeal.nD Cert.AdamFfn1OutIdeal.τ).loc Cert.AdamFfn1OutIdeal.main_arg1)
      ∧ m' ((c.tc : Thread Cert.AdamFfn1OutRefIdeal.nD Cert.AdamFfn1OutRefIdeal.τ).loc Cert.AdamFfn1OutRefIdeal.main_arg2) = m ((c.tc : Thread Cert.AdamFfn1OutIdeal.nD Cert.AdamFfn1OutIdeal.τ).loc Cert.AdamFfn1OutIdeal.main_arg2)
      ∧ m' ((c.tc : Thread Cert.AdamFfn1OutRefIdeal.nD Cert.AdamFfn1OutRefIdeal.τ).loc Cert.AdamFfn1OutRefIdeal.main_arg3) = m ((c.tc : Thread Cert.AdamFfn1OutIdeal.nD Cert.AdamFfn1OutIdeal.τ).loc Cert.AdamFfn1OutIdeal.main_arg3)) →
    ∃ (v0 : (c : Dev Cert.AdamFfn1OutIdeal.nD) → Buf (Elt Ideal) ((c.tc : Thread Cert.AdamFfn1OutIdeal.nD Cert.AdamFfn1OutIdeal.τ).loc Cert.AdamFfn1OutIdeal.main_v0_0)) (v1 : (c : Dev Cert.AdamFfn1OutIdeal.nD) → Buf (Elt Ideal) ((c.tc : Thread Cert.AdamFfn1OutIdeal.nD Cert.AdamFfn1OutIdeal.τ).loc Cert.AdamFfn1OutIdeal.main_v0_1)) (v2 : (c : Dev Cert.AdamFfn1OutIdeal.nD) → Buf (Elt Ideal) ((c.tc : Thread Cert.AdamFfn1OutIdeal.nD Cert.AdamFfn1OutIdeal.τ).loc Cert.AdamFfn1OutIdeal.main_v0_2)) (v3 : (c : Dev Cert.AdamFfn1OutIdeal.nD) → Buf (Elt Ideal) ((c.tc : Thread Cert.AdamFfn1OutIdeal.nD Cert.AdamFfn1OutIdeal.τ).loc Cert.AdamFfn1OutIdeal.main_v0_3)),
      θ_run (Cert.AdamFfn1OutIdeal.defs (F := Ideal)) (onTc (τ := Cert.AdamFfn1OutIdeal.τ) (Cert.AdamFfn1OutIdeal.main (F := Ideal))) ⟨m, fun _ => 0, g⟩ (fun r => ∀ c : Dev Cert.AdamFfn1OutIdeal.nD,
          r.2.mem ((c.tc : Thread Cert.AdamFfn1OutIdeal.nD Cert.AdamFfn1OutIdeal.τ).loc Cert.AdamFfn1OutIdeal.main_v0_0) = v0 c
          ∧ r.2.mem ((c.tc : Thread Cert.AdamFfn1OutIdeal.nD Cert.AdamFfn1OutIdeal.τ).loc Cert.AdamFfn1OutIdeal.main_v0_1) = v1 c
          ∧ r.2.mem ((c.tc : Thread Cert.AdamFfn1OutIdeal.nD Cert.AdamFfn1OutIdeal.τ).loc Cert.AdamFfn1OutIdeal.main_v0_2) = v2 c
          ∧ r.2.mem ((c.tc : Thread Cert.AdamFfn1OutIdeal.nD Cert.AdamFfn1OutIdeal.τ).loc Cert.AdamFfn1OutIdeal.main_v0_3) = v3 c
          ∧ r.2.mem ((c.tc : Thread Cert.AdamFfn1OutIdeal.nD Cert.AdamFfn1OutIdeal.τ).loc Cert.AdamFfn1OutIdeal.main_arg0) = m ((c.tc : Thread Cert.AdamFfn1OutIdeal.nD Cert.AdamFfn1OutIdeal.τ).loc Cert.AdamFfn1OutIdeal.main_arg0)
          ∧ r.2.mem ((c.tc : Thread Cert.AdamFfn1OutIdeal.nD Cert.AdamFfn1OutIdeal.τ).loc Cert.AdamFfn1OutIdeal.main_arg1) = m ((c.tc : Thread Cert.AdamFfn1OutIdeal.nD Cert.AdamFfn1OutIdeal.τ).loc Cert.AdamFfn1OutIdeal.main_arg1)
          ∧ r.2.mem ((c.tc : Thread Cert.AdamFfn1OutIdeal.nD Cert.AdamFfn1OutIdeal.τ).loc Cert.AdamFfn1OutIdeal.main_arg2) = m ((c.tc : Thread Cert.AdamFfn1OutIdeal.nD Cert.AdamFfn1OutIdeal.τ).loc Cert.AdamFfn1OutIdeal.main_arg2)
          ∧ r.2.mem ((c.tc : Thread Cert.AdamFfn1OutIdeal.nD Cert.AdamFfn1OutIdeal.τ).loc Cert.AdamFfn1OutIdeal.main_arg3) = m ((c.tc : Thread Cert.AdamFfn1OutIdeal.nD Cert.AdamFfn1OutIdeal.τ).loc Cert.AdamFfn1OutIdeal.main_arg3))
      ∧ θ_run (Cert.AdamFfn1OutRefIdeal.defs (F := Ideal)) (onTc (τ := Cert.AdamFfn1OutRefIdeal.τ) (Cert.AdamFfn1OutRefIdeal.main (F := Ideal))) ⟨m', fun _ => 0, g'⟩ (fun r => ∀ c : Dev Cert.AdamFfn1OutRefIdeal.nD,
          r.2.mem ((c.tc : Thread Cert.AdamFfn1OutRefIdeal.nD Cert.AdamFfn1OutRefIdeal.τ).loc Cert.AdamFfn1OutRefIdeal.main_arg1) = v0 c
          ∧ r.2.mem ((c.tc : Thread Cert.AdamFfn1OutRefIdeal.nD Cert.AdamFfn1OutRefIdeal.τ).loc Cert.AdamFfn1OutRefIdeal.main_v23) = v1 c
          ∧ r.2.mem ((c.tc : Thread Cert.AdamFfn1OutRefIdeal.nD Cert.AdamFfn1OutRefIdeal.τ).loc Cert.AdamFfn1OutRefIdeal.main_v4) = v2 c
          ∧ r.2.mem ((c.tc : Thread Cert.AdamFfn1OutRefIdeal.nD Cert.AdamFfn1OutRefIdeal.τ).loc Cert.AdamFfn1OutRefIdeal.main_v10) = v3 c
          ∧ r.2.mem ((c.tc : Thread Cert.AdamFfn1OutRefIdeal.nD Cert.AdamFfn1OutRefIdeal.τ).loc Cert.AdamFfn1OutRefIdeal.main_arg0) = m' ((c.tc : Thread Cert.AdamFfn1OutRefIdeal.nD Cert.AdamFfn1OutRefIdeal.τ).loc Cert.AdamFfn1OutRefIdeal.main_arg0)
          ∧ r.2.mem ((c.tc : Thread Cert.AdamFfn1OutRefIdeal.nD Cert.AdamFfn1OutRefIdeal.τ).loc Cert.AdamFfn1OutRefIdeal.main_arg1) = m' ((c.tc : Thread Cert.AdamFfn1OutRefIdeal.nD Cert.AdamFfn1OutRefIdeal.τ).loc Cert.AdamFfn1OutRefIdeal.main_arg1)
          ∧ r.2.mem ((c.tc : Thread Cert.AdamFfn1OutRefIdeal.nD Cert.AdamFfn1OutRefIdeal.τ).loc Cert.AdamFfn1OutRefIdeal.main_arg2) = m' ((c.tc : Thread Cert.AdamFfn1OutRefIdeal.nD Cert.AdamFfn1OutRefIdeal.τ).loc Cert.AdamFfn1OutRefIdeal.main_arg2)
          ∧ r.2.mem ((c.tc : Thread Cert.AdamFfn1OutRefIdeal.nD Cert.AdamFfn1OutRefIdeal.τ).loc Cert.AdamFfn1OutRefIdeal.main_arg3) = m' ((c.tc : Thread Cert.AdamFfn1OutRefIdeal.nD Cert.AdamFfn1OutRefIdeal.τ).loc Cert.AdamFfn1OutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v0) = v0 c
          ∧ r.2.mem ((c.tc : Thread Cert.AdamGateRefIdeal.nD Cert.AdamGateRefIdeal.τ).loc Cert.AdamGateRefIdeal.main_v24) = v1 c
          ∧ r.2.mem ((c.tc : Thread Cert.AdamGateRefIdeal.nD Cert.AdamGateRefIdeal.τ).loc Cert.AdamGateRefIdeal.main_v5) = v2 c
          ∧ r.2.mem ((c.tc : Thread Cert.AdamGateRefIdeal.nD Cert.AdamGateRefIdeal.τ).loc Cert.AdamGateRefIdeal.main_v11) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v0) = v0 c
          ∧ r.2.mem ((c.tc : Thread Cert.AdamBranchRefIdeal.nD Cert.AdamBranchRefIdeal.τ).loc Cert.AdamBranchRefIdeal.main_v24) = v1 c
          ∧ r.2.mem ((c.tc : Thread Cert.AdamBranchRefIdeal.nD Cert.AdamBranchRefIdeal.τ).loc Cert.AdamBranchRefIdeal.main_v5) = v2 c
          ∧ r.2.mem ((c.tc : Thread Cert.AdamBranchRefIdeal.nD Cert.AdamBranchRefIdeal.τ).loc Cert.AdamBranchRefIdeal.main_v11) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamLatent_AdamLatentIdeal : Prop :=
  True

def algebraic_AdamLatentIdeal_AdamLatentRefIdeal [hAdamLatentIdeal : Cert.AdamLatentIdeal.Facts] [hAdamLatentRefIdeal : Cert.AdamLatentRefIdeal.Facts] : Prop :=
  ∀ (m : (ℓ : Loc Cert.AdamLatentIdeal.nD Cert.AdamLatentIdeal.τ Cert.AdamLatentIdeal.sig) → Buf (Elt Ideal) ℓ) (g : Dev Cert.AdamLatentIdeal.nD → PrngReg)
    (m' : (ℓ : Loc Cert.AdamLatentRefIdeal.nD Cert.AdamLatentRefIdeal.τ Cert.AdamLatentRefIdeal.sig) → Buf (Elt Ideal) ℓ) (g' : Dev Cert.AdamLatentRefIdeal.nD → PrngReg), Pre_AdamLatentIdeal m →
    (∀ c : Dev Cert.AdamLatentIdeal.nD,
      m' ((c.tc : Thread Cert.AdamLatentRefIdeal.nD Cert.AdamLatentRefIdeal.τ).loc Cert.AdamLatentRefIdeal.main_arg0) = m ((c.tc : Thread Cert.AdamLatentIdeal.nD Cert.AdamLatentIdeal.τ).loc Cert.AdamLatentIdeal.main_arg0)
      ∧ m' ((c.tc : Thread Cert.AdamLatentRefIdeal.nD Cert.AdamLatentRefIdeal.τ).loc Cert.AdamLatentRefIdeal.main_arg1) = m ((c.tc : Thread Cert.AdamLatentIdeal.nD Cert.AdamLatentIdeal.τ).loc Cert.AdamLatentIdeal.main_arg1)
      ∧ m' ((c.tc : Thread Cert.AdamLatentRefIdeal.nD Cert.AdamLatentRefIdeal.τ).loc Cert.AdamLatentRefIdeal.main_arg2) = m ((c.tc : Thread Cert.AdamLatentIdeal.nD Cert.AdamLatentIdeal.τ).loc Cert.AdamLatentIdeal.main_arg2)
      ∧ m' ((c.tc : Thread Cert.AdamLatentRefIdeal.nD Cert.AdamLatentRefIdeal.τ).loc Cert.AdamLatentRefIdeal.main_arg3) = m ((c.tc : Thread Cert.AdamLatentIdeal.nD Cert.AdamLatentIdeal.τ).loc Cert.AdamLatentIdeal.main_arg3)) →
    ∃ (v0 : (c : Dev Cert.AdamLatentIdeal.nD) → Buf (Elt Ideal) ((c.tc : Thread Cert.AdamLatentIdeal.nD Cert.AdamLatentIdeal.τ).loc Cert.AdamLatentIdeal.main_v0_0)) (v1 : (c : Dev Cert.AdamLatentIdeal.nD) → Buf (Elt Ideal) ((c.tc : Thread Cert.AdamLatentIdeal.nD Cert.AdamLatentIdeal.τ).loc Cert.AdamLatentIdeal.main_v0_1)) (v2 : (c : Dev Cert.AdamLatentIdeal.nD) → Buf (Elt Ideal) ((c.tc : Thread Cert.AdamLatentIdeal.nD Cert.AdamLatentIdeal.τ).loc Cert.AdamLatentIdeal.main_v0_2)) (v3 : (c : Dev Cert.AdamLatentIdeal.nD) → Buf (Elt Ideal) ((c.tc : Thread Cert.AdamLatentIdeal.nD Cert.AdamLatentIdeal.τ).loc Cert.AdamLatentIdeal.main_v0_3)),
      θ_run (Cert.AdamLatentIdeal.defs (F := Ideal)) (onTc (τ := Cert.AdamLatentIdeal.τ) (Cert.AdamLatentIdeal.main (F := Ideal))) ⟨m, fun _ => 0, g⟩ (fun r => ∀ c : Dev Cert.AdamLatentIdeal.nD,
          r.2.mem ((c.tc : Thread Cert.AdamLatentIdeal.nD Cert.AdamLatentIdeal.τ).loc Cert.AdamLatentIdeal.main_v0_0) = v0 c
          ∧ r.2.mem ((c.tc : Thread Cert.AdamLatentIdeal.nD Cert.AdamLatentIdeal.τ).loc Cert.AdamLatentIdeal.main_v0_1) = v1 c
          ∧ r.2.mem ((c.tc : Thread Cert.AdamLatentIdeal.nD Cert.AdamLatentIdeal.τ).loc Cert.AdamLatentIdeal.main_v0_2) = v2 c
          ∧ r.2.mem ((c.tc : Thread Cert.AdamLatentIdeal.nD Cert.AdamLatentIdeal.τ).loc Cert.AdamLatentIdeal.main_v0_3) = v3 c
          ∧ r.2.mem ((c.tc : Thread Cert.AdamLatentIdeal.nD Cert.AdamLatentIdeal.τ).loc Cert.AdamLatentIdeal.main_arg0) = m ((c.tc : Thread Cert.AdamLatentIdeal.nD Cert.AdamLatentIdeal.τ).loc Cert.AdamLatentIdeal.main_arg0)
          ∧ r.2.mem ((c.tc : Thread Cert.AdamLatentIdeal.nD Cert.AdamLatentIdeal.τ).loc Cert.AdamLatentIdeal.main_arg1) = m ((c.tc : Thread Cert.AdamLatentIdeal.nD Cert.AdamLatentIdeal.τ).loc Cert.AdamLatentIdeal.main_arg1)
          ∧ r.2.mem ((c.tc : Thread Cert.AdamLatentIdeal.nD Cert.AdamLatentIdeal.τ).loc Cert.AdamLatentIdeal.main_arg2) = m ((c.tc : Thread Cert.AdamLatentIdeal.nD Cert.AdamLatentIdeal.τ).loc Cert.AdamLatentIdeal.main_arg2)
          ∧ r.2.mem ((c.tc : Thread Cert.AdamLatentIdeal.nD Cert.AdamLatentIdeal.τ).loc Cert.AdamLatentIdeal.main_arg3) = m ((c.tc : Thread Cert.AdamLatentIdeal.nD Cert.AdamLatentIdeal.τ).loc Cert.AdamLatentIdeal.main_arg3))
      ∧ θ_run (Cert.AdamLatentRefIdeal.defs (F := Ideal)) (onTc (τ := Cert.AdamLatentRefIdeal.τ) (Cert.AdamLatentRefIdeal.main (F := Ideal))) ⟨m', fun _ => 0, g'⟩ (fun r => ∀ c : Dev Cert.AdamLatentRefIdeal.nD,
          r.2.mem ((c.tc : Thread Cert.AdamLatentRefIdeal.nD Cert.AdamLatentRefIdeal.τ).loc Cert.AdamLatentRefIdeal.main_v0) = v0 c
          ∧ r.2.mem ((c.tc : Thread Cert.AdamLatentRefIdeal.nD Cert.AdamLatentRefIdeal.τ).loc Cert.AdamLatentRefIdeal.main_v24) = v1 c
          ∧ r.2.mem ((c.tc : Thread Cert.AdamLatentRefIdeal.nD Cert.AdamLatentRefIdeal.τ).loc Cert.AdamLatentRefIdeal.main_v5) = v2 c
          ∧ r.2.mem ((c.tc : Thread Cert.AdamLatentRefIdeal.nD Cert.AdamLatentRefIdeal.τ).loc Cert.AdamLatentRefIdeal.main_v11) = v3 c
          ∧ r.2.mem ((c.tc : Thread Cert.AdamLatentRefIdeal.nD Cert.AdamLatentRefIdeal.τ).loc Cert.AdamLatentRefIdeal.main_arg0) = m' ((c.tc : Thread Cert.AdamLatentRefIdeal.nD Cert.AdamLatentRefIdeal.τ).loc Cert.AdamLatentRefIdeal.main_arg0)
          ∧ r.2.mem ((c.tc : Thread Cert.AdamLatentRefIdeal.nD Cert.AdamLatentRefIdeal.τ).loc Cert.AdamLatentRefIdeal.main_arg1) = m' ((c.tc : Thread Cert.AdamLatentRefIdeal.nD Cert.AdamLatentRefIdeal.τ).loc Cert.AdamLatentRefIdeal.main_arg1)
          ∧ r.2.mem ((c.tc : Thread Cert.AdamLatentRefIdeal.nD Cert.AdamLatentRefIdeal.τ).loc Cert.AdamLatentRefIdeal.main_arg2) = m' ((c.tc : Thread Cert.AdamLatentRefIdeal.nD Cert.AdamLatentRefIdeal.τ).loc Cert.AdamLatentRefIdeal.main_arg2)
          ∧ r.2.mem ((c.tc : Thread Cert.AdamLatentRefIdeal.nD Cert.AdamLatentRefIdeal.τ).loc Cert.AdamLatentRefIdeal.main_arg3) = m' ((c.tc : Thread Cert.AdamLatentRefIdeal.nD Cert.AdamLatentRefIdeal.τ).loc Cert.AdamLatentRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v0) = v0 c
          ∧ r.2.mem ((c.tc : Thread Cert.AdamProjRefIdeal.nD Cert.AdamProjRefIdeal.τ).loc Cert.AdamProjRefIdeal.main_v24) = v1 c
          ∧ r.2.mem ((c.tc : Thread Cert.AdamProjRefIdeal.nD Cert.AdamProjRefIdeal.τ).loc Cert.AdamProjRefIdeal.main_v5) = v2 c
          ∧ r.2.mem ((c.tc : Thread Cert.AdamProjRefIdeal.nD Cert.AdamProjRefIdeal.τ).loc Cert.AdamProjRefIdeal.main_v11) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamQUp_AdamQUpIdeal : Prop :=
  True

def algebraic_AdamQUpIdeal_AdamQUpRefIdeal [hAdamQUpIdeal : Cert.AdamQUpIdeal.Facts] [hAdamQUpRefIdeal : Cert.AdamQUpRefIdeal.Facts] : Prop :=
  ∀ (m : (ℓ : Loc Cert.AdamQUpIdeal.nD Cert.AdamQUpIdeal.τ Cert.AdamQUpIdeal.sig) → Buf (Elt Ideal) ℓ) (g : Dev Cert.AdamQUpIdeal.nD → PrngReg)
    (m' : (ℓ : Loc Cert.AdamQUpRefIdeal.nD Cert.AdamQUpRefIdeal.τ Cert.AdamQUpRefIdeal.sig) → Buf (Elt Ideal) ℓ) (g' : Dev Cert.AdamQUpRefIdeal.nD → PrngReg), Pre_AdamQUpIdeal m →
    (∀ c : Dev Cert.AdamQUpIdeal.nD,
      m' ((c.tc : Thread Cert.AdamQUpRefIdeal.nD Cert.AdamQUpRefIdeal.τ).loc Cert.AdamQUpRefIdeal.main_arg0) = m ((c.tc : Thread Cert.AdamQUpIdeal.nD Cert.AdamQUpIdeal.τ).loc Cert.AdamQUpIdeal.main_arg0)
      ∧ m' ((c.tc : Thread Cert.AdamQUpRefIdeal.nD Cert.AdamQUpRefIdeal.τ).loc Cert.AdamQUpRefIdeal.main_arg1) = m ((c.tc : Thread Cert.AdamQUpIdeal.nD Cert.AdamQUpIdeal.τ).loc Cert.AdamQUpIdeal.main_arg1)
      ∧ m' ((c.tc : Thread Cert.AdamQUpRefIdeal.nD Cert.AdamQUpRefIdeal.τ).loc Cert.AdamQUpRefIdeal.main_arg2) = m ((c.tc : Thread Cert.AdamQUpIdeal.nD Cert.AdamQUpIdeal.τ).loc Cert.AdamQUpIdeal.main_arg2)
      ∧ m' ((c.tc : Thread Cert.AdamQUpRefIdeal.nD Cert.AdamQUpRefIdeal.τ).loc Cert.AdamQUpRefIdeal.main_arg3) = m ((c.tc : Thread Cert.AdamQUpIdeal.nD Cert.AdamQUpIdeal.τ).loc Cert.AdamQUpIdeal.main_arg3)) →
    ∃ (v0 : (c : Dev Cert.AdamQUpIdeal.nD) → Buf (Elt Ideal) ((c.tc : Thread Cert.AdamQUpIdeal.nD Cert.AdamQUpIdeal.τ).loc Cert.AdamQUpIdeal.main_v0_0)) (v1 : (c : Dev Cert.AdamQUpIdeal.nD) → Buf (Elt Ideal) ((c.tc : Thread Cert.AdamQUpIdeal.nD Cert.AdamQUpIdeal.τ).loc Cert.AdamQUpIdeal.main_v0_1)) (v2 : (c : Dev Cert.AdamQUpIdeal.nD) → Buf (Elt Ideal) ((c.tc : Thread Cert.AdamQUpIdeal.nD Cert.AdamQUpIdeal.τ).loc Cert.AdamQUpIdeal.main_v0_2)) (v3 : (c : Dev Cert.AdamQUpIdeal.nD) → Buf (Elt Ideal) ((c.tc : Thread Cert.AdamQUpIdeal.nD Cert.AdamQUpIdeal.τ).loc Cert.AdamQUpIdeal.main_v0_3)),
      θ_run (Cert.AdamQUpIdeal.defs (F := Ideal)) (onTc (τ := Cert.AdamQUpIdeal.τ) (Cert.AdamQUpIdeal.main (F := Ideal))) ⟨m, fun _ => 0, g⟩ (fun r => ∀ c : Dev Cert.AdamQUpIdeal.nD,
          r.2.mem ((c.tc : Thread Cert.AdamQUpIdeal.nD Cert.AdamQUpIdeal.τ).loc Cert.AdamQUpIdeal.main_v0_0) = v0 c
          ∧ r.2.mem ((c.tc : Thread Cert.AdamQUpIdeal.nD Cert.AdamQUpIdeal.τ).loc Cert.AdamQUpIdeal.main_v0_1) = v1 c
          ∧ r.2.mem ((c.tc : Thread Cert.AdamQUpIdeal.nD Cert.AdamQUpIdeal.τ).loc Cert.AdamQUpIdeal.main_v0_2) = v2 c
          ∧ r.2.mem ((c.tc : Thread Cert.AdamQUpIdeal.nD Cert.AdamQUpIdeal.τ).loc Cert.AdamQUpIdeal.main_v0_3) = v3 c
          ∧ r.2.mem ((c.tc : Thread Cert.AdamQUpIdeal.nD Cert.AdamQUpIdeal.τ).loc Cert.AdamQUpIdeal.main_arg0) = m ((c.tc : Thread Cert.AdamQUpIdeal.nD Cert.AdamQUpIdeal.τ).loc Cert.AdamQUpIdeal.main_arg0)
          ∧ r.2.mem ((c.tc : Thread Cert.AdamQUpIdeal.nD Cert.AdamQUpIdeal.τ).loc Cert.AdamQUpIdeal.main_arg1) = m ((c.tc : Thread Cert.AdamQUpIdeal.nD Cert.AdamQUpIdeal.τ).loc Cert.AdamQUpIdeal.main_arg1)
          ∧ r.2.mem ((c.tc : Thread Cert.AdamQUpIdeal.nD Cert.AdamQUpIdeal.τ).loc Cert.AdamQUpIdeal.main_arg2) = m ((c.tc : Thread Cert.AdamQUpIdeal.nD Cert.AdamQUpIdeal.τ).loc Cert.AdamQUpIdeal.main_arg2)
          ∧ r.2.mem ((c.tc : Thread Cert.AdamQUpIdeal.nD Cert.AdamQUpIdeal.τ).loc Cert.AdamQUpIdeal.main_arg3) = m ((c.tc : Thread Cert.AdamQUpIdeal.nD Cert.AdamQUpIdeal.τ).loc Cert.AdamQUpIdeal.main_arg3))
      ∧ θ_run (Cert.AdamQUpRefIdeal.defs (F := Ideal)) (onTc (τ := Cert.AdamQUpRefIdeal.τ) (Cert.AdamQUpRefIdeal.main (F := Ideal))) ⟨m', fun _ => 0, g'⟩ (fun r => ∀ c : Dev Cert.AdamQUpRefIdeal.nD,
          r.2.mem ((c.tc : Thread Cert.AdamQUpRefIdeal.nD Cert.AdamQUpRefIdeal.τ).loc Cert.AdamQUpRefIdeal.main_arg1) = v0 c
          ∧ r.2.mem ((c.tc : Thread Cert.AdamQUpRefIdeal.nD Cert.AdamQUpRefIdeal.τ).loc Cert.AdamQUpRefIdeal.main_v23) = v1 c
          ∧ r.2.mem ((c.tc : Thread Cert.AdamQUpRefIdeal.nD Cert.AdamQUpRefIdeal.τ).loc Cert.AdamQUpRefIdeal.main_v4) = v2 c
          ∧ r.2.mem ((c.tc : Thread Cert.AdamQUpRefIdeal.nD Cert.AdamQUpRefIdeal.τ).loc Cert.AdamQUpRefIdeal.main_v10) = v3 c
          ∧ r.2.mem ((c.tc : Thread Cert.AdamQUpRefIdeal.nD Cert.AdamQUpRefIdeal.τ).loc Cert.AdamQUpRefIdeal.main_arg0) = m' ((c.tc : Thread Cert.AdamQUpRefIdeal.nD Cert.AdamQUpRefIdeal.τ).loc Cert.AdamQUpRefIdeal.main_arg0)
          ∧ r.2.mem ((c.tc : Thread Cert.AdamQUpRefIdeal.nD Cert.AdamQUpRefIdeal.τ).loc Cert.AdamQUpRefIdeal.main_arg1) = m' ((c.tc : Thread Cert.AdamQUpRefIdeal.nD Cert.AdamQUpRefIdeal.τ).loc Cert.AdamQUpRefIdeal.main_arg1)
          ∧ r.2.mem ((c.tc : Thread Cert.AdamQUpRefIdeal.nD Cert.AdamQUpRefIdeal.τ).loc Cert.AdamQUpRefIdeal.main_arg2) = m' ((c.tc : Thread Cert.AdamQUpRefIdeal.nD Cert.AdamQUpRefIdeal.τ).loc Cert.AdamQUpRefIdeal.main_arg2)
          ∧ r.2.mem ((c.tc : Thread Cert.AdamQUpRefIdeal.nD Cert.AdamQUpRefIdeal.τ).loc Cert.AdamQUpRefIdeal.main_arg3) = m' ((c.tc : Thread Cert.AdamQUpRefIdeal.nD Cert.AdamQUpRefIdeal.τ).loc Cert.AdamQUpRefIdeal.main_arg3))

def preserves_AdamKvUp_AdamKvUpIdeal : Prop :=
  True

def algebraic_AdamKvUpIdeal_AdamKvUpRefIdeal [hAdamKvUpIdeal : Cert.AdamKvUpIdeal.Facts] [hAdamKvUpRefIdeal : Cert.AdamKvUpRefIdeal.Facts] : Prop :=
  ∀ (m : (ℓ : Loc Cert.AdamKvUpIdeal.nD Cert.AdamKvUpIdeal.τ Cert.AdamKvUpIdeal.sig) → Buf (Elt Ideal) ℓ) (g : Dev Cert.AdamKvUpIdeal.nD → PrngReg)
    (m' : (ℓ : Loc Cert.AdamKvUpRefIdeal.nD Cert.AdamKvUpRefIdeal.τ Cert.AdamKvUpRefIdeal.sig) → Buf (Elt Ideal) ℓ) (g' : Dev Cert.AdamKvUpRefIdeal.nD → PrngReg), Pre_AdamKvUpIdeal m →
    (∀ c : Dev Cert.AdamKvUpIdeal.nD,
      m' ((c.tc : Thread Cert.AdamKvUpRefIdeal.nD Cert.AdamKvUpRefIdeal.τ).loc Cert.AdamKvUpRefIdeal.main_arg0) = m ((c.tc : Thread Cert.AdamKvUpIdeal.nD Cert.AdamKvUpIdeal.τ).loc Cert.AdamKvUpIdeal.main_arg0)
      ∧ m' ((c.tc : Thread Cert.AdamKvUpRefIdeal.nD Cert.AdamKvUpRefIdeal.τ).loc Cert.AdamKvUpRefIdeal.main_arg1) = m ((c.tc : Thread Cert.AdamKvUpIdeal.nD Cert.AdamKvUpIdeal.τ).loc Cert.AdamKvUpIdeal.main_arg1)
      ∧ m' ((c.tc : Thread Cert.AdamKvUpRefIdeal.nD Cert.AdamKvUpRefIdeal.τ).loc Cert.AdamKvUpRefIdeal.main_arg2) = m ((c.tc : Thread Cert.AdamKvUpIdeal.nD Cert.AdamKvUpIdeal.τ).loc Cert.AdamKvUpIdeal.main_arg2)
      ∧ m' ((c.tc : Thread Cert.AdamKvUpRefIdeal.nD Cert.AdamKvUpRefIdeal.τ).loc Cert.AdamKvUpRefIdeal.main_arg3) = m ((c.tc : Thread Cert.AdamKvUpIdeal.nD Cert.AdamKvUpIdeal.τ).loc Cert.AdamKvUpIdeal.main_arg3)) →
    ∃ (v0 : (c : Dev Cert.AdamKvUpIdeal.nD) → Buf (Elt Ideal) ((c.tc : Thread Cert.AdamKvUpIdeal.nD Cert.AdamKvUpIdeal.τ).loc Cert.AdamKvUpIdeal.main_v0_0)) (v1 : (c : Dev Cert.AdamKvUpIdeal.nD) → Buf (Elt Ideal) ((c.tc : Thread Cert.AdamKvUpIdeal.nD Cert.AdamKvUpIdeal.τ).loc Cert.AdamKvUpIdeal.main_v0_1)) (v2 : (c : Dev Cert.AdamKvUpIdeal.nD) → Buf (Elt Ideal) ((c.tc : Thread Cert.AdamKvUpIdeal.nD Cert.AdamKvUpIdeal.τ).loc Cert.AdamKvUpIdeal.main_v0_2)) (v3 : (c : Dev Cert.AdamKvUpIdeal.nD) → Buf (Elt Ideal) ((c.tc : Thread Cert.AdamKvUpIdeal.nD Cert.AdamKvUpIdeal.τ).loc Cert.AdamKvUpIdeal.main_v0_3)),
      θ_run (Cert.AdamKvUpIdeal.defs (F := Ideal)) (onTc (τ := Cert.AdamKvUpIdeal.τ) (Cert.AdamKvUpIdeal.main (F := Ideal))) ⟨m, fun _ => 0, g⟩ (fun r => ∀ c : Dev Cert.AdamKvUpIdeal.nD,
          r.2.mem ((c.tc : Thread Cert.AdamKvUpIdeal.nD Cert.AdamKvUpIdeal.τ).loc Cert.AdamKvUpIdeal.main_v0_0) = v0 c
          ∧ r.2.mem ((c.tc : Thread Cert.AdamKvUpIdeal.nD Cert.AdamKvUpIdeal.τ).loc Cert.AdamKvUpIdeal.main_v0_1) = v1 c
          ∧ r.2.mem ((c.tc : Thread Cert.AdamKvUpIdeal.nD Cert.AdamKvUpIdeal.τ).loc Cert.AdamKvUpIdeal.main_v0_2) = v2 c
          ∧ r.2.mem ((c.tc : Thread Cert.AdamKvUpIdeal.nD Cert.AdamKvUpIdeal.τ).loc Cert.AdamKvUpIdeal.main_v0_3) = v3 c
          ∧ r.2.mem ((c.tc : Thread Cert.AdamKvUpIdeal.nD Cert.AdamKvUpIdeal.τ).loc Cert.AdamKvUpIdeal.main_arg0) = m ((c.tc : Thread Cert.AdamKvUpIdeal.nD Cert.AdamKvUpIdeal.τ).loc Cert.AdamKvUpIdeal.main_arg0)
          ∧ r.2.mem ((c.tc : Thread Cert.AdamKvUpIdeal.nD Cert.AdamKvUpIdeal.τ).loc Cert.AdamKvUpIdeal.main_arg1) = m ((c.tc : Thread Cert.AdamKvUpIdeal.nD Cert.AdamKvUpIdeal.τ).loc Cert.AdamKvUpIdeal.main_arg1)
          ∧ r.2.mem ((c.tc : Thread Cert.AdamKvUpIdeal.nD Cert.AdamKvUpIdeal.τ).loc Cert.AdamKvUpIdeal.main_arg2) = m ((c.tc : Thread Cert.AdamKvUpIdeal.nD Cert.AdamKvUpIdeal.τ).loc Cert.AdamKvUpIdeal.main_arg2)
          ∧ r.2.mem ((c.tc : Thread Cert.AdamKvUpIdeal.nD Cert.AdamKvUpIdeal.τ).loc Cert.AdamKvUpIdeal.main_arg3) = m ((c.tc : Thread Cert.AdamKvUpIdeal.nD Cert.AdamKvUpIdeal.τ).loc Cert.AdamKvUpIdeal.main_arg3))
      ∧ θ_run (Cert.AdamKvUpRefIdeal.defs (F := Ideal)) (onTc (τ := Cert.AdamKvUpRefIdeal.τ) (Cert.AdamKvUpRefIdeal.main (F := Ideal))) ⟨m', fun _ => 0, g'⟩ (fun r => ∀ c : Dev Cert.AdamKvUpRefIdeal.nD,
          r.2.mem ((c.tc : Thread Cert.AdamKvUpRefIdeal.nD Cert.AdamKvUpRefIdeal.τ).loc Cert.AdamKvUpRefIdeal.main_arg1) = v0 c
          ∧ r.2.mem ((c.tc : Thread Cert.AdamKvUpRefIdeal.nD Cert.AdamKvUpRefIdeal.τ).loc Cert.AdamKvUpRefIdeal.main_v23) = v1 c
          ∧ r.2.mem ((c.tc : Thread Cert.AdamKvUpRefIdeal.nD Cert.AdamKvUpRefIdeal.τ).loc Cert.AdamKvUpRefIdeal.main_v4) = v2 c
          ∧ r.2.mem ((c.tc : Thread Cert.AdamKvUpRefIdeal.nD Cert.AdamKvUpRefIdeal.τ).loc Cert.AdamKvUpRefIdeal.main_v10) = v3 c
          ∧ r.2.mem ((c.tc : Thread Cert.AdamKvUpRefIdeal.nD Cert.AdamKvUpRefIdeal.τ).loc Cert.AdamKvUpRefIdeal.main_arg0) = m' ((c.tc : Thread Cert.AdamKvUpRefIdeal.nD Cert.AdamKvUpRefIdeal.τ).loc Cert.AdamKvUpRefIdeal.main_arg0)
          ∧ r.2.mem ((c.tc : Thread Cert.AdamKvUpRefIdeal.nD Cert.AdamKvUpRefIdeal.τ).loc Cert.AdamKvUpRefIdeal.main_arg1) = m' ((c.tc : Thread Cert.AdamKvUpRefIdeal.nD Cert.AdamKvUpRefIdeal.τ).loc Cert.AdamKvUpRefIdeal.main_arg1)
          ∧ r.2.mem ((c.tc : Thread Cert.AdamKvUpRefIdeal.nD Cert.AdamKvUpRefIdeal.τ).loc Cert.AdamKvUpRefIdeal.main_arg2) = m' ((c.tc : Thread Cert.AdamKvUpRefIdeal.nD Cert.AdamKvUpRefIdeal.τ).loc Cert.AdamKvUpRefIdeal.main_arg2)
          ∧ r.2.mem ((c.tc : Thread Cert.AdamKvUpRefIdeal.nD Cert.AdamKvUpRefIdeal.τ).loc Cert.AdamKvUpRefIdeal.main_arg3) = m' ((c.tc : Thread Cert.AdamKvUpRefIdeal.nD Cert.AdamKvUpRefIdeal.τ).loc Cert.AdamKvUpRefIdeal.main_arg3))

def Claim : Prop :=
  ∃ (hFfnBwd : Cert.FfnBwd.Facts) (hFfnBwdIdeal : Cert.FfnBwdIdeal.Facts) (hFfnBwdRefIdeal : Cert.FfnBwdRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hFfnNormBwd : Cert.FfnNormBwd.Facts) (hFfnNormBwdIdeal : Cert.FfnNormBwdIdeal.Facts) (hFfnNormBwdRefIdeal : Cert.FfnNormBwdRefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hMixIn : Cert.MixIn.Facts) (hMixInIdeal : Cert.MixInIdeal.Facts) (hMixInRefIdeal : Cert.MixInRefIdeal.Facts) (hMergeOut : Cert.MergeOut.Facts) (hMergeOutIdeal : Cert.MergeOutIdeal.Facts) (hMergeOutRefIdeal : Cert.MergeOutRefIdeal.Facts) (hMergeBwd : Cert.MergeBwd.Facts) (hMergeBwdIdeal : Cert.MergeBwdIdeal.Facts) (hMergeBwdRefIdeal : Cert.MergeBwdRefIdeal.Facts) (hPle : Cert.Ple.Facts) (hPleIdeal : Cert.PleIdeal.Facts) (hPleRefIdeal : Cert.PleRefIdeal.Facts) (hMixNormBwd : Cert.MixNormBwd.Facts) (hMixNormBwdIdeal : Cert.MixNormBwdIdeal.Facts) (hMixNormBwdRefIdeal : Cert.MixNormBwdRefIdeal.Facts) (hDwMix : Cert.DwMix.Facts) (hDwMixIdeal : Cert.DwMixIdeal.Facts) (hDwMixRefIdeal : Cert.DwMixRefIdeal.Facts) (hDwSquare : Cert.DwSquare.Facts) (hDwSquareIdeal : Cert.DwSquareIdeal.Facts) (hDwSquareRefIdeal : Cert.DwSquareRefIdeal.Facts) (hDwBranch : Cert.DwBranch.Facts) (hDwBranchIdeal : Cert.DwBranchIdeal.Facts) (hDwBranchRefIdeal : Cert.DwBranchRefIdeal.Facts) (hDwProj : Cert.DwProj.Facts) (hDwProjIdeal : Cert.DwProjIdeal.Facts) (hDwProjRefIdeal : Cert.DwProjRefIdeal.Facts) (hAdamGains : Cert.AdamGains.Facts) (hAdamGainsIdeal : Cert.AdamGainsIdeal.Facts) (hAdamGainsRefIdeal : Cert.AdamGainsRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamMixIn : Cert.AdamMixIn.Facts) (hAdamMixInIdeal : Cert.AdamMixInIdeal.Facts) (hAdamMixInRefIdeal : Cert.AdamMixInRefIdeal.Facts) (hAdamOut : Cert.AdamOut.Facts) (hAdamOutIdeal : Cert.AdamOutIdeal.Facts) (hAdamOutRefIdeal : Cert.AdamOutRefIdeal.Facts) (hNorm : Cert.Norm.Facts) (hNormIdeal : Cert.NormIdeal.Facts) (hNormRefIdeal : Cert.NormRefIdeal.Facts) (hGainSum : Cert.GainSum.Facts) (hGainSumIdeal : Cert.GainSumIdeal.Facts) (hGainSumRefIdeal : Cert.GainSumRefIdeal.Facts) (hAdamFfn1Out : Cert.AdamFfn1Out.Facts) (hAdamFfn1OutIdeal : Cert.AdamFfn1OutIdeal.Facts) (hAdamFfn1OutRefIdeal : Cert.AdamFfn1OutRefIdeal.Facts) (hAdamGate : Cert.AdamGate.Facts) (hAdamGateIdeal : Cert.AdamGateIdeal.Facts) (hAdamGateRefIdeal : Cert.AdamGateRefIdeal.Facts) (hAdamBranch : Cert.AdamBranch.Facts) (hAdamBranchIdeal : Cert.AdamBranchIdeal.Facts) (hAdamBranchRefIdeal : Cert.AdamBranchRefIdeal.Facts) (hAdamLatent : Cert.AdamLatent.Facts) (hAdamLatentIdeal : Cert.AdamLatentIdeal.Facts) (hAdamLatentRefIdeal : Cert.AdamLatentRefIdeal.Facts) (hAdamProj : Cert.AdamProj.Facts) (hAdamProjIdeal : Cert.AdamProjIdeal.Facts) (hAdamProjRefIdeal : Cert.AdamProjRefIdeal.Facts) (hAdamQUp : Cert.AdamQUp.Facts) (hAdamQUpIdeal : Cert.AdamQUpIdeal.Facts) (hAdamQUpRefIdeal : Cert.AdamQUpRefIdeal.Facts) (hAdamKvUp : Cert.AdamKvUp.Facts) (hAdamKvUpIdeal : Cert.AdamKvUpIdeal.Facts) (hAdamKvUpRefIdeal : Cert.AdamKvUpRefIdeal.Facts) (hPre_ffn_bwd_finite : Cert.Pre_ffn_bwd_finite.Facts) (hPre_ffn_norm_bwd_finite : Cert.Pre_ffn_norm_bwd_finite.Facts) (hPre_ple_finite : Cert.Pre_ple_finite.Facts) (hPre_mix_norm_bwd_finite : Cert.Pre_mix_norm_bwd_finite.Facts),
    quiescent_FfnBwd (hFfnBwd := hFfnBwd)
    ∧ quiescent_FfnBwdIdeal (hFfnBwdIdeal := hFfnBwdIdeal)
    ∧ quiescent_FfnBwdIdeal_pre_ffn_bwd_finite (hFfnBwdIdeal := hFfnBwdIdeal) (hPre_ffn_bwd_finite := hPre_ffn_bwd_finite)
    ∧ quiescent_FfnBwdRefIdeal (hFfnBwdRefIdeal := hFfnBwdRefIdeal)
    ∧ quiescent_FfnBwdRefIdeal_pre_ffn_bwd_finite (hFfnBwdRefIdeal := hFfnBwdRefIdeal) (hPre_ffn_bwd_finite := hPre_ffn_bwd_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnNormBwd (hFfnNormBwd := hFfnNormBwd)
    ∧ quiescent_FfnNormBwdIdeal (hFfnNormBwdIdeal := hFfnNormBwdIdeal)
    ∧ quiescent_FfnNormBwdIdeal_pre_ffn_norm_bwd_finite (hFfnNormBwdIdeal := hFfnNormBwdIdeal) (hPre_ffn_norm_bwd_finite := hPre_ffn_norm_bwd_finite)
    ∧ quiescent_FfnNormBwdRefIdeal (hFfnNormBwdRefIdeal := hFfnNormBwdRefIdeal)
    ∧ quiescent_FfnNormBwdRefIdeal_pre_ffn_norm_bwd_finite (hFfnNormBwdRefIdeal := hFfnNormBwdRefIdeal) (hPre_ffn_norm_bwd_finite := hPre_ffn_norm_bwd_finite)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_MixNormBwd (hMixNormBwd := hMixNormBwd)
    ∧ quiescent_MixNormBwdIdeal (hMixNormBwdIdeal := hMixNormBwdIdeal)
    ∧ quiescent_MixNormBwdIdeal_pre_mix_norm_bwd_finite (hMixNormBwdIdeal := hMixNormBwdIdeal) (hPre_mix_norm_bwd_finite := hPre_mix_norm_bwd_finite)
    ∧ quiescent_MixNormBwdRefIdeal (hMixNormBwdRefIdeal := hMixNormBwdRefIdeal)
    ∧ quiescent_MixNormBwdRefIdeal_pre_mix_norm_bwd_finite (hMixNormBwdRefIdeal := hMixNormBwdRefIdeal) (hPre_mix_norm_bwd_finite := hPre_mix_norm_bwd_finite)
    ∧ quiescent_DwMix (hDwMix := hDwMix)
    ∧ quiescent_DwMixIdeal (hDwMixIdeal := hDwMixIdeal)
    ∧ quiescent_DwMixRefIdeal (hDwMixRefIdeal := hDwMixRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_DwProj (hDwProj := hDwProj)
    ∧ quiescent_DwProjIdeal (hDwProjIdeal := hDwProjIdeal)
    ∧ quiescent_DwProjRefIdeal (hDwProjRefIdeal := hDwProjRefIdeal)
    ∧ quiescent_AdamGains (hAdamGains := hAdamGains)
    ∧ quiescent_AdamGainsIdeal (hAdamGainsIdeal := hAdamGainsIdeal)
    ∧ quiescent_AdamGainsRefIdeal (hAdamGainsRefIdeal := hAdamGainsRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_Norm (hNorm := hNorm)
    ∧ quiescent_NormIdeal (hNormIdeal := hNormIdeal)
    ∧ quiescent_NormRefIdeal (hNormRefIdeal := hNormRefIdeal)
    ∧ quiescent_GainSum (hGainSum := hGainSum)
    ∧ quiescent_GainSumIdeal (hGainSumIdeal := hGainSumIdeal)
    ∧ quiescent_GainSumRefIdeal (hGainSumRefIdeal := hGainSumRefIdeal)
    ∧ quiescent_AdamFfn1Out (hAdamFfn1Out := hAdamFfn1Out)
    ∧ quiescent_AdamFfn1OutIdeal (hAdamFfn1OutIdeal := hAdamFfn1OutIdeal)
    ∧ quiescent_AdamFfn1OutRefIdeal (hAdamFfn1OutRefIdeal := hAdamFfn1OutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamLatent (hAdamLatent := hAdamLatent)
    ∧ quiescent_AdamLatentIdeal (hAdamLatentIdeal := hAdamLatentIdeal)
    ∧ quiescent_AdamLatentRefIdeal (hAdamLatentRefIdeal := hAdamLatentRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamQUp (hAdamQUp := hAdamQUp)
    ∧ quiescent_AdamQUpIdeal (hAdamQUpIdeal := hAdamQUpIdeal)
    ∧ quiescent_AdamQUpRefIdeal (hAdamQUpRefIdeal := hAdamQUpRefIdeal)
    ∧ quiescent_AdamKvUp (hAdamKvUp := hAdamKvUp)
    ∧ quiescent_AdamKvUpIdeal (hAdamKvUpIdeal := hAdamKvUpIdeal)
    ∧ quiescent_AdamKvUpRefIdeal (hAdamKvUpRefIdeal := hAdamKvUpRefIdeal)
    ∧ preserves_FfnBwd_FfnBwdIdeal
    ∧ algebraic_FfnBwdIdeal_FfnBwdRefIdeal_pre_ffn_bwd_finite (hFfnBwdIdeal := hFfnBwdIdeal) (hFfnBwdRefIdeal := hFfnBwdRefIdeal) (hPre_ffn_bwd_finite := hPre_ffn_bwd_finite)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnNormBwd_FfnNormBwdIdeal
    ∧ algebraic_FfnNormBwdIdeal_FfnNormBwdRefIdeal_pre_ffn_norm_bwd_finite (hFfnNormBwdIdeal := hFfnNormBwdIdeal) (hFfnNormBwdRefIdeal := hFfnNormBwdRefIdeal) (hPre_ffn_norm_bwd_finite := hPre_ffn_norm_bwd_finite)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_MixIn_MixInIdeal
    ∧ algebraic_MixInIdeal_MixInRefIdeal (hMixInIdeal := hMixInIdeal) (hMixInRefIdeal := hMixInRefIdeal)
    ∧ preserves_MergeOut_MergeOutIdeal
    ∧ algebraic_MergeOutIdeal_MergeOutRefIdeal (hMergeOutIdeal := hMergeOutIdeal) (hMergeOutRefIdeal := hMergeOutRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_MixNormBwd_MixNormBwdIdeal
    ∧ algebraic_MixNormBwdIdeal_MixNormBwdRefIdeal_pre_mix_norm_bwd_finite (hMixNormBwdIdeal := hMixNormBwdIdeal) (hMixNormBwdRefIdeal := hMixNormBwdRefIdeal) (hPre_mix_norm_bwd_finite := hPre_mix_norm_bwd_finite)
    ∧ preserves_DwMix_DwMixIdeal
    ∧ algebraic_DwMixIdeal_DwMixRefIdeal (hDwMixIdeal := hDwMixIdeal) (hDwMixRefIdeal := hDwMixRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DwBranch_DwBranchIdeal
    ∧ algebraic_DwBranchIdeal_DwBranchRefIdeal (hDwBranchIdeal := hDwBranchIdeal) (hDwBranchRefIdeal := hDwBranchRefIdeal)
    ∧ preserves_DwProj_DwProjIdeal
    ∧ algebraic_DwProjIdeal_DwProjRefIdeal (hDwProjIdeal := hDwProjIdeal) (hDwProjRefIdeal := hDwProjRefIdeal)
    ∧ preserves_AdamGains_AdamGainsIdeal
    ∧ algebraic_AdamGainsIdeal_AdamGainsRefIdeal (hAdamGainsIdeal := hAdamGainsIdeal) (hAdamGainsRefIdeal := hAdamGainsRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_Norm_NormIdeal
    ∧ algebraic_NormIdeal_NormRefIdeal (hNormIdeal := hNormIdeal) (hNormRefIdeal := hNormRefIdeal)
    ∧ preserves_GainSum_GainSumIdeal
    ∧ algebraic_GainSumIdeal_GainSumRefIdeal (hGainSumIdeal := hGainSumIdeal) (hGainSumRefIdeal := hGainSumRefIdeal)
    ∧ preserves_AdamFfn1Out_AdamFfn1OutIdeal
    ∧ algebraic_AdamFfn1OutIdeal_AdamFfn1OutRefIdeal (hAdamFfn1OutIdeal := hAdamFfn1OutIdeal) (hAdamFfn1OutRefIdeal := hAdamFfn1OutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamLatent_AdamLatentIdeal
    ∧ algebraic_AdamLatentIdeal_AdamLatentRefIdeal (hAdamLatentIdeal := hAdamLatentIdeal) (hAdamLatentRefIdeal := hAdamLatentRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamQUp_AdamQUpIdeal
    ∧ algebraic_AdamQUpIdeal_AdamQUpRefIdeal (hAdamQUpIdeal := hAdamQUpIdeal) (hAdamQUpRefIdeal := hAdamQUpRefIdeal)
    ∧ preserves_AdamKvUp_AdamKvUpIdeal
    ∧ algebraic_AdamKvUpIdeal_AdamKvUpRefIdeal (hAdamKvUpIdeal := hAdamKvUpIdeal) (hAdamKvUpRefIdeal := hAdamKvUpRefIdeal)
-- ==== Pre_ffn_bwd_finite.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x2816 .f32) (main_arg2 : FVec F S4096x2816 .f32) (main_arg3 : FVec F S2816x1024 .f32) : IVec S4096x1024 1 × IVec S4096x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg2
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  (main_v2, main_v5, main_v8)
-- ==== Pre_ffn_norm_bwd_finite.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S4096x2816 .f32) (main_arg2 : FVec F S1024x5632 .f32) (main_arg3 : FVec F S4096x1024 .f32) (main_arg4 : FVec F S1x1024 .f32) (main_arg5 : FVec F S4096x1024 .f32) : IVec S4096x2816 1 × IVec S4096x2816 1 × IVec S1024x5632 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_mix_norm_bwd_finite.lean ====
abbrev S4096x4352 : Shape := ⟨2, ![4096, 4352]⟩
abbrev S1024x4256 : Shape := ⟨2, ![1024, 4256]⟩
abbrev S4096x1024 : Shape := ⟨2, ![4096, 1024]⟩
abbrev S1x1024 : Shape := ⟨2, ![1, 1024]⟩
abbrev S_ : Shape := ⟨0, ![]⟩

class Facts : Prop where
  bcast_S_S4096x4352 : S_.BroadcastsInDim S4096x4352 (![] : Fin 0 → Fin S4096x4352.rank)
  bcast_S_S1024x4256 : S_.BroadcastsInDim S1024x4256 (![] : Fin 0 → Fin S1024x4256.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x4352 .f32) (main_arg1 : FVec F S1024x4256 .f32) (main_arg2 : FVec F S4096x1024 .f32) (main_arg3 : FVec F S1x1024 .f32) (main_arg4 : FVec F S4096x1024 .f32) : IVec S4096x4352 1 × IVec S1024x4256 1 × IVec S4096x1024 1 × IVec S1x1024 1 :=
  let main_v0 : FVec F S4096x4352 .f32 := Host.absf main_arg0
  let main_cst : FVec F S_ .f32 := constant S_ .f32 0x7F800000#32
  let main_v1 : FVec F S4096x4352 .f32 := broadcastInDim S4096x4352 ![] bcast_S_S4096x4352 main_cst
  let main_v2 : IVec S4096x4352 1 := cmpf .olt main_v0 main_v1
  let main_v3 : FVec F S1024x4256 .f32 := Host.absf main_arg1
  let main_cst_0 : FVec F S_ .f32 := constant S_ .f32 0x7F800000#32
  let main_v4 : FVec F S1024x4256 .f32 := broadcastInDim S1024x4256 ![] bcast_S_S1024x4256 main_cst_0
  let main_v5 : IVec S1024x4256 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_ple_finite.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S4096x256 : S_.BroadcastsInDim S4096x256 (![] : Fin 0 → Fin S4096x256.rank)
  bcast_S_S256x1024 : S_.BroadcastsInDim S256x1024 (![] : Fin 0 → Fin S256x1024.rank)

variable [Facts]

def fn {F : FTy → Type} [FloatOps F] (main_arg0 : FVec F S4096x1024 .f32) (main_arg1 : FVec F S1x1024 .f32) (main_arg2 : FVec F S1024x1024 .f32) (main_arg3 : FVec F S4096x256 .f32) (main_arg4 : FVec F S256x1024 .f32) (main_arg5 : FVec F S4096x1024 .f32) : IVec S4096x1024 1 × IVec S1x1024 1 × IVec S1024x1024 1 × IVec S4096x256 1 × IVec S256x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== FfnBwd.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S1024x1024 : Shape := ⟨2, ![1024, 1024]⟩
abbrev S1024x1408 : Shape := ⟨2, ![1024, 1408]⟩
abbrev S1408x1024 : Shape := ⟨2, ![1408, 1024]⟩
abbrev S256x1024 : Shape := ⟨2, ![256, 1024]⟩
abbrev S1024x256 : Shape := ⟨2, ![1024, 256]⟩
abbrev S128x1024 : Shape := ⟨2, ![128, 1024]⟩
abbrev S1024x128 : Shape := ⟨2, ![1024, 128]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S2816x1024, .bf16⟩
  | .hbm, ⟨9, _⟩ => ⟨S4096x2816, .bf16⟩
  | .hbm, ⟨10, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | .local _ .vmem, ⟨6, _⟩ => ⟨S1408x1024, .bf16⟩
  | .local _ .vmem, ⟨7, _⟩ => ⟨S1408x1024, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnBwdRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S4096x2816, .f32⟩
  | .hbm, ⟨7, _⟩ => ⟨S4096x2816, .f32⟩
  | .hbm, ⟨8, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | .local _ .vmem, ⟨9, _⟩ => ⟨S1024x1408, .f32⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .bf16⟩
  | .hbm, ⟨5, _⟩ => ⟨S2816x1024, .bf16⟩
  | .hbm, ⟨6, _⟩ => ⟨S4096x1024, .f32⟩
  | .hbm, ⟨7, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== FfnNormBwd.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S512x2816 : Shape := ⟨2, ![512, 2816]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x2816, .bf16⟩
  | .hbm, ⟨7, _⟩ => ⟨S4096x2816, .bf16⟩
  | .hbm, ⟨8, _⟩ => ⟨S1024x5632, .bf16⟩
  | .hbm, ⟨9, _⟩ => ⟨S1024x4x1408, .bf16⟩
  | .hbm, ⟨10, _⟩ => ⟨S4x1024x1408, .bf16⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnNormBwdRefIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DwOut.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== DwIn.lean ====
abbrev S4096x1024 : Shape := ⟨2, ![4096, 1024]⟩
abbrev S4096x2816 : Shape := ⟨2, ![4096, 2816]⟩
abbrev S2x1024x1408 : Shape := ⟨3, ![2, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x1024, .bf16⟩
  | .hbm, ⟨3, _⟩ => ⟨S4096x2816, .bf16⟩
  | .hbm, ⟨4, _⟩ => ⟨S2x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S1024x2x1408, .f32⟩
  | .hbm, ⟨8, _⟩ => ⟨S2x1024x1408, .f32⟩
  | .hbm, ⟨9, _⟩ => ⟨S2x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixIn.lean ====
abbrev S4096x1024 : Shape := ⟨2, ![4096, 1024]⟩
abbrev S1024x4256 : Shape := ⟨2, ![1024, 4256]⟩
abbrev S4256x1024 : Shape := ⟨2, ![4256, 1024]⟩
abbrev S640x1024 : Shape := ⟨2, ![640, 1024]⟩
abbrev S_ : Shape := ⟨0, ![]⟩
abbrev S64x1024 : Shape := ⟨2, ![64, 1024]⟩
abbrev S32x1024 : Shape := ⟨2, ![32, 1024]⟩
abbrev S3584x1024 : Shape := ⟨2, ![3584, 1024]⟩
abbrev S4352x1024 : Shape := ⟨2, ![4352, 1024]⟩
abbrev S4096x384 : Shape := ⟨2, ![4096, 384]⟩
abbrev S4096x256 : Shape := ⟨2, ![4096, 256]⟩
abbrev S4096x128 : Shape := ⟨2, ![4096, 128]⟩
abbrev S4096x512 : Shape := ⟨2, ![4096, 512]⟩
abbrev S4096x2048 : Shape := ⟨2, ![4096, 2048]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x2048 : Shape := ⟨2, ![512, 2048]⟩
abbrev S384x1024 : Shape := ⟨2, ![384, 1024]⟩
abbrev S256x1024 : Shape := ⟨2, ![256, 1024]⟩
abbrev S128x1024 : Shape := ⟨2, ![128, 1024]⟩
abbrev S2048x1024 : Shape := ⟨2, ![2048, 1024]⟩

abbrev nBuf : Space → Nat
  | .hbm => 20
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x4256, .f32⟩
  | .hbm, ⟨2, _⟩ => ⟨S4096x1024, .bf16⟩
  | .hbm, ⟨3, _⟩ => ⟨S4256x1024, .f32⟩
  | .hbm, ⟨4, _⟩ => ⟨S4256x1024, .bf16⟩
  | .hbm, ⟨5, _⟩ => ⟨S640x1024, .bf16⟩
  | .hbm, ⟨6, _⟩ => ⟨S_, .bf16⟩
  | .hbm, ⟨7, _⟩ => ⟨S64x1024, .bf16⟩
  | .hbm, ⟨8, _⟩ => ⟨S32x1024, .bf16⟩
  | .hbm, ⟨9, _⟩ => ⟨S_, .bf16⟩
  | .hbm, ⟨10, _⟩ => ⟨S32x1024, .bf16⟩
  | .hbm, ⟨11, _⟩ => ⟨S3584x1024, .bf16⟩
  | .hbm, ⟨12, _⟩ => ⟨S4352x1024, .bf16⟩
  | .hbm, ⟨13, _⟩ => ⟨S4096x384, .f32⟩
  | .hbm, ⟨14, _⟩ => ⟨S4096x256, .f32⟩
  | .hbm, ⟨15, _⟩ => ⟨S4096x128, .f32⟩
  | .hbm, ⟨16, _⟩ => ⟨S4096x512, .bf16⟩
  | .hbm, ⟨17, _⟩ => ⟨S4096x512, .bf16⟩
  | .hbm, ⟨18, _⟩ => ⟨S4096x512, .bf16⟩
  | .hbm, ⟨19, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S4352x1024, .bf16⟩
  | .local _ .vmem, ⟨3, _⟩ => ⟨S512x384, .f32⟩
  | .local _ .vmem, ⟨4, _⟩ => ⟨S512x384, .f32⟩
  | .local _ .vmem, ⟨5, _⟩ => ⟨S512x256, .f32⟩
  | .local _ .vmem, ⟨6, _⟩ => ⟨S512x256, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x2048, .f32⟩
  | .local _ .vmem, ⟨16, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v9_5 : Ref sig .tc := ⟨.hbm, 18, rfl⟩
abbrev main_v9_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixInRefIdeal.lean ====
abbrev S4096x1024 : Shape := ⟨2, ![4096, 1024]⟩
abbrev S1024x4256 : Shape := ⟨2, ![1024, 4256]⟩
abbrev S4096x4256 : Shape := ⟨2, ![4096, 4256]⟩
abbrev S4096x384 : Shape := ⟨2, ![4096, 384]⟩
abbrev S4096x256 : Shape := ⟨2, ![4096, 256]⟩
abbrev S4096x32 : Shape := ⟨2, ![4096, 32]⟩
abbrev S4096x1536 : Shape := ⟨2, ![4096, 1536]⟩
abbrev S4096x2048 : Shape := ⟨2, ![4096, 2048]⟩
abbrev S4096x512 : Shape := ⟨2, ![4096, 512]⟩
abbrev S_ : Shape := ⟨0, ![]⟩
abbrev S4096x128 : Shape := ⟨2, ![4096, 128]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4256, .f32⟩
  | .hbm, ⟨2, _⟩ => ⟨S4096x4256, .f32⟩
  | .hbm, ⟨3, _⟩ => ⟨S4096x384, .f32⟩
  | .hbm, ⟨4, _⟩ => ⟨S4096x256, .f32⟩
  | .hbm, ⟨5, _⟩ => ⟨S4096x32, .f32⟩
  | .hbm, ⟨6, _⟩ => ⟨S4096x1536, .f32⟩
  | .hbm, ⟨7, _⟩ => ⟨S4096x2048, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x512, .bf16⟩
  | .hbm, ⟨15, _⟩ => ⟨S4096x512, .bf16⟩
  | .hbm, ⟨16, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== MergeOut.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x1024 : Shape := ⟨2, ![1, 1024]⟩
abbrev S8x64x1024 : Shape := ⟨3, ![8, 64, 1024]⟩
abbrev S_ : Shape := ⟨0, ![]⟩
abbrev S8x128x1024 : Shape := ⟨3, ![8, 128, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S4096x1024, .bf16⟩
  | .hbm, ⟨9, _⟩ => ⟨S512x1024, .bf16⟩
  | .hbm, ⟨10, _⟩ => ⟨S8x64x1024, .bf16⟩
  | .hbm, ⟨11, _⟩ => ⟨S_, .i32⟩
  | .hbm, ⟨12, _⟩ => ⟨S_, .bf16⟩
  | .hbm, ⟨13, _⟩ => ⟨S8x128x1024, .bf16⟩
  | .hbm, ⟨14, _⟩ => ⟨S1024x1024, .bf16⟩
  | .hbm, ⟨15, _⟩ => ⟨S512x1024, .bf16⟩
  | .hbm, ⟨16, _⟩ => ⟨S1024x1024, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeOutRefIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x1024 : Shape := ⟨2, ![1, 1024]⟩
abbrev S4096x8x128 : Shape := ⟨3, ![4096, 8, 128]⟩
abbrev S4096x8x64 : Shape := ⟨3, ![4096, 8, 64]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S4096x8x128, .f32⟩
  | .hbm, ⟨9, _⟩ => ⟨S4096x8x64, .f32⟩
  | .hbm, ⟨10, _⟩ => ⟨S4096x512, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== MergeBwd.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S4096x512 : Shape := ⟨2, ![4096, 512]⟩
abbrev S512x2048 : Shape := ⟨2, ![512, 2048]⟩
abbrev S512x512 : Shape := ⟨2, ![512, 512]⟩

abbrev nBuf : Space → Nat
  | .hbm => 21
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S4096x1024, .bf16⟩
  | .hbm, ⟨8, _⟩ => ⟨S1024x1024, .bf16⟩
  | .hbm, ⟨9, _⟩ => ⟨S512x1024, .bf16⟩
  | .hbm, ⟨10, _⟩ => ⟨S8x64x1024, .bf16⟩
  | .hbm, ⟨11, _⟩ => ⟨S_, .i32⟩
  | .hbm, ⟨12, _⟩ => ⟨S_, .bf16⟩
  | .hbm, ⟨13, _⟩ => ⟨S8x128x1024, .bf16⟩
  | .hbm, ⟨14, _⟩ => ⟨S1024x1024, .bf16⟩
  | .hbm, ⟨15, _⟩ => ⟨S512x1024, .bf16⟩
  | .hbm, ⟨16, _⟩ => ⟨S4096x2048, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeBwdRefIdeal.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S_ : Shape := ⟨0, ![]⟩
abbrev S4096x8x128 : Shape := ⟨3, ![4096, 8, 128]⟩
abbrev S4096x8x64 : Shape := ⟨3, ![4096, 8, 64]⟩
abbrev S4096x512 : Shape := ⟨2, ![4096, 512]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x1024, .f32⟩
  | .hbm, ⟨34, _⟩ => ⟨S4096x8x128, .f32⟩
  | .hbm, ⟨35, _⟩ => ⟨S4096x8x64, .f32⟩
  | .hbm, ⟨36, _⟩ => ⟨S4096x512, .f32⟩
  | .hbm, ⟨37, _⟩ => ⟨S4096x1024, .f32⟩
  | .hbm, ⟨38, _⟩ => ⟨S4096x512, .f32⟩
  | .hbm, ⟨39, _⟩ => ⟨S4096x8x64, .f32⟩
  | .hbm, ⟨40, _⟩ => ⟨S_, .f32⟩
  | .hbm, ⟨41, _⟩ => ⟨S4096x8x128, .f32⟩
  | .hbm, ⟨42, _⟩ => ⟨S4096x1024, .f32⟩
  | .hbm, ⟨43, _⟩ => ⟨S_, .f32⟩
  | .hbm, ⟨44, _⟩ => ⟨S4096x512, .f32⟩
  | .hbm, ⟨45, _⟩ => ⟨S4096x1024, .f32⟩
  | .hbm, ⟨46, _⟩ => ⟨S4096x512, .f32⟩
  | .hbm, ⟨47, _⟩ => ⟨S4096x2048, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | .hbm, ⟨51, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Ple.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S1024x1024, .bf16⟩
  | .hbm, ⟨7, _⟩ => ⟨S256x1024, .bf16⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleRefIdeal.lean ====
abbrev S4096x1024 : Shape := ⟨2, ![4096, 1024]⟩
abbrev S1x1024 : Shape := ⟨2, ![1, 1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x1024, .f32⟩
  | .hbm, ⟨96, _⟩ => ⟨S4096x1024, .f32⟩
  | .hbm, ⟨97, _⟩ => ⟨S4096x1024, .bf16⟩
  | .hbm, ⟨98, _⟩ => ⟨S4096x1024, .bf16⟩
  | .hbm, ⟨99, _⟩ => ⟨S4096x1024, .bf16⟩
  | .hbm, ⟨100, _⟩ => ⟨S4096x1024, .bf16⟩
  | .hbm, ⟨101, _⟩ => ⟨S_, .f32⟩
  | .hbm, ⟨102, _⟩ => ⟨S1024, .f32⟩
  | .hbm, ⟨103, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_19 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== MixNormBwd.lean ====
abbrev S4096x4352 : Shape := ⟨2, ![4096, 4352]⟩
abbrev S1024x4256 : Shape := ⟨2, ![1024, 4256]⟩
abbrev S4096x1024 : Shape := ⟨2, ![4096, 1024]⟩
abbrev S1x1024 : Shape := ⟨2, ![1, 1024]⟩
abbrev S4256x1024 : Shape := ⟨2, ![4256, 1024]⟩
abbrev S640x1024 : Shape := ⟨2, ![640, 1024]⟩
abbrev S_ : Shape := ⟨0, ![]⟩
abbrev S64x1024 : Shape := ⟨2, ![64, 1024]⟩
abbrev S32x1024 : Shape := ⟨2, ![32, 1024]⟩
abbrev S3584x1024 : Shape := ⟨2, ![3584, 1024]⟩
abbrev S4352x1024 : Shape := ⟨2, ![4352, 1024]⟩
abbrev S512x4352 : Shape := ⟨2, ![512, 4352]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 13
  | .smem => 0
  | _ => 0

abbrev bufTy : (tb : Table) → Fin (tcTables nBuf tb) → BufTy
  | .hbm, ⟨0, _⟩ => ⟨S4096x4352, .f32⟩
  | .hbm, ⟨1, _⟩ => ⟨S1024x4256, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4352, .bf16⟩
  | .hbm, ⟨6, _⟩ => ⟨S4256x1024, .f32⟩
  | .hbm, ⟨7, _⟩ => ⟨S4256x1024, .bf16⟩
  | .hbm, ⟨8, _⟩ => ⟨S640x1024, .bf16⟩
  | .hbm, ⟨9, _⟩ => ⟨S_, .bf16⟩
  | .hbm, ⟨10, _⟩ => ⟨S64x1024, .bf16⟩
  | .hbm, ⟨11, _⟩ => ⟨S32x1024, .bf16⟩
  | .hbm, ⟨12, _⟩ => ⟨S_, .bf16⟩
  | .hbm, ⟨13, _⟩ => ⟨S32x1024, .bf16⟩
  | .hbm, ⟨14, _⟩ => ⟨S3584x1024, .bf16⟩
  | .hbm, ⟨15, _⟩ => ⟨S4352x1024, .bf16⟩
  | .hbm, ⟨16, _⟩ => ⟨S4096x1024, .f32⟩
  | .hbm, ⟨17, _⟩ => ⟨S4096x1024, .bf16⟩
  | .hbm, ⟨18, _⟩ => ⟨S1x1024, .f32⟩
  | .local _ .vmem, ⟨0, _⟩ => ⟨S512x4352, .bf16⟩
  | .local _ .vmem, ⟨1, _⟩ => ⟨S512x4352, .bf16⟩
  | .local _ .vmem, ⟨2, _⟩ => ⟨S4352x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixNormBwdRefIdeal.lean ====
abbrev S4096x4352 : Shape := ⟨2, ![4096, 4352]⟩
abbrev S1024x4256 : Shape := ⟨2, ![1024, 4256]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4256 : Shape := ⟨2, ![4096, 4256]⟩
abbrev S4096x640 : Shape := ⟨2, ![4096, 640]⟩
abbrev S4096x64 : Shape := ⟨2, ![4096, 64]⟩
abbrev S4096x32 : Shape := ⟨2, ![4096, 32]⟩
abbrev S4096x3584 : Shape := ⟨2, ![4096, 3584]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x4352, .f32⟩
  | .hbm, ⟨1, _⟩ => ⟨S1024x4256, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4256, .f32⟩
  | .hbm, ⟨25, _⟩ => ⟨S4096x640, .f32⟩
  | .hbm, ⟨26, _⟩ => ⟨S_, .f32⟩
  | .hbm, ⟨27, _⟩ => ⟨S4096x64, .f32⟩
  | .hbm, ⟨28, _⟩ => ⟨S4096x32, .f32⟩
  | .hbm, ⟨29, _⟩ => ⟨S_, .f32⟩
  | .hbm, ⟨30, _⟩ => ⟨S4096x32, .f32⟩
  | .hbm, ⟨31, _⟩ => ⟨S4096x3584, .f32⟩
  | .hbm, ⟨32, _⟩ => ⟨S4096x4352, .f32⟩
  | .hbm, ⟨33, _⟩ => ⟨S_, .f32⟩
  | .hbm, ⟨34, _⟩ => ⟨S4096x64, .f32⟩
  | .hbm, ⟨35, _⟩ => ⟨S_, .f32⟩
  | .hbm, ⟨36, _⟩ => ⟨S4096x32, .f32⟩
  | .hbm, ⟨37, _⟩ => ⟨S4096x640, .f32⟩
  | .hbm, ⟨38, _⟩ => ⟨S4096x64, .f32⟩
  | .hbm, ⟨39, _⟩ => ⟨S4096x32, .f32⟩
  | .hbm, ⟨40, _⟩ => ⟨S4096x32, .f32⟩
  | .hbm, ⟨41, _⟩ => ⟨S4096x3584, .f32⟩
  | .hbm, ⟨42, _⟩ => ⟨S_, .f32⟩
  | .hbm, ⟨43, _⟩ => ⟨S4096x4256, .f32⟩
  | .hbm, ⟨44, _⟩ => ⟨S_, .f32⟩
  | .hbm, ⟨45, _⟩ => ⟨S4096x4256, .f32⟩
  | .hbm, ⟨46, _⟩ => ⟨S4096x4256, .f32⟩
  | .hbm, ⟨47, _⟩ => ⟨S_, .f32⟩
  | .hbm, ⟨48, _⟩ => ⟨S4096x4256, .f32⟩
  | .hbm, ⟨49, _⟩ => ⟨S4096x4256, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .bf16⟩
  | _, _ => ⟨S4096x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== DwMix.lean ====
abbrev S4096x4352 : Shape := ⟨2, ![4096, 4352]⟩
abbrev S4096x1024 : Shape := ⟨2, ![4096, 1024]⟩
abbrev S4352x1024 : Shape := ⟨2, ![4352, 1024]⟩
abbrev S4096x256 : Shape := ⟨2, ![4096, 256]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4352, .f32⟩
  | .hbm, ⟨1, _⟩ => ⟨S4096x1024, .f32⟩
  | .hbm, ⟨2, _⟩ => ⟨S4096x4352, .bf16⟩
  | .hbm, ⟨3, _⟩ => ⟨S4096x1024, .bf16⟩
  | .hbm, ⟨4, _⟩ => ⟨S4352x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S4096x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMixRefIdeal.lean ====
abbrev S4096x4352 : Shape := ⟨2, ![4096, 4352]⟩
abbrev S4096x1024 : Shape := ⟨2, ![4096, 1024]⟩
abbrev S_ : Shape := ⟨0, ![]⟩
abbrev S4352x1024 : Shape := ⟨2, ![4352, 1024]⟩
abbrev S1024x4352 : Shape := ⟨2, ![1024, 4352]⟩

abbrev nBuf : Space → Nat
  | .hbm => 10
  | .vmem => 0
  | .smem => 0
  | _ => 0

abbrev bufTy : (tb : Table) → Fin (tcTables nBuf tb) → BufTy
  | .hbm, ⟨0, _⟩ => ⟨S4096x4352, .f32⟩
  | .hbm, ⟨1, _⟩ => ⟨S4096x1024, .f32⟩
  | .hbm, ⟨2, _⟩ => ⟨S_, .f32⟩
  | .hbm, ⟨3, _⟩ => ⟨S4352x1024, .f32⟩
  | .hbm, ⟨4, _⟩ => ⟨S1024x4352, .f32⟩
  | .hbm, ⟨5, _⟩ => ⟨S4096x4352, .f32⟩
  | .hbm, ⟨6, _⟩ => ⟨S4352x1024, .f32⟩
  | .hbm, ⟨7, _⟩ => ⟨S1024x4352, .f32⟩
  | .hbm, ⟨8, _⟩ => ⟨S4352x1024, .f32⟩
  | .hbm, ⟨9, _⟩ => ⟨S4352x1024, .bf16⟩
  | _, _ => ⟨S4096x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwSquare.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSquareRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwBranch.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .bf16⟩
  | .hbm, ⟨3, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranchRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwProj.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x1024, .bf16⟩
  | .hbm, ⟨3, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwProjRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamGains.lean ====
abbrev S8x1024 : Shape := ⟨2, ![8, 1024]⟩
abbrev S16x1024 : Shape := ⟨2, ![16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S16x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainsRefIdeal.lean ====
abbrev S8x1024 : Shape := ⟨2, ![8, 1024]⟩
abbrev S16x1024 : Shape := ⟨2, ![16, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S16x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S_, .f32⟩
  | .hbm, ⟨36, _⟩ => ⟨S8x1024, .f32⟩
  | .hbm, ⟨37, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamFfnIn.lean ====
abbrev S1024x1408 : Shape := ⟨2, ![1024, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnInRefIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnOut.lean ====
abbrev S704x1024 : Shape := ⟨2, ![704, 1024]⟩
abbrev S1216x1024 : Shape := ⟨2, ![1216, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S1216x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnOutRefIdeal.lean ====
abbrev S704x1024 : Shape := ⟨2, ![704, 1024]⟩
abbrev S1216x1024 : Shape := ⟨2, ![1216, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S1216x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S_, .f32⟩
  | .hbm, ⟨6, _⟩ => ⟨S704x1024, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamMixIn.lean ====
abbrev S1024x1064 : Shape := ⟨2, ![1024, 1064]⟩
abbrev S1088x1024 : Shape := ⟨2, ![1088, 1024]⟩
abbrev S1064x1024 : Shape := ⟨2, ![1064, 1024]⟩
abbrev S152x1024 : Shape := ⟨2, ![152, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1024x1064, .f32⟩
  | .hbm, ⟨1, _⟩ => ⟨S1088x1024, .f32⟩
  | .hbm, ⟨2, _⟩ => ⟨S1024x1064, .f32⟩
  | .hbm, ⟨3, _⟩ => ⟨S1024x1064, .f32⟩
  | .hbm, ⟨4, _⟩ => ⟨S1064x1024, .f32⟩
  | .hbm, ⟨5, _⟩ => ⟨S1064x1024, .f32⟩
  | .hbm, ⟨6, _⟩ => ⟨S1064x1024, .f32⟩
  | .hbm, ⟨7, _⟩ => ⟨S1064x1024, .f32⟩
  | .hbm, ⟨8, _⟩ => ⟨S1064x1024, .f32⟩
  | .hbm, ⟨9, _⟩ => ⟨S1064x1024, .f32⟩
  | .hbm, ⟨10, _⟩ => ⟨S1064x1024, .f32⟩
  | .local _ .vmem, ⟨0, _⟩ => ⟨S152x1024, .f32⟩
  | .local _ .vmem, ⟨1, _⟩ => ⟨S152x1024, .f32⟩
  | .local _ .vmem, ⟨2, _⟩ => ⟨S152x1024, .f32⟩
  | .local _ .vmem, ⟨3, _⟩ => ⟨S152x1024, .f32⟩
  | .local _ .vmem, ⟨4, _⟩ => ⟨S152x1024, .f32⟩
  | .local _ .vmem, ⟨5, _⟩ => ⟨S152x1024, .f32⟩
  | .local _ .vmem, ⟨6, _⟩ => ⟨S152x1024, .f32⟩
  | .local _ .vmem, ⟨7, _⟩ => ⟨S152x1024, .f32⟩
  | .local _ .vmem, ⟨8, _⟩ => ⟨S152x1024, .f32⟩
  | .local _ .vmem, ⟨9, _⟩ => ⟨S152x1024, .f32⟩
  | .local _ .vmem, ⟨10, _⟩ => ⟨S152x1024, .f32⟩
  | .local _ .vmem, ⟨11, _⟩ => ⟨S152x1024, .f32⟩
  | .local _ .vmem, ⟨12, _⟩ => ⟨S152x1024, .f32⟩
  | .local _ .vmem, ⟨13, _⟩ => ⟨S152x1024, .f32⟩
  | .local _ .vmem, ⟨14, _⟩ => ⟨S152x1024, .f32⟩
  | .local _ .vmem, ⟨15, _⟩ => ⟨S152x1024, .f32⟩
  | _, _ => ⟨S1024x1064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S152x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixInRefIdeal.lean ====
abbrev S1024x1064 : Shape := ⟨2, ![1024, 1064]⟩
abbrev S1088x1024 : Shape := ⟨2, ![1088, 1024]⟩
abbrev S1064x1024 : Shape := ⟨2, ![1064, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x1064, .f32⟩
  | .hbm, ⟨1, _⟩ => ⟨S1088x1024, .f32⟩
  | .hbm, ⟨2, _⟩ => ⟨S1024x1064, .f32⟩
  | .hbm, ⟨3, _⟩ => ⟨S1024x1064, .f32⟩
  | .hbm, ⟨4, _⟩ => ⟨S1064x1024, .f32⟩
  | .hbm, ⟨5, _⟩ => ⟨S1024x1064, .f32⟩
  | .hbm, ⟨6, _⟩ => ⟨S_, .f32⟩
  | .hbm, ⟨7, _⟩ => ⟨S1024x1064, .f32⟩
  | .hbm, ⟨8, _⟩ => ⟨S1024x1064, .f32⟩
  | .hbm, ⟨9, _⟩ => ⟨S_, .f32⟩
  | .hbm, ⟨10, _⟩ => ⟨S1024x1064, .f32⟩
  | .hbm, ⟨11, _⟩ => ⟨S1024x1064, .f32⟩
  | .hbm, ⟨12, _⟩ => ⟨S1024x1064, .f32⟩
  | .hbm, ⟨13, _⟩ => ⟨S_, .f32⟩
  | .hbm, ⟨14, _⟩ => ⟨S1024x1064, .f32⟩
  | .hbm, ⟨15, _⟩ => ⟨S1024x1064, .f32⟩
  | .hbm, ⟨16, _⟩ => ⟨S1024x1064, .f32⟩
  | .hbm, ⟨17, _⟩ => ⟨S_, .f32⟩
  | .hbm, ⟨18, _⟩ => ⟨S1024x1064, .f32⟩
  | .hbm, ⟨19, _⟩ => ⟨S1024x1064, .f32⟩
  | .hbm, ⟨20, _⟩ => ⟨S1024x1064, .f32⟩
  | .hbm, ⟨21, _⟩ => ⟨S_, .f32⟩
  | .hbm, ⟨22, _⟩ => ⟨S1024x1064, .f32⟩
  | .hbm, ⟨23, _⟩ => ⟨S1024x1064, .f32⟩
  | .hbm, ⟨24, _⟩ => ⟨S_, .f32⟩
  | .hbm, ⟨25, _⟩ => ⟨S1024x1064, .f32⟩
  | .hbm, ⟨26, _⟩ => ⟨S1024x1064, .f32⟩
  | .hbm, ⟨27, _⟩ => ⟨S1024x1064, .f32⟩
  | .hbm, ⟨28, _⟩ => ⟨S_, .f32⟩
  | .hbm, ⟨29, _⟩ => ⟨S1024x1064, .f32⟩
  | .hbm, ⟨30, _⟩ => ⟨S1024x1064, .f32⟩
  | .hbm, ⟨31, _⟩ => ⟨S1024x1064, .f32⟩
  | .hbm, ⟨32, _⟩ => ⟨S_, .f32⟩
  | .hbm, ⟨33, _⟩ => ⟨S1024x1064, .f32⟩
  | .hbm, ⟨34, _⟩ => ⟨S1024x1064, .f32⟩
  | .hbm, ⟨35, _⟩ => ⟨S1024x1064, .f32⟩
  | .hbm, ⟨36, _⟩ => ⟨S_, .f32⟩
  | .hbm, ⟨37, _⟩ => ⟨S1024x1064, .f32⟩
  | .hbm, ⟨38, _⟩ => ⟨S1024x1064, .f32⟩
  | .hbm, ⟨39, _⟩ => ⟨S1064x1024, .f32⟩
  | .hbm, ⟨40, _⟩ => ⟨S1064x1024, .f32⟩
  | .hbm, ⟨41, _⟩ => ⟨S1064x1024, .f32⟩
  | .hbm, ⟨42, _⟩ => ⟨S1064x1024, .f32⟩
  | _, _ => ⟨S1024x1064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamOut.lean ====
abbrev S256x1024 : Shape := ⟨2, ![256, 1024]⟩
abbrev S1216x1024 : Shape := ⟨2, ![1216, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S1216x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S256x1024 : Shape := ⟨2, ![256, 1024]⟩
abbrev S1216x1024 : Shape := ⟨2, ![1216, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1216x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GainSum.lean ====
abbrev S8x16x1024 : Shape := ⟨3, ![8, 16, 1024]⟩
abbrev S16x1024 : Shape := ⟨2, ![16, 1024]⟩
abbrev S1x16x1024 : Shape := ⟨3, ![1, 16, 1024]⟩
abbrev S1x1024 : Shape := ⟨2, ![1, 1024]⟩
abbrev S1024 : Shape := ⟨1, ![1024]⟩
abbrev S_ : Shape := ⟨0, ![]⟩

abbrev nBuf : Space → Nat
  | .hbm => 10
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S1x1024, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== GainSumRefIdeal.lean ====
abbrev S8x16x1024 : Shape := ⟨3, ![8, 16, 1024]⟩
abbrev S_ : Shape := ⟨0, ![]⟩
abbrev S16x1024 : Shape := ⟨2, ![16, 1024]⟩
abbrev S1x1024 : Shape := ⟨2, ![1, 1024]⟩
abbrev S1024 : Shape := ⟨1, ![1024]⟩

abbrev nBuf : Space → Nat
  | .hbm => 11
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | .hbm, ⟨3, _⟩ => ⟨S1x1024, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== AdamFfn1Out.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfn1OutRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S256x1024 : Shape := ⟨2, ![256, 1024]⟩
abbrev S1216x1024 : Shape := ⟨2, ![1216, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S1216x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateRefIdeal.lean ====
abbrev S256x1024 : Shape := ⟨2, ![256, 1024]⟩
abbrev S1216x1024 : Shape := ⟨2, ![1216, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1216x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamBranch.lean ====
abbrev S512x256 : Shape := ⟨2, ![512, 256]⟩
abbrev S1280x256 : Shape := ⟨2, ![1280, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S1280x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchRefIdeal.lean ====
abbrev S512x256 : Shape := ⟨2, ![512, 256]⟩
abbrev S1280x256 : Shape := ⟨2, ![1280, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S1280x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S_, .f32⟩
  | .hbm, ⟨6, _⟩ => ⟨S512x256, .f32⟩
  | .hbm, ⟨7, _⟩ => ⟨S512x256, .f32⟩
  | .hbm, ⟨8, _⟩ => ⟨S_, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamLatent.lean ====
abbrev S512x256 : Shape := ⟨2, ![512, 256]⟩
abbrev S1280x256 : Shape := ⟨2, ![1280, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S1280x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLatentRefIdeal.lean ====
abbrev S512x256 : Shape := ⟨2, ![512, 256]⟩
abbrev S1280x256 : Shape := ⟨2, ![1280, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S1280x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S_, .f32⟩
  | .hbm, ⟨6, _⟩ => ⟨S512x256, .f32⟩
  | .hbm, ⟨7, _⟩ => ⟨S512x256, .f32⟩
  | .hbm, ⟨8, _⟩ => ⟨S_, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamProj.lean ====
abbrev S256x256 : Shape := ⟨2, ![256, 256]⟩
abbrev S1280x256 : Shape := ⟨2, ![1280, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S1280x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamProjRefIdeal.lean ====
abbrev S256x256 : Shape := ⟨2, ![256, 256]⟩
abbrev S1280x256 : Shape := ⟨2, ![1280, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S1280x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamQUp.lean ====
abbrev S384x192 : Shape := ⟨2, ![384, 192]⟩
abbrev S192x192 : Shape := ⟨2, ![192, 192]⟩

abbrev nBuf : Space → Nat
  | .hbm => 8
  | .vmem => 16
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S384x192, .f32⟩
  | .hbm, ⟨5, _⟩ => ⟨S384x192, .f32⟩
  | .hbm, ⟨6, _⟩ => ⟨S384x192, .f32⟩
  | .hbm, ⟨7, _⟩ => ⟨S384x192, .f32⟩
  | .local _ .vmem, ⟨0, _⟩ => ⟨S192x192, .f32⟩
  | .local _ .vmem, ⟨1, _⟩ => ⟨S192x192, .f32⟩
  | .local _ .vmem, ⟨2, _⟩ => ⟨S192x192, .f32⟩
  | .local _ .vmem, ⟨3, _⟩ => ⟨S192x192, .f32⟩
  | .local _ .vmem, ⟨4, _⟩ => ⟨S192x192, .f32⟩
  | .local _ .vmem, ⟨5, _⟩ => ⟨S192x192, .f32⟩
  | .local _ .vmem, ⟨6, _⟩ => ⟨S192x192, .f32⟩
  | .local _ .vmem, ⟨7, _⟩ => ⟨S192x192, .f32⟩
  | .local _ .vmem, ⟨8, _⟩ => ⟨S192x192, .f32⟩
  | .local _ .vmem, ⟨9, _⟩ => ⟨S192x192, .f32⟩
  | .local _ .vmem, ⟨10, _⟩ => ⟨S192x192, .f32⟩
  | .local _ .vmem, ⟨11, _⟩ => ⟨S192x192, .f32⟩
  | .local _ .vmem, ⟨12, _⟩ => ⟨S192x192, .f32⟩
  | .local _ .vmem, ⟨13, _⟩ => ⟨S192x192, .f32⟩
  | .local _ .vmem, ⟨14, _⟩ => ⟨S192x192, .f32⟩
  | .local _ .vmem, ⟨15, _⟩ => ⟨S192x192, .f32⟩
  | _, _ => ⟨S384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQUpRefIdeal.lean ====
abbrev S384x192 : Shape := ⟨2, ![384, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S_, .f32⟩
  | .hbm, ⟨5, _⟩ => ⟨S384x192, .f32⟩
  | .hbm, ⟨6, _⟩ => ⟨S384x192, .f32⟩
  | .hbm, ⟨7, _⟩ => ⟨S_, .f32⟩
  | .hbm, ⟨8, _⟩ => ⟨S384x192, .f32⟩
  | .hbm, ⟨9, _⟩ => ⟨S384x192, .f32⟩
  | .hbm, ⟨10, _⟩ => ⟨S384x192, .f32⟩
  | .hbm, ⟨11, _⟩ => ⟨S_, .f32⟩
  | .hbm, ⟨12, _⟩ => ⟨S384x192, .f32⟩
  | .hbm, ⟨13, _⟩ => ⟨S384x192, .f32⟩
  | .hbm, ⟨14, _⟩ => ⟨S384x192, .f32⟩
  | .hbm, ⟨15, _⟩ => ⟨S_, .f32⟩
  | .hbm, ⟨16, _⟩ => ⟨S384x192, .f32⟩
  | .hbm, ⟨17, _⟩ => ⟨S384x192, .f32⟩
  | .hbm, ⟨18, _⟩ => ⟨S384x192, .f32⟩
  | .hbm, ⟨19, _⟩ => ⟨S_, .f32⟩
  | .hbm, ⟨20, _⟩ => ⟨S384x192, .f32⟩
  | .hbm, ⟨21, _⟩ => ⟨S384x192, .f32⟩
  | .hbm, ⟨22, _⟩ => ⟨S_, .f32⟩
  | .hbm, ⟨23, _⟩ => ⟨S384x192, .f32⟩
  | .hbm, ⟨24, _⟩ => ⟨S384x192, .f32⟩
  | .hbm, ⟨25, _⟩ => ⟨S384x192, .f32⟩
  | .hbm, ⟨26, _⟩ => ⟨S_, .f32⟩
  | .hbm, ⟨27, _⟩ => ⟨S384x192, .f32⟩
  | .hbm, ⟨28, _⟩ => ⟨S384x192, .f32⟩
  | .hbm, ⟨29, _⟩ => ⟨S384x192, .f32⟩
  | .hbm, ⟨30, _⟩ => ⟨S_, .f32⟩
  | .hbm, ⟨31, _⟩ => ⟨S384x192, .f32⟩
  | .hbm, ⟨32, _⟩ => ⟨S384x192, .f32⟩
  | .hbm, ⟨33, _⟩ => ⟨S384x192, .f32⟩
  | .hbm, ⟨34, _⟩ => ⟨S_, .f32⟩
  | .hbm, ⟨35, _⟩ => ⟨S384x192, .f32⟩
  | .hbm, ⟨36, _⟩ => ⟨S384x192, .f32⟩
  | _, _ => ⟨S384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvUp.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvUpRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Reals.lean ====
/- Extended reals that are real numbers, and the identities of the gradients that hold for them: an extended real is not
   a ring, so an identity that distributes a product over a sum is proved over the real numbers and carried over. -/
module

public import proofs.«01_k».proof.Defs
public import Idealize.ShloMosaic.Lib.Pipeline.ValueKit
public import Idealize.ShloMosaic.Lib.IdealHost

@[expose] public section

noncomputable section

open Idealize.ShloMosaic

namespace Cert.Reals

/-- The extended real is a real number. -/
def IsReal (x : EReal) : Prop := ∃ r : ℝ, x = r

/-- A sum of real numbers is a real number. -/
theorem IsReal.add {x y : EReal} : IsReal x → IsReal y → IsReal (x + y)
  | ⟨a, ha⟩, ⟨b, hb⟩ => ⟨a + b, by rw [ha, hb, EReal.coe_add]⟩

/-- A difference of real numbers is a real number. -/
theorem IsReal.sub {x y : EReal} : IsReal x → IsReal y → IsReal (x - y)
  | ⟨a, ha⟩, ⟨b, hb⟩ => ⟨a - b, by rw [ha, hb, EReal.coe_sub]⟩

/-- A product of real numbers is a real number. -/
theorem IsReal.mul {x y : EReal} : IsReal x → IsReal y → IsReal (x * y)
  | ⟨a, ha⟩, ⟨b, hb⟩ => ⟨a * b, by rw [ha, hb, EReal.coe_mul]⟩

/-- A finite sum of real numbers is a real number. -/
theorem IsReal.sum {n : ℕ} {f : Fin n → EReal} (h : ∀ k, IsReal (f k)) : IsReal (∑ k, f k) := by
  refine Finset.sum_induction f IsReal (fun _ _ => IsReal.add) ⟨0, rfl⟩ fun k _ => h k

/-- The word of infinity reads as infinity. -/
theorem word_top : Ideal.ofBits .f32 0x7F800000#32 = ⊤ := by simp [Ideal.ofBits, Ideal.ieee]

/-- What lies below infinity in absolute value is a real number. -/
theorem isReal_of_lt {x : EReal} (h : Ideal.cmp .olt (max x (-x)) ⊤ = 1#1) : IsReal x := by
  induction x with
  | bot => simp [Ideal.cmp] at h
  | top => simp [Ideal.cmp] at h
  | coe r => exact ⟨r, rfl⟩

/-- An array whose entries all lie below infinity in absolute value holds real numbers. -/
theorem isReal_of_abs {s : Shape} {x : FVec Ideal s .f32} {b : IVec s 1} (hb : b = fun _ => 1#1)
    (h : b = cmpf .olt (Host.absf x) (fun _ => Ideal.ofBits .f32 0x7F800000#32)) (i : s.Idx) : IsReal (x i) := by
  have e : Ideal.cmp .olt (max (x i) (-(x i))) ⊤ = 1#1 := by
    rw [← word_top]; exact (congrFun (h.symm.trans hb) i : _)
  exact isReal_of_lt e

/-- The word of a half is a real number. -/
theorem word_half : IsReal (Ideal.ofBits .f32 0x3F000000#32) := ⟨_, by simp [Ideal.ofBits, Ideal.ieee]; rfl⟩

/-- The derivative of `a · σ(a)` in its two forms, times a real number: `σ · (1 + a · (1 - σ))` and `σ + a · (σ · (1 - σ))`.
    At the two infinities `σ` is 0 or 1 and both sides agree. -/
theorem silu_grad {p : EReal} (hp : IsReal p) (a : EReal) :
    p * (Ideal.logistic a * (1 + a * (1 - Ideal.logistic a)))
      = p * Ideal.logistic a + a * p * (Ideal.logistic a * (1 - Ideal.logistic a)) := by
  obtain ⟨p, rfl⟩ := hp
  induction a with
  | bot => simp
  | top =>
    have h : (1 : EReal) - 1 = 0 := by rw [← EReal.coe_one, ← EReal.coe_sub, sub_self, EReal.coe_zero]
    simp [h]
  | coe a =>
    rw [Ideal.logistic_coe, ← EReal.coe_one]
    simp only [← EReal.coe_mul, ← EReal.coe_add, ← EReal.coe_sub]
    congr 1
    ring

end Cert.Reals
-- ==== Proof.FfnBwd.lean ====
/- The call that opens the gradient of a feed-forward half-step: the cotangents of `a` and `b`, from the cotangent of
   `h = silu a * b` that a product with `w_out` gives. Every point computes its block of columns in five pieces of 256
   columns and one of 128. The version writes the derivative of `silu` as `σ · (1 + a · (1 - σ))`, the reference's
   gradient as `σ + a · (σ · (1 - σ))`: the two agree times a real number. -/
module

public import proofs.«01_k».proof.Defs
public import proofs.«01_k».proof.Proof.Gen.FfnBwdIdeal.Value
public import proofs.«01_k».proof.Proof.Gen.FfnBwdRefIdeal.Run
public import proofs.«01_k».proof.Proof.Gen.FfnBwdRefIdeal.Read
public import Idealize.ShloMosaic.Lib.Pipeline.ValueKit
public import Idealize.ShloMosaic.Lib.Claim
public import proofs.«01_k».proof.Proof.Gen.Pre_ffn_bwd_finite
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnBwdIdeal.Value

open Cert.FfnBwdIdeal Cert.FfnBwdIdeal.Gen
open Cert.FfnBwdRefIdeal.Read

variable (m : (ℓ : Loc nD τ sig) → Buf (Elt Ideal) ℓ)

open Cert.Reals (IsReal isReal_of_abs word_half silu_grad)

/-- Which block each window holds at point `t`: the row block is `t % 4`, the column block `t / 4`. -/
theorem idx : ∀ t : Fin cfg0.N, win0_0.index t = ![t.val % 4, 0] ∧ win0_1.index t = ![t.val % 4, t.val / 4]
    ∧ win0_2.index t = ![t.val % 4, t.val / 4] ∧ win0_3.index t = ![t.val / 4, 0]
    ∧ win0_4.index t = ![t.val % 4, t.val / 4] ∧ win0_5.index t = ![t.val % 4, t.val / 4] ∧ t.val / 4 < 2 :=
  (by decide +kernel : ∀ t : Fin grid0.N, _)

/-- The cotangent of `h` at an entry of a point's block: a row of the cotangent times a row of `w_out`. -/
def dh (X0 : FVec Ideal S1024x1024 .bf16) (X3 : FVec Ideal S1408x1024 .bf16) (i : Fin 1024) (j : Fin 1408) : EReal :=
  ∑ k : Fin 1024, X0 (ix2 i k) * X3 (ix2 j k)

/-- The cotangent of `b` at an entry of a point's block. -/
def db (X0 : FVec Ideal S1024x1024 .bf16) (X1 : FVec Ideal S1024x1408 .f32) (X3 : FVec Ideal S1408x1024 .bf16)
    (i : Fin 1024) (j : Fin 1408) : EReal :=
  dh X0 X3 i j * (X1 (ix2 i j) * Ideal.logistic (X1 (ix2 i j)))

/-- The cotangent of `a` at an entry of a point's block, as the version writes it. -/
def da (X0 : FVec Ideal S1024x1024 .bf16) (X1 X2 : FVec Ideal S1024x1408 .f32) (X3 : FVec Ideal S1408x1024 .bf16)
    (i : Fin 1024) (j : Fin 1408) : EReal :=
  dh X0 X3 i j * X2 (ix2 i j)
    * (Ideal.logistic (X1 (ix2 i j)) * (1 + X1 (ix2 i j) * (1 - Ideal.logistic (X1 (ix2 i j)))))

/-- The block of `b`'s cotangent, put together from its pieces. -/
theorem pieces_b (c : Dev nD) (t : Fin cfg0.N) (y : S1024x1408.Idx) :
    (outsAt0 m c t).2 y = db (iblk m c 0 t) (iblk m c 1 t) (iblk m c 3 t) (y 0) (y 1) := by
  unfold Gen.outsAt0; frame_out
  canon_tiles x h using View.cover_of_tiledBy _ ![1024, 128] (by sl_kernel_rfl) ..
  all_goals
    pointwise [k0_pay4, k0_pay11, k0_pay5, k0_pay2, k0_pay1, k0_pay10, k0_pay24, k0_pay23, k0_pay9, k0_pay21, k0_pay20, k0_pay8,
      k0_pay18, k0_pay17, k0_pay7, k0_pay15, k0_pay14, k0_pay6, k0_pay12, db, dh]
    blk_point []

/-- The block of `a`'s cotangent, put together from its pieces. -/
theorem pieces_a (c : Dev nD) (t : Fin cfg0.N) (y : S1024x1408.Idx) :
    (outsAt0 m c t).1 y = da (iblk m c 0 t) (iblk m c 1 t) (iblk m c 2 t) (iblk m c 3 t) (y 0) (y 1) := by
  unfold Gen.outsAt0; frame_out
  canon_tiles x h using View.cover_of_tiledBy _ ![1024, 128] (by sl_kernel_rfl) ..
  all_goals
    pointwise [k0_pay3, k0_pay11, k0_pay5, k0_pay2, k0_pay25, k0_pay10, k0_pay24, k0_pay22, k0_pay9, k0_pay21, k0_pay19, k0_pay8,
      k0_pay18, k0_pay16, k0_pay7, k0_pay15, k0_pay13, k0_pay6, k0_pay12, da, dh]
    blk_point []

/-- What the precondition says: the cotangent, `b` and `w_out` hold real numbers. -/
theorem finite (hpre : Cert.Pre_FfnBwdIdeal_ffn_bwd_finite m) (c : Dev nD) :
    (∀ i, IsReal ((m ((c : Thread nD τ).loc main_arg0) : FVec Ideal S4096x1024 .f32) i))
    ∧ (∀ i, IsReal ((m ((c : Thread nD τ).loc main_arg2) : FVec Ideal S4096x2816 .f32) i))
    ∧ (∀ i, IsReal ((m ((c : Thread nD τ).loc main_arg3) : FVec Ideal S2816x1024 .f32) i)) :=
  ⟨isReal_of_abs (hpre c).1 rfl, isReal_of_abs (hpre c).2.1 rfl, isReal_of_abs (hpre c).2.2 rfl⟩

/-- A point's rows of the scaled cotangent times `w_out` are the reference's. -/
theorem dh_eq (c : Dev nD) (t : Fin cfg0.N) (y : S1024x1408.Idx) :
    dh (iblk m c 0 t) (iblk m c 3 t) (y 0) (y 1)
      = val_main_v7 (m ((c : Thread nD τ).loc main_arg0)) (m ((c : Thread nD τ).loc main_arg3))
          (((cfg0.win 5).blk t).view.emb y) := by
  pointwise [dh, val_main_v7, val_main_v6, val_main_v5, val_main_cst_0]
  blk_point [iblk, V, idx t]
  refine congrArg (· * _) ?_
  entry_read
  pointwise
  blk_point [V, idx t]

/-- A point's block of `a` lies in `a` where its results lie. -/
theorem a_eq (c : Dev nD) (t : Fin cfg0.N) (y : S1024x1408.Idx) :
    (iblk m c 1 t : FVec Ideal S1024x1408 .f32) (ix2 (y 0) (y 1))
      = (m ((c : Thread nD τ).loc main_arg1) : FVec Ideal S4096x2816 .f32) (((cfg0.win 5).blk t).view.emb y) := by
  blk_ext [iblk, V, idx t]

/-- A point's block of `b` lies in `b` where its results lie. -/
theorem b_eq (c : Dev nD) (t : Fin cfg0.N) (y : S1024x1408.Idx) :
    (iblk m c 2 t : FVec Ideal S1024x1408 .f32) (ix2 (y 0) (y 1))
      = (m ((c : Thread nD τ).loc main_arg2) : FVec Ideal S4096x2816 .f32) (((cfg0.win 5).blk t).view.emb y) := by
  blk_ext [iblk, V, idx t]

/-- The cotangent of `h` is real. -/
theorem dh_real (hpre : Cert.Pre_FfnBwdIdeal_ffn_bwd_finite m) (c : Dev nD) (j : S4096x2816.Idx) :
    IsReal (val_main_v7 (F := Ideal) (m ((c : Thread nD τ).loc main_arg0)) (m ((c : Thread nD τ).loc main_arg3)) j) := by
  obtain ⟨h0, h2, h3⟩ := finite m hpre c
  pointwise [val_main_v7, val_main_v6, val_main_v5, val_main_cst_0]
  exact IsReal.sum fun k => (word_half.mul (h0 _)).mul (h3 _)

/-- After the run the cotangent of `b` is the reference's. -/
theorem final_5 (c : Dev nD) : (dats m 0 c).arrAt 5 cfg0.N
    = val_main_v12 (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]
  refine (pieces_b m c t y).trans ?_
  unfold db
  rw [dh_eq, a_eq, mul_comm]
  pointwise [val_main_v12, val_main_v8, val_main_v0_0, val_main_v0_2, val_main_call0_v4, val_main_call0_v3, val_main_call0_v2,
    val_main_call0_v1, val_main_call0_v0, val_main_call0_cst, val_main_call0_cst_0, Ideal.logistic]

/-- After the run the cotangent of `a` is the reference's. -/
theorem final_4 (hpre : Cert.Pre_FfnBwdIdeal_ffn_bwd_finite m) (c : Dev nD) : (dats m 0 c).arrAt 4 cfg0.N
    = val_main_v11 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine (pieces_a m c t y).trans ?_
  unfold da
  rw [dh_eq, a_eq, b_eq, silu_grad ((dh_real m hpre c _).mul ((finite m hpre c).2.1 _))]
  pointwise [val_main_v11, val_main_v10, val_main_call1_v0, val_main_call1_v1, val_main_call1_v2, val_main_v9, val_main_v0_1,
    val_main_call0_v6, val_main_call0_v7, val_main_call0_cst_1, val_main_v0_2, val_main_call0_v4, val_main_call0_v3, val_main_call0_v2,
    val_main_call0_v1, val_main_call0_v0, val_main_call0_cst, val_main_call0_cst_0, Ideal.logistic]
  rfl

end Cert.FfnBwdIdeal.Value

/-- The kernel's two results are the reference's, where the cotangent, `b` and `w_out` are real. -/
theorem Cert.Proof.ffn_bwd : Cert.algebraic_FfnBwdIdeal_FfnBwdRefIdeal_pre_ffn_bwd_finite := by
  pair_intro
  · run_from Cert.FfnBwdIdeal.Value.run_blocks m g
  · run_from Cert.FfnBwdRefIdeal.Value.run m' g'
    · exact (Cert.FfnBwdIdeal.Value.final_4 m hpre c).symm
    · exact (Cert.FfnBwdIdeal.Value.final_5 m c).symm
-- ==== Proof.FfnIn.lean ====
/- The call that opens a feed-forward half-step: `a` and `b`, the two halves of `u · w_in`, and `h = silu a * b`.
   The grid runs over two column blocks and four row blocks; every point stores its own block of the three results,
   so each result is read off one point at a time and compared with the reference's term at the same index. -/
module

public import proofs.«01_k».proof.Defs
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnInIdeal.Value

open Cert.FfnInIdeal Cert.FfnInIdeal.Gen
open Cert.FfnInRefIdeal.Read

variable (m : (ℓ : Loc nD τ sig) → Buf (Elt Ideal) ℓ)

/-- Which block each window holds at point `t`: the row block is `t % 4`, the column block `t / 4`; the third window
takes the columns of the second half, two blocks further. -/
theorem idx : ∀ t : Fin cfg0.N, win0_0.index t = ![t.val % 4, 0] ∧ win0_1.index t = ![t.val / 4, 0, 0]
    ∧ win0_2.index t = ![t.val / 4 + 2, 0, 0] ∧ win0_3.index t = ![t.val % 4, t.val / 4]
    ∧ win0_4.index t = ![t.val % 4, t.val / 4] ∧ win0_5.index t = ![t.val % 4, t.val / 4] ∧ t.val / 4 < 2 :=
  (by decide +kernel : ∀ t : Fin grid0.N, _)

/-- The block of `a` that point `t` computes is the first half of the columns of `u · w_in`, at the block's place. -/
theorem point_a (c : Dev nD) (t : Fin cfg0.N) (y) :
    k0_pay2 (F := Ideal) (iblk m c 0 t) (iblk m c 1 t) y
      = val_main_v1 (m ((c : Thread nD τ).loc main_arg0)) (m ((c : Thread nD τ).loc main_arg1))
          (((cfg0.win 3).blk t).view.emb y) := by
  pointwise [k0_pay2, k0_pay1, val_main_v1, val_main_v0]
  blk_point [iblk, V, idx t]

/-- The block of `b` that point `t` computes is the second half of the columns of `u · w_in`, at the block's place. -/
theorem point_b (c : Dev nD) (t : Fin cfg0.N) (y) :
    k0_pay3 (F := Ideal) (iblk m c 0 t) (iblk m c 2 t) y
      = val_main_v2 (m ((c : Thread nD τ).loc main_arg0)) (m ((c : Thread nD τ).loc main_arg1))
          (((cfg0.win 4).blk t).view.emb y) := by
  pointwise [k0_pay3, k0_pay1, val_main_v2, val_main_v0]
  blk_point [iblk, V, idx t]

/-- The block of `h` that point `t` computes is `silu a * b` of the reference, at the block's place. -/
theorem point_h (c : Dev nD) (t : Fin cfg0.N) (y) :
    k0_pay4 (F := Ideal) (iblk m c 0 t) (iblk m c 1 t) (iblk m c 2 t) y
      = val_main_v5 (m ((c : Thread nD τ).loc main_arg0)) (m ((c : Thread nD τ).loc main_arg1))
          (((cfg0.win 5).blk t).view.emb y) := by
  pointwise [k0_pay4, k0_pay2, k0_pay3, k0_pay1, val_main_v5, val_main_v4, val_main_v3, val_main_call0_v5,
    val_main_call0_v4, val_main_call0_v3, val_main_call0_v2, val_main_call0_v1, val_main_call0_v0, val_main_call0_cst,
    val_main_call0_cst_0, val_main_v2, val_main_v1, val_main_v0, Ideal.logistic]
  blk_point [iblk, V, idx t]

/-- After the run the first result is `a` of the reference. -/
theorem final_a (c : Dev nD) : (dats m 0 c).arrAt 3 cfg0.N
    = val_main_v1 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_a m c t y

/-- After the run the second result is `b` of the reference. -/
theorem final_b (c : Dev nD) : (dats m 0 c).arrAt 4 cfg0.N
    = val_main_v2 (m ((c : Thread nD τ).loc main_arg0)) (m ((c : Thread nD τ).loc main_arg1)) := by
  refine (dats m 0 c).arrAt_eq_of_covers 4 _ (by decide +kernel) fun t _ y => ?_
  blk_simp
  rw [after0_4]; frame_out
  exact point_b m c t y

/-- After the run the third result is `silu a * b` of the reference. -/
theorem final_h (c : Dev nD) : (dats m 0 c).arrAt 5 cfg0.N
    = val_main_v5 (m ((c : Thread nD τ).loc main_arg0)) (m ((c : Thread nD τ).loc main_arg1)) := by
  refine (dats m 0 c).arrAt_eq_of_covers 5 _ (by decide +kernel) fun t _ y => ?_
  blk_simp
  rw [after0_5]; frame_out
  exact point_h m c t y

end Cert.FfnInIdeal.Value

/-- The kernel's three results are the reference's. -/
theorem Cert.Proof.ffn_in : Cert.algebraic_FfnInIdeal_FfnInRefIdeal := by
  pair_intro
  · run_from Cert.FfnInIdeal.Value.run_blocks m g
  · run_from Cert.FfnInRefIdeal.Value.run m' g'
    · exact (Cert.FfnInIdeal.Value.final_a m c).symm
    · exact (Cert.FfnInIdeal.Value.final_b m c).symm
    · exact (Cert.FfnInIdeal.Value.final_h m c).symm
-- ==== Proof.FfnOut.lean ====
/- The call that closes a feed-forward half-step: `y = x + (h · w_out) / 2` and `u = rms_norm y * g`. The grid runs over
   four row blocks; the whole rows are at hand at each point, so the norm's mean is taken inside the block. -/
module

public import proofs.«01_k».proof.Defs
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnOutIdeal.Value

open Cert.FfnOutIdeal Cert.FfnOutIdeal.Gen
open Cert.FfnOutRefIdeal.Read

variable (m : (ℓ : Loc nD τ sig) → Buf (Elt Ideal) ℓ)

/-- Which block each window holds at point `t`: the row block is `t`, the weights and the gain are whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The block of `y` that point `t` computes is the reference's, at the block's place. -/
theorem point_y (c : Dev nD) (t : Fin cfg0.N) (y) :
    k0_pay1 (F := Ideal) (iblk m c 2 t) (iblk m c 0 t) (iblk m c 1 t) y
      = val_main_v3 (m ((c : Thread nD τ).loc main_arg0)) (m ((c : Thread nD τ).loc main_arg1))
          (m ((c : Thread nD τ).loc main_arg2)) (((cfg0.win 4).blk t).view.emb y) := by
  pointwise [k0_pay1, val_main_v3, val_main_v2, val_main_v1, val_main_v0, val_main_cst]
  blk_point [iblk, V, idx t]

/-- The block of the normed rows that point `t` computes is the reference's, at the block's place. -/
theorem point_u (c : Dev nD) (t : Fin cfg0.N) (y) :
    k0_pay2 (F := Ideal) (iblk m c 2 t) (iblk m c 0 t) (iblk m c 1 t) (iblk m c 3 t) y
      = val_main_v16 (m ((c : Thread nD τ).loc main_arg0)) (m ((c : Thread nD τ).loc main_arg1))
          (m ((c : Thread nD τ).loc main_arg2)) (m ((c : Thread nD τ).loc main_arg3))
          (((cfg0.win 5).blk t).view.emb y) := by
  pointwise [k0_pay2, k0_pay1, val_main_v16, val_main_v15, val_main_v14, val_main_v13, val_main_v12, val_main_v11,
    val_main_v10, val_main_v9, val_main_v8, val_main_v7, val_main_v6, val_main_v5, val_main_v4, val_main_v3,
    val_main_v2, val_main_v1, val_main_v0, val_main_cst, val_main_cst_0, val_main_cst_1, val_main_cst_2]
  blk_point [iblk, V, idx t]

/-- After the run the first result is the reference's. -/
theorem final_y (c : Dev nD) : (dats m 0 c).arrAt 4 cfg0.N
    = val_main_v3 (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]; frame_out
  exact point_y m c t y

/-- After the run the second result is the reference's. -/
theorem final_u (c : Dev nD) : (dats m 0 c).arrAt 5 cfg0.N
    = val_main_v16 (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_u m c t y

end Cert.FfnOutIdeal.Value

/-- The kernel's two results are the reference's. -/
theorem Cert.Proof.ffn_out : Cert.algebraic_FfnOutIdeal_FfnOutRefIdeal := by
  pair_intro
  · run_from Cert.FfnOutIdeal.Value.run_blocks m g
  · run_from Cert.FfnOutRefIdeal.Value.run m' g'
    · exact (Cert.FfnOutIdeal.Value.final_y m c).symm
    · exact (Cert.FfnOutIdeal.Value.final_u m c).symm
-- ==== Proof.Norms.lean ====
/- The root-mean-square norm and its gradient over the real numbers: the mean square plus the norm's small constant is a
   positive real, so the reciprocal root `r` of it is real, `r / v` is `r * r * r`, and the two ways of writing the
   gradient agree. -/
module

public import proofs.«01_k».proof.Proof.Reals

@[expose] public section

noncomputable section

open Idealize.ShloMosaic
open Cert.Reals (IsReal)

namespace Cert.Norms

/-- A positive real number. -/
def IsPos (x : EReal) : Prop := ∃ r : ℝ, 0 < r ∧ x = r

/-- A real number that is not negative. -/
def IsNonneg (x : EReal) : Prop := ∃ r : ℝ, 0 ≤ r ∧ x = r

/-- The word of 1024. -/
theorem word_width : Ideal.ofBits .f32 0x44800000#32 = ((1024 : ℝ) : EReal) := by
  simp [Ideal.ofBits, Ideal.ieee]
  rw [← EReal.coe_mul]; norm_num

/-- The word of minus a half. -/
theorem word_neg_half : Ideal.ofBits .f32 0xBF000000#32 = ((-(1 / 2) : ℝ) : EReal) := by
  simp [Ideal.ofBits, Ideal.ieee]
  rw [← EReal.coe_mul]; norm_num

/-- The word of the norm's constant is positive. -/
theorem word_eps : IsPos (Ideal.ofBits .f32 0x358637BD#32) :=
  ⟨8796093 * (1 / 8796093022208), by norm_num, by
    simp [Ideal.ofBits, Ideal.ieee]
    rw [← EReal.coe_mul]; congr 1; norm_num⟩

/-- A sum of squares of real numbers is a real number that is not negative. -/
theorem sum_sq {n : ℕ} {f : Fin n → EReal} (h : ∀ k, IsReal (f k)) : IsNonneg (∑ k, f k * f k) := by
  refine Finset.sum_induction (fun k => f k * f k) IsNonneg (fun x y hx hy => ?_) ⟨0, le_rfl, rfl⟩ fun k _ => ?_
  · obtain ⟨a, ha, rfl⟩ := hx
    obtain ⟨b, hb, rfl⟩ := hy
    exact ⟨a + b, add_nonneg ha hb, (EReal.coe_add a b).symm⟩
  · obtain ⟨a, ha⟩ := h k
    exact ⟨a * a, mul_self_nonneg a, by rw [ha, EReal.coe_mul]⟩

/-- The mean square of real numbers plus the norm's constant is positive. -/
theorem meansq_pos {n : ℕ} {f : Fin n → EReal} (h : ∀ k, IsReal (f k)) :
    IsPos (Ideal.div (∑ k, f k * f k) (Ideal.ofBits .f32 0x44800000#32) + Ideal.ofBits .f32 0x358637BD#32) := by
  obtain ⟨a, ha, ea⟩ := sum_sq h
  obtain ⟨e, he, ee⟩ := word_eps
  refine ⟨a * (1 / 1024) + e, by positivity, ?_⟩
  rw [ea, ee, word_width, Ideal.div_coe (by norm_num), ← EReal.coe_mul, ← EReal.coe_add]

/-- The gradient of the norm's input, in two ways of writing it: the version subtracts `x` times `r³ · s / 1024`, the
    derivative of the plain norm adds `x` times half of `-½ · s · r / v` twice. Here `r` is the reciprocal root of `v`, `p`
    the gradient times the gain, `s` its sum against `x` along the row, and `z` what passes by the norm. -/
theorem norm_grad {v s p x : EReal} (hv : IsPos v) (hs : IsReal s) (hp : IsReal p) (hx : IsReal x) (z : EReal) :
    z + (Ideal.rsqrt v * p - x * (Ideal.rsqrt v * Ideal.rsqrt v * Ideal.rsqrt v
        * Ideal.div s (Ideal.ofBits .f32 0x44800000#32)))
      = z + p * Ideal.rsqrt v
        + x * Ideal.div (s * (Ideal.ofBits .f32 0xBF000000#32 * Ideal.div (Ideal.rsqrt v) v)) (Ideal.ofBits .f32 0x44800000#32)
        + Ideal.div (s * (Ideal.ofBits .f32 0xBF000000#32 * Ideal.div (Ideal.rsqrt v) v)) (Ideal.ofBits .f32 0x44800000#32) * x := by
  obtain ⟨v, hv, rfl⟩ := hv
  obtain ⟨s, rfl⟩ := hs
  obtain ⟨p, rfl⟩ := hp
  obtain ⟨x, rfl⟩ := hx
  have hr : Ideal.rsqrt (v : EReal) = (((Real.sqrt v)⁻¹ : ℝ) : EReal) := by
    rw [Ideal.rsqrt_coe, if_neg (not_lt.mpr hv.le), if_neg hv.ne']
  have hq : (Real.sqrt v)⁻¹ * (1 / v) = (Real.sqrt v)⁻¹ * (Real.sqrt v)⁻¹ * (Real.sqrt v)⁻¹ := by
    have h := Real.mul_self_sqrt hv.le
    rw [mul_assoc, ← mul_inv, h, one_div]
  rw [word_width, word_neg_half, Ideal.div_coe (by norm_num), Ideal.div_coe (by norm_num), Ideal.div_coe hv.ne', hr]
  simp only [← EReal.coe_mul, ← EReal.coe_sub, add_assoc, ← EReal.coe_add]
  rw [hq]
  congr 2
  ring

/-- What one row adds to the gain's gradient at column `j`: the gradient `d` at the norm's output times the normalized
    input. -/
def gainRow (d : EReal) (x : Fin 1024 → EReal) (j : Fin 1024) : EReal :=
  d * (x j * Ideal.rsqrt (Ideal.div (∑ k, x k * x k) (Ideal.ofBits .f32 0x44800000#32) + Ideal.ofBits .f32 0x358637BD#32))

end Cert.Norms

end
-- ==== Proof.FfnNormBwd.lean ====
/- The call that closes the gradient of a feed-forward half-step: the cotangents of the half-step's input and of its
   gain, from those of `a` and `b`. The product with the transposed weights is a sum over four chunks of 1408 columns; the
   gain's cotangent is accumulated over the eight row blocks. The norm's gradient is written with `r³` where the
   derivative of the plain norm has `r / v`: the two agree where all that enters is real. -/
module

public import proofs.«01_k».proof.Defs
public import proofs.«01_k».proof.Proof.Gen.FfnNormBwdIdeal.Value
public import proofs.«01_k».proof.Proof.Gen.FfnNormBwdRefIdeal.Run
public import proofs.«01_k».proof.Proof.Gen.FfnNormBwdRefIdeal.Read
public import Idealize.ShloMosaic.Lib.Pipeline.ValueKit
public import Idealize.ShloMosaic.Lib.Claim
public import proofs.«01_k».proof.Proof.Gen.Pre_ffn_norm_bwd_finite
public import proofs.«01_k».proof.Proof.Norms

@[expose] public section

set_option maxRecDepth 16384

noncomputable section

open Idealize.ShloMosaic Idealize.ShloMosaic.TcCoe Idealize.SL.Sem
open Idealize.ShloMosaic.Pipeline (Dat)

namespace Cert.FfnNormBwdIdeal.Value

open Cert.FfnNormBwdIdeal Cert.FfnNormBwdIdeal.Gen
open Cert.FfnNormBwdRefIdeal.Read

variable (m : (ℓ : Loc nD τ sig) → Buf (Elt Ideal) ℓ)

open Cert.Reals (IsReal isReal_of_abs)
open Cert.Norms (norm_grad meansq_pos gainRow)

/-- Which block each window holds at point `t`: the row block is `t`, the weights and the gain are whole. -/
theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0]
    ∧ win0_6.index t = ![t.val, 0] ∧ win0_7.index t = ![t.val, 0] ∧ win0_8.index t = ![0, 0] :=
  (by decide +kernel : ∀ t : Fin grid0.N, _)

/-- A sum over the columns is the sum over their first half and the sum over their second half. -/
theorem halves (f : Fin 2816 → EReal) :
    ∑ k : Fin 1408, f ⟨k.val, by omega⟩ + ∑ k : Fin 1408, f ⟨1408 + k.val, by omega⟩ = ∑ k, f k :=
  (Fin.sum_univ_add (a := 1408) (b := 1408) f).symm

/-- The stacked weights hold the columns in four chunks. -/
theorem weight (c : Dev nD) (t : Fin cfg0.N) (q : Fin 4) (j : Fin 1024) (k : Fin 1408) :
    (iblk m c 2 t : FVec Ideal S4x1024x1408 .bf16) (ix3 q j k)
      = (m ((c : Thread nD τ).loc main_arg2) : FVec Ideal S1024x5632 .f32) (ix2 j ⟨q.val * 1408 + k.val, by omega⟩) := by
  blk_point [iblk, V, idx t]

/-- The block of the product with the transposed weights that point `t` computes. -/
def du (c : Dev nD) (t : Fin cfg0.N) : FVec Ideal S512x1024 .f32 :=
  k0_pay2 (View.ld (iblk m c 0 t) (Rect.unit ![0, 0] ![512, 1408] inb_S512x2816_S512x1408_0_0))
    (View.ld (iblk m c 2 t) (Rect.unit ![0, 0, 0] ![1, 1024, 1408] inb_S4x1024x1408_S1x1024x1408_0_0_0))
    (View.ld (iblk m c 0 t) (Rect.unit ![0, 1408] ![512, 1408] inb_S512x2816_S512x1408_0_1408))
    (View.ld (iblk m c 2 t) (Rect.unit ![1, 0, 0] ![1, 1024, 1408] inb_S4x1024x1408_S1x1024x1408_1_0_0))
    (View.ld (iblk m c 1 t) (Rect.unit ![0, 0] ![512, 1408] inb_S512x2816_S512x1408_0_0))
    (View.ld (iblk m c 2 t) (Rect.unit ![2, 0, 0] ![1, 1024, 1408] inb_S4x1024x1408_S1x1024x1408_2_0_0))
    (View.ld (iblk m c 1 t) (Rect.unit ![0, 1408] ![512, 1408] inb_S512x2816_S512x1408_0_1408))
    (View.ld (iblk m c 2 t) (Rect.unit ![3, 0, 0] ![1, 1024, 1408] inb_S4x1024x1408_S1x1024x1408_3_0_0))

/-- That block is the reference's rows of the product. -/
theorem du_at (c : Dev nD) (t : Fin cfg0.N) (i : Fin 512) (j : Fin 1024) : du m c t (ix2 i j)
    = val_main_v19 (m ((c : Thread nD τ).loc main_arg0)) (m ((c : Thread nD τ).loc main_arg1)) (m ((c : Thread nD τ).loc main_arg2))
        (ix2 ⟨t.val * 512 + i.val, by have := lt_of_lt_of_eq t.isLt N_0; omega⟩ j) := by
  pointwise [du, k0_pay2, val_main_v19, val_main_v18]
  rw [add_assoc]
  refine congrArg₂ (· + ·) ((Eq.trans ?_ (halves _))) ((Eq.trans ?_ (halves _)))
  all_goals
    refine congrArg₂ (· + ·) (Finset.sum_congr rfl fun k _ => ?_) (Finset.sum_congr rfl fun k _ => ?_)
  all_goals
    blk_point [iblk, V, idx t]

/-- A point's rows of `h`. -/
theorem h_at (c : Dev nD) (t : Fin cfg0.N) (i : Fin 512) (j : Fin 1024) :
    (iblk m c 3 t : FVec Ideal S512x1024 .f32) (ix2 i j)
      = (m ((c : Thread nD τ).loc main_arg3) : FVec Ideal S4096x1024 .f32) (ix2 ⟨t.val * 512 + i.val, by have := lt_of_lt_of_eq t.isLt N_0; omega⟩ j) := by
  blk_ext [iblk, V, idx t]

/-- The gain is whole at every point. -/
theorem g_at (c : Dev nD) (t : Fin cfg0.N) (j : Fin 1024) :
    (iblk m c 4 t : FVec Ideal S1x1024 .f32) (ix2 0 j)
      = (m ((c : Thread nD τ).loc main_arg4) : FVec Ideal S1x1024 .f32) (ix2 0 j) := by
  blk_ext [iblk, V, idx t]

/-- A point's rows of what passes by the half-step. -/
theorem z_at (c : Dev nD) (t : Fin cfg0.N) (i : Fin 512) (j : Fin 1024) :
    (iblk m c 5 t : FVec Ideal S512x1024 .f32) (ix2 i j)
      = (m ((c : Thread nD τ).loc main_arg5) : FVec Ideal S4096x1024 .f32) (ix2 ⟨t.val * 512 + i.val, by have := lt_of_lt_of_eq t.isLt N_0; omega⟩ j) := by
  blk_ext [iblk, V, idx t]

/-- What the precondition says: the cotangents of `a` and `b`, `w_in`, `h` and the gain hold real numbers. -/
theorem finite (hpre : Cert.Pre_FfnNormBwdIdeal_ffn_norm_bwd_finite m) (c : Dev nD) :
    (∀ i, IsReal ((m ((c : Thread nD τ).loc main_arg0) : FVec Ideal S4096x2816 .f32) i))
    ∧ (∀ i, IsReal ((m ((c : Thread nD τ).loc main_arg1) : FVec Ideal S4096x2816 .f32) i))
    ∧ (∀ i, IsReal ((m ((c : Thread nD τ).loc main_arg2) : FVec Ideal S1024x5632 .f32) i))
    ∧ (∀ i, IsReal ((m ((c : Thread nD τ).loc main_arg3) : FVec Ideal S4096x1024 .f32) i))
    ∧ (∀ i, IsReal ((m ((c : Thread nD τ).loc main_arg4) : FVec Ideal S1x1024 .f32) i)) :=
  ⟨isReal_of_abs (hpre c).1 rfl, isReal_of_abs (hpre c).2.1 rfl, isReal_of_abs (hpre c).2.2.1 rfl,
    isReal_of_abs (hpre c).2.2.2.1 rfl, isReal_of_abs (hpre c).2.2.2.2 rfl⟩

/-- The product with the transposed weights is real. -/
theorem du_real (hpre : Cert.Pre_FfnNormBwdIdeal_ffn_norm_bwd_finite m) (c : Dev nD) (i : Fin 4096) (j : Fin 1024) :
    IsReal (val_main_v19 (F := Ideal) (m ((c : Thread nD τ).loc main_arg0)) (m ((c : Thread nD τ).loc main_arg1)) (m ((c : Thread nD τ).loc main_arg2)) (ix2 i j)) := by
  obtain ⟨h0, h1, h2, -, -⟩ := finite m hpre c
  pointwise [val_main_v19, val_main_v18]
  exact (IsReal.sum fun k => (h0 _).mul (h2 _)).add (IsReal.sum fun k => (h1 _).mul (h2 _))

/-- An entry of the input's cotangent is the reference's. -/
theorem dx_at (hpre : Cert.Pre_FfnNormBwdIdeal_ffn_norm_bwd_finite m) (c : Dev nD) (t : Fin cfg0.N) (i : Fin 512) (j : Fin 1024) :
    k0_pay6 (du m c t) (iblk m c 3 t) (k0_pay3 (iblk m c 3 t)) (iblk m c 5 t) (iblk m c 4 t) (ix2 i j)
      = val_main_v39 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 ⟨t.val * 512 + i.val, by have := lt_of_lt_of_eq t.isLt N_0; omega⟩ j) := by
  obtain ⟨-, -, -, h3, h4⟩ := finite m hpre c
  pointwise [k0_pay6, k0_pay4, k0_pay3, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4, val_main_cst_5, val_main_cst_6]
  simp only [du_at, h_at, g_at, z_at, Fin.sum_univ_one]
  exact norm_grad (meansq_pos fun k => h3 _)
    (IsReal.sum fun k => (h3 _).mul ((du_real m hpre c _ _).mul (h4 _))) ((du_real m hpre c _ _).mul (h4 _)) (h3 _) _

/-- Where point `t`'s block of the input's cotangent lies. -/
theorem lands (t : Fin cfg0.N) (i : Fin 512) (j : Fin 1024) : ((cfg0.win 6).blk t).view.emb (ix2 i j)
    = ix2 ⟨t.val * 512 + i.val, by have := lt_of_lt_of_eq t.isLt N_0; omega⟩ j := by
  blk_ext [idx t]

/-- After the run the input's cotangent is the reference's. -/
theorem final_6 (hpre : Cert.Pre_FfnNormBwdIdeal_ffn_norm_bwd_finite m) (c : Dev nD) : (dats m 0 c).arrAt 6 cfg0.N
    = val_main_v39 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  refine Eq.trans (b := k0_pay6 (du m c t) (iblk m c 3 t) (k0_pay3 (iblk m c 3 t)) (iblk m c 5 t) (iblk m c 4 t) y) ?_ ?_
  · by_cases h : t.val % 8 = 0
    · rw [outsAt0_A m c t h]; frame_out; rfl
    · rw [outsAt0_B m c t h]; frame_out; rfl
  · refine (congrArg _ (eq_ix2 y)).trans ((dx_at m hpre c t (y 0) (y 1)).trans (congrArg _ ?_))
    rw [← lands t (y 0) (y 1)]
    exact congrArg _ (eq_ix2 y).symm

/-- After the run the second copy of the input's cotangent is the reference's. -/
theorem final_7 (hpre : Cert.Pre_FfnNormBwdIdeal_ffn_norm_bwd_finite m) (c : Dev nD) : (dats m 0 c).arrAt 7 cfg0.N
    = val_main_v40 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  refine Eq.trans (b := k0_pay7 (du m c t) (iblk m c 3 t) (k0_pay3 (iblk m c 3 t)) (iblk m c 5 t) (iblk m c 4 t) y) ?_ ?_
  · by_cases h : t.val % 8 = 0
    · rw [outsAt0_A m c t h]; frame_out; rfl
    · rw [outsAt0_B m c t h]; frame_out; rfl
  · pointwise [k0_pay7, val_main_v40]
    refine (congrArg _ (eq_ix2 y)).trans ((dx_at m hpre c t (y 0) (y 1)).trans (congrArg _ ?_))
    rw [← lands t (y 0) (y 1)]
    exact congrArg _ (eq_ix2 y).symm

/-- What is added into the gain's cotangent at a point: over the rows, `du` times the normalized `h`. -/
theorem step_at (D X : FVec Ideal S512x1024 .f32) (acc : FVec Ideal S1x1024 .f32) (j : S1x1024.Idx) :
    k0_pay5 D X (k0_pay3 X) acc j = acc j + ∑ i : Fin 512, gainRow (D (ix2 i (j 1))) (fun k => X (ix2 i k)) (j 1) := by
  pointwise [k0_pay5, k0_pay4, k0_pay3, gainRow]

/-- The gain's cotangent starts from zero. -/
theorem zero_at (j : S1x1024.Idx) : k0_pay1 (F := Ideal) j = 0 := by
  pointwise [k0_pay1]

/-- The reference's gain cotangent is the same sum over all rows. -/
theorem ref_at (x0 x1 x2 x3) (j : S1x1024.Idx) : val_main_v22 (F := Ideal) x0 x1 x2 x3 j
    = ∑ i : Fin 4096, gainRow (val_main_v19 (F := Ideal) x0 x1 x2 (ix2 i (j 1))) (fun k => x3 (ix2 i k)) (j 1) := by
  pointwise [val_main_v22, val_main_v21, val_main_v20, val_main_v12, val_main_v11, val_main_v7, val_main_v6, val_main_v5,
    val_main_v4, val_main_v3, val_main_v2, val_main_v1, val_main_v0, val_main_cst, val_main_cst_0, val_main_cst_1,
    val_main_cst_2, val_main_cst_3, gainRow]
  exact Finset.sum_congr rfl fun i _ => mul_comm _ _

/-- What a row adds at a point is what the reference's row adds. -/
theorem row_at (c : Dev nD) (t : Fin cfg0.N) (i : Fin 512) (j : Fin 1024) (hl : t.val * 512 + i.val < 4096) :
    gainRow (du m c t (ix2 i j)) (fun k => (iblk m c 3 t : FVec Ideal S512x1024 .f32) (ix2 i k)) j
      = gainRow (val_main_v19 (F := Ideal) (m ((c : Thread nD τ).loc main_arg0)) (m ((c : Thread nD τ).loc main_arg1)) (m ((c : Thread nD τ).loc main_arg2)) (ix2 ⟨t.val * 512 + i.val, hl⟩ j))
          (fun k => (m ((c : Thread nD τ).loc main_arg3) : FVec Ideal S4096x1024 .f32) (ix2 ⟨t.val * 512 + i.val, hl⟩ k)) j := by
  simp only [du_at, h_at]

/-- After the run the gain's cotangent is the reference's. -/
theorem final_8 (c : Dev nD) : (dats m 0 c).arrAt 8 cfg0.N
    = val_main_v22 (m ((c : Thread nD τ).loc main_arg0)) (m ((c : Thread nD τ).loc main_arg1)) (m ((c : Thread nD τ).loc main_arg2)) (m ((c : Thread nD τ).loc main_arg3)) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0) _
    (fun t h j => by rw [outsAt0_A m c t h]; frame_out; exact (step_at (du m c t) (iblk m c 3 t) _ j).trans (by rw [zero_at]))
    (fun t h j => by rw [outsAt0_B m c t h]; frame_out; exact step_at (du m c t) (iblk m c 3 t) _ j)
    (le_of_eq N_0) t0_7 rfl j, zero_add, ref_at]
  refine Fin.sum_mul_add_congr fun t i hl => ?_
  exact row_at m c t i (j 1) hl

end Cert.FfnNormBwdIdeal.Value

/-- The kernel's three results are the reference's, where the cotangents of `a` and `b`, `w_in`, `h` and the gain are
    real. -/
theorem Cert.Proof.ffn_norm_bwd : Cert.algebraic_FfnNormBwdIdeal_FfnNormBwdRefIdeal_pre_ffn_norm_bwd_finite := by
  pair_intro
  · run_from Cert.FfnNormBwdIdeal.Value.run_blocks m g
  · refine Idealize.ShloMosaic.θ_run_mono (Cert.FfnNormBwdRefIdeal.Value.run m' g') ?_
    intro r hr c
    obtain ⟨e39, e40, e22, hargs⟩ := hr c
    obtain ⟨a0, a1, a2, a3, a4, a5⟩ := hagree c
    rw [Cert.FfnNormBwdRefIdeal.Read.val_main_v39_eq] at e39
    rw [Cert.FfnNormBwdRefIdeal.Read.val_main_v40_eq] at e40
    rw [a0, a1, a2, a3, a4, a5] at hargs
    rw [e39, e40, e22, a0, a1, a2, a3, a4, a5]
    exact ⟨(Cert.FfnNormBwdIdeal.Value.final_6 m hpre c).symm, (Cert.FfnNormBwdIdeal.Value.final_7 m hpre c).symm,
      (Cert.FfnNormBwdIdeal.Value.final_8 m c).symm, hargs⟩
-- ==== Proof.DwOut.lean ====
/- The gradient of the feed-forward output weights: `hᵀ · (dx / 2)`. The grid runs over eleven row blocks; the whole
   contraction is done at each point. -/
module

public import proofs.«01_k».proof.Defs
public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Value

open Cert.DwOutIdeal Cert.DwOutIdeal.Gen
open Cert.DwOutRefIdeal.Read

variable (m : (ℓ : Loc nD τ sig) → Buf (Elt Ideal) ℓ)

/-- Which block each window holds at point `t`: the row block is `t`. -/
theorem idx : ∀ t : Fin cfg0.N, win0_0.index t = ![0, t.val] ∧ win0_1.index t = ![0, 0]
    ∧ win0_2.index t = ![t.val, 0] :=
  (by decide +kernel : ∀ t : Fin grid0.N, _)

/-- The block of the gradient that point `t` computes is the reference's, at the block's place. -/
theorem point (c : Dev nD) (t : Fin cfg0.N) (y) :
    k0_pay1 (F := Ideal) (iblk m c 0 t) (iblk m c 1 t) y
      = val_main_v8 (m ((c : Thread nD τ).loc main_arg0)) (m ((c : Thread nD τ).loc main_arg1))
          (((cfg0.win 2).blk t).view.emb y) := by
  pointwise [k0_pay1, val_main_v8, val_main_v7, val_main_v6, val_main_v5, val_main_v4, val_main_cst_1]
  refine Fin.sum_fin_congr fun k => (mul_comm _ _).trans ?_
  blk_point [iblk, V, idx t]
  congr 1
  entry_read
  pointwise
  blk_point [V, idx t]

/-- After the run the result is the reference's gradient. -/
theorem final (c : Dev nD) : (dats m 0 c).arrAt 2 cfg0.N
    = val_main_v8 (m ((c : Thread nD τ).loc main_arg0)) (m ((c : Thread nD τ).loc main_arg1)) := by
  refine (dats m 0 c).arrAt_eq_of_covers 2 _ (by decide +kernel) fun t _ y => ?_
  blk_simp
  rw [after0_2]; unfold Gen.outsAt0; frame_out
  exact point m c t y

end Cert.DwOutIdeal.Value

/-- The kernel's gradient of the output weights is the reference's. -/
theorem Cert.Proof.dw_out : Cert.algebraic_DwOutIdeal_DwOutRefIdeal := by
  pair_intro
  · run_from Cert.DwOutIdeal.Value.run_blocks m g
  · run_from Cert.DwOutRefIdeal.Value.run m' g'
    exact (Cert.DwOutIdeal.Value.final m c).symm
-- ==== Proof.DwIn.lean ====
/- The gradient of the feed-forward input weights for one half of the columns: `uᵀ · d`, stored split into its two
   shards of columns. The grid runs over two row blocks and two shards; the whole contraction is done at each point. -/
module

public import proofs.«01_k».proof.Defs
public import proofs.«01_k».proof.Proof.Gen.DwInIdeal.Value
public import proofs.«01_k».proof.Proof.Gen.DwInRefIdeal.Run
public import proofs.«01_k».proof.Proof.Gen.DwInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Value

open Cert.DwInIdeal Cert.DwInIdeal.Gen
open Cert.DwInRefIdeal.Read

variable (m : (ℓ : Loc nD τ sig) → Buf (Elt Ideal) ℓ)

/-- Which block each window holds at point `t`: the row block is `t / 2`, the shard `t % 2`. -/
theorem idx : ∀ t : Fin cfg0.N, win0_0.index t = ![0, t.val / 2] ∧ win0_1.index t = ![0, t.val % 2]
    ∧ win0_2.index t = ![t.val % 2, t.val / 2, 0] ∧ t.val / 2 < 2 :=
  (by decide +kernel : ∀ t : Fin grid0.N, _)

/-- The block of the gradient that point `t` computes is the reference's, at the block's place. -/
theorem point (c : Dev nD) (t : Fin cfg0.N) (y) :
    k0_pay1 (F := Ideal) (iblk m c 0 t) (iblk m c 1 t) y
      = val_main_v6 (m ((c : Thread nD τ).loc main_arg0)) (m ((c : Thread nD τ).loc main_arg1))
          (((cfg0.win 2).blk t).view.emb y) := by
  pointwise [k0_pay1, val_main_v6, val_main_v5, val_main_v4, val_main_v3, val_main_v2]
  refine Fin.sum_fin_congr fun k => (mul_comm _ _).trans ?_
  blk_point [iblk, V, idx t]

/-- After the run the result is the reference's gradient. -/
theorem final (c : Dev nD) : (dats m 0 c).arrAt 2 cfg0.N
    = val_main_v6 (m ((c : Thread nD τ).loc main_arg0)) (m ((c : Thread nD τ).loc main_arg1)) := by
  refine (dats m 0 c).arrAt_eq_of_covers 2 _ (by decide +kernel) fun t _ y => ?_
  blk_simp
  rw [after0_2]; unfold Gen.outsAt0; frame_out
  exact point m c t y

end Cert.DwInIdeal.Value

/-- The kernel's gradient of the input weights is the reference's. -/
theorem Cert.Proof.dw_in : Cert.algebraic_DwInIdeal_DwInRefIdeal := by
  pair_intro
  · run_from Cert.DwInIdeal.Value.run_blocks m g
  · run_from Cert.DwInRefIdeal.Value.run m' g'
    exact (Cert.DwInIdeal.Value.final m c).symm
-- ==== Proof.MixIn.lean ====
/- The call that opens the mixing half-step: seven column ranges of `u · w_in`. The version lays the weights out by rows
   and pads the rows of the rotated key to a full tile of lanes with zeros; the grid runs over eight row blocks. -/
module

public import proofs.«01_k».proof.Defs
public import proofs.«01_k».proof.Proof.Gen.MixInIdeal.Value
public import proofs.«01_k».proof.Proof.Gen.MixInRefIdeal.Run
public import proofs.«01_k».proof.Proof.Gen.MixInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixInIdeal.Value

open Cert.MixInIdeal Cert.MixInIdeal.Gen
open Cert.MixInRefIdeal.Read

variable (m : (ℓ : Loc nD τ sig) → Buf (Elt Ideal) ℓ)

/-- Which block each window holds at point `t`: the row block is `t`, the weights are whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The window on the weights holds the whole laid-out array at every point. -/
theorem weights (c : Dev nD) (t : Fin cfg0.N) : iblk m c 1 t = V m c main_v8 := by
  have h := idx t
  blk_ext! [iblk, idx t]

/-- Five stacked pieces of rows, with zeros in the second and the fourth. -/
def stacked (a : FVec Ideal S640x1024 .bf16) (b : FVec Ideal S64x1024 .bf16) (d : FVec Ideal S32x1024 .bf16)
    (e : FVec Ideal S32x1024 .bf16) (f : FVec Ideal S3584x1024 .bf16) : FVec Ideal S4352x1024 .bf16 :=
  concatenate S4352x1024 0 [⟨S640x1024, a⟩, ⟨S64x1024, b⟩, ⟨S32x1024, d⟩, ⟨S32x1024, e⟩, ⟨S3584x1024, f⟩]
    concatenates_S640x1024_S64x1024_S32x1024_S32x1024_S3584x1024_S4352x1024_d0

/-- The weights by rows. -/
def byRows (w : FVec Ideal S1024x4256 .f32) : FVec Ideal S4256x1024 .bf16 :=
  truncf .bf16 (transpose S4256x1024 [1, 0] w transposes_S1024x4256_S4256x1024_1_0) bitsLt_bf16_f32

/-- The weights as the version lays them out: by rows, with rows of zeros around those of the rotated key. -/
def laidOut (w : FVec Ideal S1024x4256 .f32) : FVec Ideal S4352x1024 .bf16 :=
  stacked (extractStridedSlice S640x1024 ![0, 0] (byRows w) slices_S4256x1024_S640x1024_0_0)
    (broadcastInDim S64x1024 ![] bcast_S_S64x1024 (constant (F := Ideal) S_ .bf16 0x0000#16))
    (extractStridedSlice S32x1024 ![640, 0] (byRows w) slices_S4256x1024_S32x1024_640_0)
    (broadcastInDim S32x1024 ![] bcast_S_S32x1024 (constant S_ .bf16 0x0000#16))
    (extractStridedSlice S3584x1024 ![672, 0] (byRows w) slices_S4256x1024_S3584x1024_672_0)

/-- What the region finds in the weights' window is the laid-out array of the second argument. -/
theorem laid (c : Dev nD) : V m c main_v8 = laidOut (m ((c : Thread nD τ).loc main_arg1)) := by
  have h3 : V m c main_v3 = extractStridedSlice S640x1024 ![0, 0] (byRows (m ((c : Thread nD τ).loc main_arg1)))
      slices_S4256x1024_S640x1024_0_0 := by
    unfold byRows; show StableHlo.after hostOps0 _ _ = _; after_results
  have h4 : V m c main_v4 = broadcastInDim S64x1024 ![] bcast_S_S64x1024 (constant (F := Ideal) S_ .bf16 0x0000#16) := by
    show StableHlo.after hostOps0 _ _ = _; after_results
  have h5 : V m c main_v5 = extractStridedSlice S32x1024 ![640, 0] (byRows (m ((c : Thread nD τ).loc main_arg1)))
      slices_S4256x1024_S32x1024_640_0 := by
    unfold byRows; show StableHlo.after hostOps0 _ _ = _; after_results
  have h6 : V m c main_v6 = broadcastInDim S32x1024 ![] bcast_S_S32x1024 (constant (F := Ideal) S_ .bf16 0x0000#16) := by
    show StableHlo.after hostOps0 _ _ = _; after_results
  have h7 : V m c main_v7 = extractStridedSlice S3584x1024 ![672, 0] (byRows (m ((c : Thread nD τ).loc main_arg1)))
      slices_S4256x1024_S3584x1024_672_0 := by
    unfold byRows; show StableHlo.after hostOps0 _ _ = _; after_results
  have h8 : V m c main_v8 = stacked (V m c main_v3) (V m c main_v4) (V m c main_v5) (V m c main_v6) (V m c main_v7) := by
    dsimp only [V]
    simp only [StableHlo.after_cons, StableHlo.after_nil]
    rw [StableHlo.nary_result]
    rw [StableHlo.nary_result_ne _ _ _ _ _ _ (by decide), StableHlo.nary_result_ne _ _ _ _ _ _ (by decide),
      StableHlo.nary_result_ne _ _ _ _ _ _ (by decide), StableHlo.nary_result_ne _ _ _ _ _ _ (by decide),
      StableHlo.nary_result_ne _ _ _ _ _ _ (by decide)]
    rfl
  rw [h8, h3, h4, h5, h6, h7]
  rfl

/-- The laid-out weights read at a row. -/
theorem laidOut_at (w : FVec Ideal S1024x4256 .f32) (j : Fin 4352) (k : Fin 1024) :
    laidOut w (ix2 j k) = if h : j.val < 640 then w (ix2 k ⟨j.val, by omega⟩)
      else if h : j.val < 704 then 0
      else if h : j.val < 736 then w (ix2 k ⟨j.val - 64, by omega⟩)
      else if h : j.val < 768 then 0
      else w (ix2 k ⟨j.val - 96, by omega⟩) := by
  pointwise [laidOut, stacked, byRows]
  repeat' split
  all_goals first | rfl | (exfalso; omega) | skip
  all_goals blk_ext

/-- After the run the first result is the reference's. -/
theorem final_2 (c : Dev nD) : (dats m 0 c).arrAt 2 cfg0.N
    = val_main_v1 (m ((c : Thread nD τ).loc main_arg0)) (m ((c : Thread nD τ).loc main_arg1)) := by
  refine (dats m 0 c).arrAt_eq_of_covers 2 _ (by decide +kernel) fun t _ y => ?_
  blk_simp
  rw [after0_2]; frame_out
  rw [weights, laid]
  pointwise [k0_pay4, k0_pay3, val_main_v1, val_main_v0]
  simp only [laidOut_at]
  have hb : (y 1).val < 384 := (y 1).isLt
  refine Fin.sum_fin_congr fun k => ?_
  rw [dif_pos (by omega)]
  blk_point [iblk, V, idx t]

/-- After the run the second result is the reference's. -/
theorem final_3 (c : Dev nD) : (dats m 0 c).arrAt 3 cfg0.N
    = val_main_v2 (m ((c : Thread nD τ).loc main_arg0)) (m ((c : Thread nD τ).loc main_arg1)) := by
  refine (dats m 0 c).arrAt_eq_of_covers 3 _ (by decide +kernel) fun t _ y => ?_
  blk_simp
  rw [after0_3]; frame_out
  rw [weights, laid]
  pointwise [k0_pay5, k0_pay3, val_main_v2, val_main_v0]
  simp only [laidOut_at]
  have hb : (y 1).val < 256 := (y 1).isLt
  refine Fin.sum_fin_congr fun k => ?_
  rw [dif_pos (by omega)]
  blk_point [iblk, V, idx t]

/-- After the run the third result is the reference's. -/
theorem final_4 (c : Dev nD) : (dats m 0 c).arrAt 4 cfg0.N
    = val_main_v9 (m ((c : Thread nD τ).loc main_arg0)) (m ((c : Thread nD τ).loc main_arg1)) := by
  refine (dats m 0 c).arrAt_eq_of_covers 4 _ (by decide +kernel) fun t _ y => ?_
  blk_simp
  rw [after0_4]; frame_out
  rw [weights, laid]
  pointwise [k0_pay6, k0_pay3, val_main_v9, val_main_v3, val_main_v0, val_main_call0_v0, val_main_c]
  simp only [laidOut_at]
  have hb : (y 1).val < 128 := (y 1).isLt
  blk_simp [idx t]
  by_cases h : 64 ≤ (y 1).val ∧ (y 1).val - 64 < 32
  · rw [dif_pos h]
    refine Fin.sum_fin_congr fun k => ?_
    rw [dif_neg (by omega), dif_neg (by omega), dif_pos (by omega)]
    blk_point [iblk, V, idx t]
  · rw [dif_neg h]
    show (_ : EReal) = _
    refine (Finset.sum_eq_zero fun k _ => ?_).trans ?_
    · rw [dif_neg (by omega)]
      by_cases h1 : (y 1).val < 64
      · rw [dif_pos (by omega), mul_zero]
      · rw [dif_neg (by omega), dif_neg (by omega), dif_pos (by omega), mul_zero]
    · simp [FloatOps.sitofp]

/-- After the run the fourth result is the reference's. -/
theorem final_5 (c : Dev nD) : (dats m 0 c).arrAt 5 cfg0.N
    = val_main_v10 (m ((c : Thread nD τ).loc main_arg0)) (m ((c : Thread nD τ).loc main_arg1)) := by
  refine (dats m 0 c).arrAt_eq_of_covers 5 _ (by decide +kernel) fun t _ y => ?_
  blk_simp
  rw [after0_5]; frame_out
  rw [weights, laid]
  pointwise [k0_pay7, k0_pay3, val_main_v10, val_main_v6, val_main_v4, val_main_v0]
  simp only [laidOut_at]
  have hb : (y 1).val < 512 := (y 1).isLt
  refine Fin.sum_fin_congr fun k => ?_
  rw [dif_neg (by omega), dif_neg (by omega), dif_neg (by omega), dif_neg (by omega)]
  blk_point [iblk, V, idx t]

/-- After the run the fifth result is the reference's. -/
theorem final_6 (c : Dev nD) : (dats m 0 c).arrAt 6 cfg0.N
    = val_main_v11 (m ((c : Thread nD τ).loc main_arg0)) (m ((c : Thread nD τ).loc main_arg1)) := by
  refine (dats m 0 c).arrAt_eq_of_covers 6 _ (by decide +kernel) fun t _ y => ?_
  blk_simp
  rw [after0_6]; frame_out
  rw [weights, laid]
  pointwise [k0_pay8, k0_pay3, val_main_v11, val_main_v7, val_main_v4, val_main_v0]
  simp only [laidOut_at]
  have hb : (y 1).val < 512 := (y 1).isLt
  refine Fin.sum_fin_congr fun k => ?_
  rw [dif_neg (by omega), dif_neg (by omega), dif_neg (by omega), dif_neg (by omega)]
  blk_point [iblk, V, idx t]

/-- After the run the sixth result is the reference's. -/
theorem final_7 (c : Dev nD) : (dats m 0 c).arrAt 7 cfg0.N
    = val_main_v12 (m ((c : Thread nD τ).loc main_arg0)) (m ((c : Thread nD τ).loc main_arg1)) := by
  refine (dats m 0 c).arrAt_eq_of_covers 7 _ (by decide +kernel) fun t _ y => ?_
  blk_simp
  rw [after0_7]; frame_out
  rw [weights, laid]
  pointwise [k0_pay1, k0_pay9, k0_pay3, val_main_v12, val_main_v8, val_main_v4, val_main_v0]
  simp only [laidOut_at]
  have hb : (y 1).val < 512 := (y 1).isLt
  refine Fin.sum_fin_congr fun k => ?_
  rw [dif_neg (by omega), dif_neg (by omega), dif_neg (by omega), dif_neg (by omega)]
  blk_point [iblk, V, idx t]

/-- After the run the seventh result is the reference's. -/
theorem final_8 (c : Dev nD) : (dats m 0 c).arrAt 8 cfg0.N
    = val_main_v5 (m ((c : Thread nD τ).loc main_arg0)) (m ((c : Thread nD τ).loc main_arg1)) := by
  refine (dats m 0 c).arrAt_eq_of_covers 8 _ (by decide +kernel) fun t _ y => ?_
  blk_simp
  rw [after0_8]; frame_out
  rw [weights, laid]
  pointwise [k0_pay2, k0_pay9, k0_pay3, val_main_v5, val_main_v0]
  simp only [laidOut_at]
  have hb : (y 1).val < 2048 := (y 1).isLt
  refine Fin.sum_fin_congr fun k => ?_
  rw [dif_neg (by omega), dif_neg (by omega), dif_neg (by omega), dif_neg (by omega)]
  blk_point [iblk, V, idx t]

end Cert.MixInIdeal.Value

/-- The kernel's seven results are the reference's. -/
theorem Cert.Proof.mix_in : Cert.algebraic_MixInIdeal_MixInRefIdeal := by
  pair_intro
  · run_from Cert.MixInIdeal.Value.run_blocks m g
  · run_from Cert.MixInRefIdeal.Value.run m' g'
    · exact (Cert.MixInIdeal.Value.final_2 m c).symm
    · exact (Cert.MixInIdeal.Value.final_3 m c).symm
    · exact (Cert.MixInIdeal.Value.final_4 m c).symm
    · exact (Cert.MixInIdeal.Value.final_5 m c).symm
    · exact (Cert.MixInIdeal.Value.final_6 m c).symm
    · exact (Cert.MixInIdeal.Value.final_7 m c).symm
    · exact (Cert.MixInIdeal.Value.final_8 m c).symm
-- ==== Proof.MergeOut.lean ====
/- The call that closes the mixing half-step: the two branches' products, their gates, the output product, the residual
   and the next norm. The version multiplies the padded lanes of the first branch's heads by rows of zeros; the grid runs
   over eight row blocks. -/
module

public import proofs.«01_k».proof.Defs
public import proofs.«01_k».proof.Proof.Gen.MergeOutIdeal.Value
public import proofs.«01_k».proof.Proof.Gen.MergeOutRefIdeal.Run
public import proofs.«01_k».proof.Proof.Gen.MergeOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeOutIdeal.Value

open Cert.MergeOutIdeal Cert.MergeOutIdeal.Gen
open Cert.MergeOutRefIdeal.Read

variable (m : (ℓ : Loc nD τ sig) → Buf (Elt Ideal) ℓ)

/-- Which block each window holds at point `t`: the row block is `t`, the weights and the gain are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![0, 0] ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-- The window on the first branch's weights holds the whole padded array at every point. -/
theorem weights (c : Dev nD) (t : Fin cfg0.N) : iblk m c 4 t = V m c main_v4 := by
  have h := idx t
  blk_ext! [iblk, idx t]

/-- The first branch's weights with 64 rows of zeros before each head's 64 rows. -/
def padded (w : FVec Ideal S512x1024 .f32) : FVec Ideal S1024x1024 .bf16 :=
  shapeCast S1024x1024 (pad S8x128x1024 ![0, 64, 0] ![0, 0, 0] ![0, 0, 0]
    (shapeCast S8x64x1024 (truncf .bf16 w bitsLt_bf16_f32) shapeCasts_S512x1024_S8x64x1024)
    (sitofp .bf16 (constantI S_ 32 0#32)) pads_S8x64x1024_S8x128x1024_000_6400_000 h_S_) shapeCasts_S8x128x1024_S1024x1024

/-- What the region finds in that window is the padded array of the fifth argument. -/
theorem weights_eq (c : Dev nD) : V m c main_v4 = padded (m ((c : Thread nD τ).loc main_arg4)) := by
  unfold padded
  dsimp only [V]
  simp only [List.flatten_cons, List.flatten_nil, List.cons_append, List.nil_append, List.append_nil,
    StableHlo.TRef.unary, StableHlo.TRef.binary, StableHlo.TRef.toBuf, StableHlo.TRef.ofBuf, cast_eq]
  after_results
  all_goals rfl

/-- The padded weights read at a row. -/
theorem padded_at (w : FVec Ideal S512x1024 .f32) (k j : Fin 1024) : padded w (ix2 k j)
    = if h : k.val % 128 < 64 then 0 else w (ix2 ⟨k.val / 128 * 64 + (k.val % 128 - 64), by omega⟩ j) := by
  pointwise [padded]
  by_cases h : k.val % 128 < 64
  · rw [dif_neg (by omega), dif_pos h]
    simp [FloatOps.sitofp]
  · rw [dif_pos (by omega), dif_neg h]

/-- A sum over the padded lanes of eight heads, of terms that vanish on the padding, is the sum over the heads' lanes. -/
theorem sum_heads (f : Fin 1024 → EReal) (g : Fin 512 → EReal) (hz : ∀ k : Fin 1024, k.val % 128 < 64 → f k = 0)
    (hg : ∀ x : Fin 512, f ⟨x.val / 64 * 128 + (64 + x.val % 64), by omega⟩ = g x) : ∑ k, f k = ∑ x, g x := by
  refine (Fintype.sum_of_injective (fun x : Fin 512 => (⟨x.val / 64 * 128 + (64 + x.val % 64), by omega⟩ : Fin 1024))
    (fun a b h => ?_) g f (fun k hk => hz k ?_) fun x => (hg x).symm).symm
  · have := congrArg Fin.val h
    dsimp only at this
    exact Fin.ext (by omega)
  · by_contra hc
    exact hk ⟨⟨k.val / 128 * 64 + (k.val % 128 - 64), by omega⟩, Fin.ext (by dsimp only; omega)⟩

/-- Where a block's entry lies in the arrays the kernel returns. -/
theorem lands (t : Fin cfg0.N) (i : Fin 512) (j : Fin 1024) : ((cfg0.win 8).blk t).view.emb (ix2 i j)
    = ix2 ⟨t.val * 512 + i.val, by have := lt_of_lt_of_eq t.isLt N_0; omega⟩ j := by
  blk_ext [idx t]

/-- A row of the padded first branch times the padded weights is the reference's product. -/
theorem branch (c : Dev nD) (t : Fin cfg0.N) (i : Fin 512) (j : Fin 1024) :
    k0_pay2 (F := Ideal) (iblk m c 0 t) (iblk m c 4 t) (ix2 i j)
      = val_main_v11 (m ((c : Thread nD τ).loc main_arg0)) (m ((c : Thread nD τ).loc main_arg4))
          (ix2 ⟨t.val * 512 + i.val, by have := lt_of_lt_of_eq t.isLt N_0; omega⟩ j) := by
  rw [weights, weights_eq]
  pointwise [k0_pay2, val_main_v11, val_main_v2, val_main_v1, val_main_v0]
  refine sum_heads _ _ (fun k hk => ?_) fun x => ?_
  · rw [padded_at, dif_pos hk, mul_zero]
  · rw [padded_at, dif_neg (by dsimp only; omega)]
    blk_point [iblk, V, idx t]

/-- The gated sum of the branches, at one point. -/
theorem merged (c : Dev nD) (t : Fin cfg0.N) (i : Fin 512) (j : Fin 1024) :
    k0_pay4 (F := Ideal) (iblk m c 0 t) (iblk m c 4 t) (iblk m c 1 t) (iblk m c 5 t) (View.ld (iblk m c 2 t) r0_3) (View.ld (iblk m c 2 t) r0_4) (ix2 i j)
      = val_main_v15 (m ((c : Thread nD τ).loc main_arg0)) (m ((c : Thread nD τ).loc main_arg1)) (m ((c : Thread nD τ).loc main_arg2)) (m ((c : Thread nD τ).loc main_arg4)) (m ((c : Thread nD τ).loc main_arg5))
          (ix2 ⟨t.val * 512 + i.val, by have := lt_of_lt_of_eq t.isLt N_0; omega⟩ j) := by
  pointwise [k0_pay4, k0_pay3, Ideal.logistic, val_main_v15, val_main_v14, val_main_v13, val_main_v12,
    val_main_v3, val_main_v4, val_main_v5, val_main_v6, val_main_v7, val_main_v8, val_main_v9, val_main_v10, val_main_cst, val_main_cst_0]
  simp only [branch]
  blk_point [iblk, V, idx t]

/-- The residual stream, at one point. -/
theorem stream (c : Dev nD) (t : Fin cfg0.N) (i : Fin 512) (j : Fin 1024) :
    k0_pay5 (F := Ideal) (iblk m c 0 t) (iblk m c 4 t) (iblk m c 1 t) (iblk m c 5 t) (View.ld (iblk m c 2 t) r0_3) (View.ld (iblk m c 2 t) r0_4) (iblk m c 3 t) (iblk m c 6 t) (ix2 i j)
      = val_main_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (ix2 ⟨t.val * 512 + i.val, by have := lt_of_lt_of_eq t.isLt N_0; omega⟩ j) := by
  pointwise [k0_pay5, val_main_v17, val_main_v16]
  simp only [merged]
  blk_point [iblk, V, idx t]

/-- The normed stream, at one point. -/
theorem normed (c : Dev nD) (t : Fin cfg0.N) (i : Fin 512) (j : Fin 1024) :
    k0_pay1 (F := Ideal) (k0_pay5 (iblk m c 0 t) (iblk m c 4 t) (iblk m c 1 t) (iblk m c 5 t) (View.ld (iblk m c 2 t) r0_3) (View.ld (iblk m c 2 t) r0_4) (iblk m c 3 t) (iblk m c 6 t)) (k0_pay6 (iblk m c 0 t) (iblk m c 4 t) (iblk m c 1 t) (iblk m c 5 t) (View.ld (iblk m c 2 t) r0_3) (View.ld (iblk m c 2 t) r0_4) (iblk m c 3 t) (iblk m c 6 t)) (iblk m c 7 t) (ix2 i j)
      = val_main_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (ix2 ⟨t.val * 512 + i.val, by have := lt_of_lt_of_eq t.isLt N_0; omega⟩ j) := by
  pointwise [k0_pay1, k0_pay6, val_main_v31, val_main_v30, val_main_v29, val_main_v28, val_main_v27, val_main_v26, val_main_v25, val_main_v24, val_main_v23, val_main_v22, val_main_v21, val_main_v20, val_main_v19, val_main_v18,
    val_main_cst_1, val_main_cst_2, val_main_cst_3]
  simp only [stream]
  blk_point [iblk, V, idx t]

/-- After the run the residual stream is the reference's. -/
theorem final_8 (c : Dev nD) : (dats m 0 c).arrAt 8 cfg0.N
    = val_main_v17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  refine (congrArg _ (eq_ix2 y)).trans ((stream m c t (y 0) (y 1)).trans (congrArg _ ?_))
  rw [← lands t (y 0) (y 1)]
  exact congrArg _ (eq_ix2 y).symm

/-- After the run the first branch's product is the reference's. -/
theorem final_9 (c : Dev nD) : (dats m 0 c).arrAt 9 cfg0.N
    = val_main_v11 (m ((c : Thread nD τ).loc main_arg0)) (m ((c : Thread nD τ).loc main_arg4)) := by
  refine (dats m 0 c).arrAt_eq_of_covers 9 _ (by decide +kernel) fun t _ y => ?_
  blk_simp
  rw [after0_9]; frame_out
  refine (congrArg _ (eq_ix2 y)).trans ((branch m c t (y 0) (y 1)).trans (congrArg _ ?_))
  rw [← lands t (y 0) (y 1)]
  exact congrArg _ (eq_ix2 y).symm

/-- After the run the second branch's product is the reference's. -/
theorem final_10 (c : Dev nD) : (dats m 0 c).arrAt 10 cfg0.N
    = val_main_v12 (m ((c : Thread nD τ).loc main_arg1)) (m ((c : Thread nD τ).loc main_arg5)) := by
  refine (dats m 0 c).arrAt_eq_of_covers 10 _ (by decide +kernel) fun t _ y => ?_
  blk_simp
  rw [after0_10]; frame_out
  pointwise [k0_pay3, val_main_v12]
  blk_point [iblk, V, idx t]

/-- After the run the gated sum is the reference's. -/
theorem final_11 (c : Dev nD) : (dats m 0 c).arrAt 11 cfg0.N
    = val_main_v18 (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t _ y => ?_
  blk_simp
  rw [after0_11]; frame_out
  refine (congrArg _ (eq_ix2 y)).trans ((merged m c t (y 0) (y 1)).trans (congrArg _ ?_))
  rw [← lands t (y 0) (y 1)]
  exact congrArg _ (eq_ix2 y).symm

/-- After the run the normed stream is the reference's. -/
theorem final_12 (c : Dev nD) : (dats m 0 c).arrAt 12 cfg0.N
    = val_main_v31 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t _ y => ?_
  blk_simp
  rw [after0_12]; frame_out
  refine (congrArg _ (eq_ix2 y)).trans ((normed m c t (y 0) (y 1)).trans (congrArg _ ?_))
  rw [← lands t (y 0) (y 1)]
  exact congrArg _ (eq_ix2 y).symm

end Cert.MergeOutIdeal.Value

/-- The kernel's five results are the reference's. -/
theorem Cert.Proof.merge_out : Cert.algebraic_MergeOutIdeal_MergeOutRefIdeal := by
  pair_intro
  · run_from Cert.MergeOutIdeal.Value.run_blocks m g
  · run_from Cert.MergeOutRefIdeal.Value.run m' g'
    · exact (Cert.MergeOutIdeal.Value.final_8 m c).symm
    · exact (Cert.MergeOutIdeal.Value.final_9 m c).symm
    · exact (Cert.MergeOutIdeal.Value.final_10 m c).symm
    · exact (Cert.MergeOutIdeal.Value.final_11 m c).symm
    · unfold Cert.MergeOutRefIdeal.Value.res_main_v31
      simp only [hagree c]
      exact (Cert.MergeOutIdeal.Value.final_12 m c).symm
-- ==== Proof.MergeBwd.lean ====
/- The gradient of the call that closes the mixing half-step: the cotangents of the gates, of the two branches' products
   and of the branches themselves. The padded rows of the first branch's weights make the padded lanes of its cotangent
   zero, where the reference pads with zeros; the grid runs over eight row blocks. -/
module

public import proofs.«01_k».proof.Defs
public import proofs.«01_k».proof.Proof.Gen.MergeBwdIdeal.Value
public import proofs.«01_k».proof.Proof.Gen.MergeBwdRefIdeal.Run
public import proofs.«01_k».proof.Proof.Gen.MergeBwdRefIdeal.Read
public import Idealize.ShloMosaic.Lib.Pipeline.ValueKit
public import Idealize.ShloMosaic.Lib.Claim
public import proofs.«01_k».proof.Proof.MergeOut

@[expose] public section

set_option maxRecDepth 16384

noncomputable section

open Idealize.ShloMosaic Idealize.ShloMosaic.TcCoe Idealize.SL.Sem
open Idealize.ShloMosaic.Pipeline (Dat)

namespace Cert.MergeBwdIdeal.Value

open Cert.MergeBwdIdeal Cert.MergeBwdIdeal.Gen
open Cert.MergeBwdRefIdeal.Read

variable (m : (ℓ : Loc nD τ sig) → Buf (Elt Ideal) ℓ)

/-- Which block each window holds at point `t`: the row block is `t`, the weights are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![0, 0] ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The window on the first branch's weights holds the whole padded array at every point. -/
theorem weights (c : Dev nD) (t : Fin cfg0.N) : iblk m c 5 t = V m c main_v5 := by
  have h := idx t
  blk_ext! [iblk, idx t]

/-- What the region finds in that window is the padded array of the sixth argument. -/
theorem weights_eq (c : Dev nD) :
    V m c main_v5 = Cert.MergeOutIdeal.Value.padded (m ((c : Thread nD τ).loc main_arg5)) := by
  unfold Cert.MergeOutIdeal.Value.padded
  dsimp only [V]
  simp only [List.flatten_cons, List.flatten_nil, List.cons_append, List.nil_append, List.append_nil,
    StableHlo.TRef.unary, StableHlo.TRef.binary, StableHlo.TRef.toBuf, StableHlo.TRef.ofBuf, cast_eq]
  after_results
  all_goals rfl

/-- The first gate's cotangent, at one point. -/
theorem left (c : Dev nD) (t : Fin cfg0.N) (i : Fin 512) (j : Fin 1024) :
    k0_pay6 (F := Ideal) (View.ld (iblk m c 0 t) r0_0) (View.ld (iblk m c 4 t) r0_1) (View.ld (iblk m c 1 t) r0_2) (View.ld (iblk m c 2 t) r0_0) (ix2 i j)
      = val_main_v34 (m ((c : Thread nD τ).loc main_arg0)) (m ((c : Thread nD τ).loc main_arg1)) (m ((c : Thread nD τ).loc main_arg2)) (m ((c : Thread nD τ).loc main_arg3)) (m ((c : Thread nD τ).loc main_arg4))
          (ix2 ⟨t.val * 512 + i.val, by have := lt_of_lt_of_eq t.isLt N_0; omega⟩ ⟨j.val, by omega⟩) := by
  pointwise [k0_pay6, k0_pay4, k0_pay3, Ideal.logistic, val_main_v34, val_main_v21, val_main_v20, val_main_v19,
    val_main_v17, val_main_v15, val_main_v8, val_main_v7, val_main_v6, val_main_cst_1, val_main_v9, val_main_v10, val_main_v5, val_main_v4, val_main_v3, val_main_v2, val_main_v1, val_main_v0,
    val_main_cst, val_main_cst_0]
  blk_point [iblk, V, idx t]

/-- The second gate's cotangent, at one point. -/
theorem right (c : Dev nD) (t : Fin cfg0.N) (i : Fin 512) (j : Fin 1024) :
    k0_pay7 (F := Ideal) (View.ld (iblk m c 0 t) r0_0) (View.ld (iblk m c 4 t) r0_1) (View.ld (iblk m c 1 t) r0_3) (View.ld (iblk m c 3 t) r0_0) (ix2 i j)
      = val_main_v34 (m ((c : Thread nD τ).loc main_arg0)) (m ((c : Thread nD τ).loc main_arg1)) (m ((c : Thread nD τ).loc main_arg2)) (m ((c : Thread nD τ).loc main_arg3)) (m ((c : Thread nD τ).loc main_arg4))
          (ix2 ⟨t.val * 512 + i.val, by have := lt_of_lt_of_eq t.isLt N_0; omega⟩ ⟨1024 + j.val, by omega⟩) := by
  pointwise [k0_pay7, k0_pay5, k0_pay3, Ideal.logistic, val_main_v34, val_main_v21, val_main_v20, val_main_v19,
    val_main_v17, val_main_v15, val_main_v8, val_main_v7, val_main_v6, val_main_cst_1, val_main_v9, val_main_v10, val_main_v5, val_main_v4, val_main_v3, val_main_v2, val_main_v1, val_main_v0,
    val_main_cst, val_main_cst_0]
  blk_point [iblk, V, idx t]

/-- After the run the cotangent of the gates is the reference's. -/
theorem final_7 (c : Dev nD) : (dats m 0 c).arrAt 7 cfg0.N
    = val_main_v34 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  unfold out0_7
  canon_tiles x h
  · refine Eq.trans ?_ ((right m c t (x 0) (x 1)).trans (congrArg _ ?_))
    · exact congrArg _ (eq_ix2 x)
    · blk_ext [idx t]
  · refine Eq.trans ?_ ((left m c t (x 0) (x 1)).trans (congrArg _ ?_))
    · exact congrArg _ (eq_ix2 x)
    · blk_ext [idx t]

/-- After the run the cotangent of the first branch's product is the reference's. -/
theorem final_8 (c : Dev nD) : (dats m 0 c).arrAt 8 cfg0.N
    = val_main_v35 (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]; frame_out
  pointwise [k0_pay8, k0_pay4, k0_pay3, Ideal.logistic, val_main_v35, val_main_v18, val_main_v15, val_main_v9, val_main_v10, val_main_v5, val_main_v4, val_main_v3, val_main_v2, val_main_v1, val_main_v0,
    val_main_cst, val_main_cst_0]
  blk_point [iblk, V, idx t]

/-- After the run the cotangent of the second branch's product is the reference's. -/
theorem final_9 (c : Dev nD) : (dats m 0 c).arrAt 9 cfg0.N
    = val_main_v36 (m ((c : Thread nD τ).loc main_arg0)) (m ((c : Thread nD τ).loc main_arg1)) (m ((c : Thread nD τ).loc main_arg4)) := by
  refine (dats m 0 c).arrAt_eq_of_covers 9 _ (by decide +kernel) fun t _ y => ?_
  blk_simp
  rw [after0_9]; frame_out
  pointwise [k0_pay9, k0_pay5, k0_pay3, Ideal.logistic, val_main_v36, val_main_v16, val_main_v15, val_main_v9, val_main_v10, val_main_v5, val_main_v4, val_main_v3, val_main_v2, val_main_v1, val_main_v0,
    val_main_cst, val_main_cst_0]
  blk_point [iblk, V, idx t]

/-- The cotangent of the first branch's product, at one point. -/
theorem first (c : Dev nD) (t : Fin cfg0.N) (i : Fin 512) (j : Fin 1024) :
    k0_pay8 (F := Ideal) (iblk m c 0 t) (iblk m c 4 t) (View.ld (iblk m c 1 t) r0_2) (ix2 i j)
      = val_main_v18 (m ((c : Thread nD τ).loc main_arg0)) (m ((c : Thread nD τ).loc main_arg1)) (m ((c : Thread nD τ).loc main_arg4))
          (ix2 ⟨t.val * 512 + i.val, by have := lt_of_lt_of_eq t.isLt N_0; omega⟩ j) := by
  pointwise [k0_pay8, k0_pay4, k0_pay3, Ideal.logistic, val_main_v18, val_main_v15, val_main_v9, val_main_v10, val_main_v5, val_main_v4, val_main_v3, val_main_v2, val_main_v1, val_main_v0,
    val_main_cst, val_main_cst_0]
  blk_point [iblk, V, idx t]

/-- A lane of the first branch's cotangent: zero on the padding, and otherwise the product with the head's row. -/
theorem padded_lane (c : Dev nD) (t : Fin cfg0.N) (i : Fin 512) (j : Fin 1024) :
    k0_pay1 (F := Ideal) (k0_pay8 (iblk m c 0 t) (iblk m c 4 t) (View.ld (iblk m c 1 t) r0_2)) (iblk m c 5 t) (ix2 i j)
      = val_main_v37 (m ((c : Thread nD τ).loc main_arg0)) (m ((c : Thread nD τ).loc main_arg1)) (m ((c : Thread nD τ).loc main_arg4)) (m ((c : Thread nD τ).loc main_arg5))
          (ix2 ⟨t.val * 512 + i.val, by have := lt_of_lt_of_eq t.isLt N_0; omega⟩ j) := by
  rw [weights, weights_eq]
  pointwise [k0_pay1, val_main_v37, val_main_v30, val_main_v29, val_main_v28, val_main_v27, val_main_cst_3]
  simp only [Cert.MergeOutIdeal.Value.padded_at]
  by_cases h : j.val % 128 < 64
  · rw [dif_neg (by omega)]
    simp only [dif_pos h, mul_zero]
    exact Finset.sum_const_zero
  · rw [dif_pos ⟨by have := lt_of_lt_of_eq t.isLt N_0; omega, by omega, by omega, by omega⟩]
    simp only [dif_neg h]
    exact Fin.sum_fin_congr fun k => congrArg (· * _) (first m c t i k)

/-- After the run the second branch's cotangent is the reference's. -/
theorem final_11 (c : Dev nD) : (dats m 0 c).arrAt 11 cfg0.N
    = val_main_v38 (m ((c : Thread nD τ).loc main_arg0)) (m ((c : Thread nD τ).loc main_arg1)) (m ((c : Thread nD τ).loc main_arg4)) (m ((c : Thread nD τ).loc main_arg6)) := by
  refine (dats m 0 c).arrAt_eq_of_covers 11 _ (by decide +kernel) fun t _ y => ?_
  blk_simp
  rw [after0_11]; frame_out
  pointwise [k0_pay2, k0_pay9, k0_pay5, k0_pay3, Ideal.logistic, val_main_v38, val_main_v33, val_main_v16, val_main_v15, val_main_v9, val_main_v10, val_main_v5, val_main_v4, val_main_v3, val_main_v2, val_main_v1, val_main_v0,
    val_main_cst, val_main_cst_0]
  blk_point [iblk, V, idx t]

/-- Where a block's entry lies in the array of the first branch's cotangent. -/
theorem lands (t : Fin cfg0.N) (i : Fin 512) (j : Fin 1024) : ((cfg0.win 10).blk t).view.emb (ix2 i j)
    = ix2 ⟨t.val * 512 + i.val, by have := lt_of_lt_of_eq t.isLt N_0; omega⟩ j := by
  blk_ext [idx t]

/-- After the run the first branch's cotangent is the reference's. -/
theorem final_10 (c : Dev nD) : (dats m 0 c).arrAt 10 cfg0.N
    = val_main_v37 (m ((c : Thread nD τ).loc main_arg0)) (m ((c : Thread nD τ).loc main_arg1)) (m ((c : Thread nD τ).loc main_arg4)) (m ((c : Thread nD τ).loc main_arg5)) := by
  refine (dats m 0 c).arrAt_eq_of_covers 10 _ (by decide +kernel) fun t _ y => ?_
  blk_simp
  rw [after0_10]; frame_out
  refine (congrArg _ (eq_ix2 y)).trans ((padded_lane m c t (y 0) (y 1)).trans (congrArg _ ?_))
  rw [← lands t (y 0) (y 1)]
  exact congrArg _ (eq_ix2 y).symm

end Cert.MergeBwdIdeal.Value

/-- The kernel's five results are the reference's. -/
theorem Cert.Proof.merge_bwd : Cert.algebraic_MergeBwdIdeal_MergeBwdRefIdeal := by
  pair_intro
  · run_from Cert.MergeBwdIdeal.Value.run_blocks m g
  · run_from Cert.MergeBwdRefIdeal.Value.run m' g'
    · rw [(hagree c).2.2.1, (hagree c).2.2.2.1, (hagree c).2.2.2.2.1]
      exact (Cert.MergeBwdIdeal.Value.final_7 m c).symm
    · exact (Cert.MergeBwdIdeal.Value.final_8 m c).symm
    · exact (Cert.MergeBwdIdeal.Value.final_9 m c).symm
    · exact (Cert.MergeBwdIdeal.Value.final_10 m c).symm
    · exact (Cert.MergeBwdIdeal.Value.final_11 m c).symm
-- ==== Proof.Ple.lean ====
/- The call of the embedding block at the end of the forward pass, the loss and both their gradients: the gate
   `σ(norm(h) · w_gate)` times the projected embedding is added to `h`, the squared error against the target is summed by
   columns, and the cotangents go back to `h`, the gain, the gate's logits and the projected embedding. The column sums and
   the gain's cotangent are accumulated over the eight row blocks. The norm's gradient is written with `r³` where the
   derivative of the plain norm has `r / v`: the two agree where all that enters is real. -/
module

public import proofs.«01_k».proof.Defs
public import proofs.«01_k».proof.Proof.Gen.PleIdeal.Value
public import proofs.«01_k».proof.Proof.Gen.PleRefIdeal.Run
public import proofs.«01_k».proof.Proof.Gen.PleRefIdeal.Read
public import Idealize.ShloMosaic.Lib.Pipeline.ValueKit
public import Idealize.ShloMosaic.Lib.Claim
public import proofs.«01_k».proof.Proof.Gen.Pre_ple_finite
public import proofs.«01_k».proof.Proof.Norms

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen
open Cert.PleRefIdeal.Read

variable (m : (ℓ : Loc nD τ sig) → Buf (Elt Ideal) ℓ)

open Cert.Reals (IsReal isReal_of_abs)
open Cert.Norms (norm_grad meansq_pos gainRow IsPos word_width)

/-- The logistic function of a real number is real. -/
theorem real_logistic {x : EReal} : IsReal x → IsReal (Ideal.logistic x)
  | ⟨a, ha⟩ => ⟨_, by rw [ha, Ideal.logistic_coe]⟩

/-- The reciprocal root of a positive number is real. -/
theorem real_rsqrt {x : EReal} : IsPos x → IsReal (Ideal.rsqrt x)
  | ⟨a, h, ha⟩ => ⟨_, by rw [ha, Ideal.rsqrt_coe, if_neg (not_lt.mpr h.le), if_neg h.ne']⟩

/-- A function of six arguments has equal values at equal arguments. -/
theorem same {α β γ δ ε ζ η : Type} (f : α → β → γ → δ → ε → ζ → η) {x0 y0 : α} {x1 y1 : β} {x2 y2 : γ} {x3 y3 : δ} {x4 y4 : ε}
    {x5 y5 : ζ} (h0 : x0 = y0) (h1 : x1 = y1) (h2 : x2 = y2) (h3 : x3 = y3) (h4 : x4 = y4) (h5 : x5 = y5) :
    f x0 x1 x2 x3 x4 x5 = f y0 y1 y2 y3 y4 y5 := by
  rw [h0, h1, h2, h3, h4, h5]

/-- One is real. -/
theorem real_one : IsReal (1 : EReal) := ⟨1, EReal.coe_one.symm⟩

/-- The word of 1/1024. -/
theorem word_mean : Ideal.ofBits .f32 0x3A800000#32 = ((1 / 1024 : ℝ) : EReal) := by
  simp [Ideal.ofBits, Ideal.ieee]
  rw [← EReal.coe_mul]; norm_num

/-- The word of a half. -/
theorem word_half : Ideal.ofBits .f32 0x3F000000#32 = ((1 / 2 : ℝ) : EReal) := by
  simp [Ideal.ofBits, Ideal.ieee]
  rw [← EReal.coe_mul]; norm_num

/-- The word of two. -/
theorem word_two : Ideal.ofBits .f32 0x40000000#32 = ((2 : ℝ) : EReal) := by
  simp [Ideal.ofBits, Ideal.ieee]
  rw [← EReal.coe_mul]; norm_num

/-- Half the mean of the squares has the error over 1024 as its derivative. -/
theorem mean_grad (d : EReal) :
    Ideal.div (Ideal.ofBits .f32 0x3F000000#32) (Ideal.ofBits .f32 0x44800000#32) * (Ideal.ofBits .f32 0x40000000#32 * d)
      = d * Ideal.ofBits .f32 0x3A800000#32 := by
  rw [word_half, word_width, word_two, word_mean, Ideal.div_coe (by norm_num), ← mul_assoc, ← EReal.coe_mul, ← EReal.coe_mul,
    mul_comm d]
  congr 2
  norm_num

/-- Which block each window holds at point `t`: the row block is `t`, the weights, the gain and the sums are whole. -/
theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] :=
  (by decide +kernel : ∀ t : Fin grid0.N, _)

/-- A point's rows of `h`. -/
theorem h_at (c : Dev nD) (t : Fin cfg0.N) (i : Fin 512) (j : Fin 1024) :
    (iblk m c 0 t : FVec Ideal S512x1024 .f32) (ix2 i j)
      = (m ((c : Thread nD τ).loc main_arg0) : FVec Ideal S4096x1024 .f32) (ix2 ⟨t.val * 512 + i.val, by have := lt_of_lt_of_eq t.isLt N_0; omega⟩ j) := by
  blk_ext [iblk, V, idx t]

/-- The gain is whole at every point. -/
theorem g_at (c : Dev nD) (t : Fin cfg0.N) (j : Fin 1024) :
    (iblk m c 1 t : FVec Ideal S1x1024 .f32) (ix2 0 j) = (m ((c : Thread nD τ).loc main_arg1) : FVec Ideal S1x1024 .f32) (ix2 0 j) := by
  blk_ext [iblk, V, idx t]

/-- The gate's weights are whole at every point. -/
theorem wg_at (c : Dev nD) (t : Fin cfg0.N) (i : Fin 1024) (j : Fin 1024) :
    (iblk m c 2 t : FVec Ideal S1024x1024 .bf16) (ix2 i j)
      = (m ((c : Thread nD τ).loc main_arg2) : FVec Ideal S1024x1024 .f32) (ix2 i j) := by
  blk_point [iblk, V, idx t]

/-- A point's rows of the embedding. -/
theorem p_at (c : Dev nD) (t : Fin cfg0.N) (i : Fin 512) (j : Fin 256) :
    (iblk m c 3 t : FVec Ideal S512x256 .f32) (ix2 i j)
      = (m ((c : Thread nD τ).loc main_arg3) : FVec Ideal S4096x256 .f32) (ix2 ⟨t.val * 512 + i.val, by have := lt_of_lt_of_eq t.isLt N_0; omega⟩ j) := by
  blk_ext [iblk, V, idx t]

/-- The projection's weights are whole at every point. -/
theorem wp_at (c : Dev nD) (t : Fin cfg0.N) (i : Fin 256) (j : Fin 1024) :
    (iblk m c 4 t : FVec Ideal S256x1024 .bf16) (ix2 i j)
      = (m ((c : Thread nD τ).loc main_arg4) : FVec Ideal S256x1024 .f32) (ix2 i j) := by
  blk_point [iblk, V, idx t]

/-- A point's rows of the target. -/
theorem t_at (c : Dev nD) (t : Fin cfg0.N) (i : Fin 512) (j : Fin 1024) :
    (iblk m c 5 t : FVec Ideal S512x1024 .f32) (ix2 i j)
      = (m ((c : Thread nD τ).loc main_arg5) : FVec Ideal S4096x1024 .f32) (ix2 ⟨t.val * 512 + i.val, by have := lt_of_lt_of_eq t.isLt N_0; omega⟩ j) := by
  blk_ext [iblk, V, idx t]

/-- The norm's derivative at the output of the loss: the error over 1024. -/
theorem ref_dy (x0 x1 x2 x3 x4 x5) (i : Fin 4096) (j : Fin 1024) : val_main_v44 (F := Ideal) x0 x1 x2 x3 x4 x5 (ix2 i j)
    = val_main_v30 (F := Ideal) x0 x1 x2 x3 x4 x5 (ix2 i j) * Ideal.ofBits .f32 0x3A800000#32 := by
  pointwise [val_main_v44, val_main_v43, val_main_v42, val_main_v41, val_main_v40, val_main_v39, val_main_v33, val_main_v32, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  exact mean_grad _

/-- The point's block of the normalized input times the gain. -/
theorem un_at (c : Dev nD) (t : Fin cfg0.N) (i : Fin 512) (j : Fin 1024) : (k0_pay6 (iblk m c 0 t) (iblk m c 1 t) : FVec Ideal S512x1024 .bf16) (ix2 i j)
    = val_main_v14 (F := Ideal) (m ((c : Thread nD τ).loc main_arg0)) (m ((c : Thread nD τ).loc main_arg1)) (ix2 ⟨t.val * 512 + i.val, by have := lt_of_lt_of_eq t.isLt N_0; omega⟩ j) := by
  pointwise [k0_pay6, k0_pay5, k0_pay4, val_main_v14, val_main_v13, val_main_v12, val_main_v11, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  simp only [h_at, g_at]

/-- The gate at a point: the logistic function of the norm's product with the gate's weights. -/
theorem sg_at (c : Dev nD) (t : Fin cfg0.N) (i : Fin 512) (j : Fin 1024) : (k0_pay7 (iblk m c 0 t) (iblk m c 1 t) (iblk m c 2 t) : FVec Ideal S512x1024 .f32) (ix2 i j)
    = val_main_v22 (F := Ideal) (m ((c : Thread nD τ).loc main_arg0)) (m ((c : Thread nD τ).loc main_arg1)) (m ((c : Thread nD τ).loc main_arg2)) (ix2 ⟨t.val * 512 + i.val, by have := lt_of_lt_of_eq t.isLt N_0; omega⟩ j) := by
  pointwise [k0_pay7, Ideal.logistic, val_main_v15, val_main_v22, val_main_v21, val_main_v20, val_main_v19, val_main_v18, val_main_v17, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  simp only [un_at, wg_at]

/-- The projected embedding at a point. -/
theorem pp_at (c : Dev nD) (t : Fin cfg0.N) (i : Fin 512) (j : Fin 1024) : (k0_pay8 (iblk m c 3 t) (iblk m c 4 t) : FVec Ideal S512x1024 .f32) (ix2 i j)
    = val_main_v16 (F := Ideal) (m ((c : Thread nD τ).loc main_arg3)) (m ((c : Thread nD τ).loc main_arg4)) (ix2 ⟨t.val * 512 + i.val, by have := lt_of_lt_of_eq t.isLt N_0; omega⟩ j) := by
  pointwise [k0_pay8, val_main_v16]
  simp only [p_at, wp_at]

/-- The error at a point: what the block gives less the target. -/
theorem df_at (c : Dev nD) (t : Fin cfg0.N) (i : Fin 512) (j : Fin 1024) : (k0_pay9 (iblk m c 0 t) (iblk m c 1 t) (iblk m c 2 t) (iblk m c 3 t) (iblk m c 4 t) (iblk m c 5 t) : FVec Ideal S512x1024 .f32) (ix2 i j)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, by have := lt_of_lt_of_eq t.isLt N_0; omega⟩ j) := by
  pointwise [k0_pay9, val_main_v30, val_main_v27, val_main_v26]
  simp only [h_at, sg_at, pp_at, t_at]

/-- The cotangent of the gate's logits at a point. -/
theorem dz_at (c : Dev nD) (t : Fin cfg0.N) (i : Fin 512) (j : Fin 1024) :
    (k0_pay14 (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) : FVec Ideal S512x1024 .bf16) (ix2 i j)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, by have := lt_of_lt_of_eq t.isLt N_0; omega⟩ j) := by
  pointwise [k0_pay14, k0_pay13, val_main_v47, val_main_v46, val_main_v25, val_main_v24, val_main_v23, val_main_cst_5]
  simp only [ref_dy, sg_at, pp_at, df_at]

/-- The cotangent of the norm's output at a point. -/
theorem dun_at (c : Dev nD) (t : Fin cfg0.N) (i : Fin 512) (j : Fin 1024) :
    (k0_pay15 (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) (iblk m c 2 t) : FVec Ideal S512x1024 .f32) (ix2 i j)
      = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, by have := lt_of_lt_of_eq t.isLt N_0; omega⟩ j) := by
  pointwise [k0_pay15, val_main_v48]
  simp only [dz_at, wg_at]

/-- The cotangent of the projected embedding at a point. -/
theorem dpp_at (c : Dev nD) (t : Fin cfg0.N) (i : Fin 512) (j : Fin 1024) :
    (k0_pay1 (k0_pay7 (iblk m c 0 t) (iblk m c 1 t) (iblk m c 2 t)) (k0_pay13 (k0_pay9 (iblk m c 0 t) (iblk m c 1 t) (iblk m c 2 t) (iblk m c 3 t) (iblk m c 4 t) (iblk m c 5 t))) : FVec Ideal S512x1024 .bf16) (ix2 i j)
      = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, by have := lt_of_lt_of_eq t.isLt N_0; omega⟩ j) := by
  pointwise [k0_pay1, k0_pay13, val_main_v74, val_main_v45]
  simp only [ref_dy, sg_at, df_at]
  exact mul_comm _ _

/-- What the precondition says: all six arguments hold real numbers. -/
theorem finite (hpre : Cert.Pre_PleIdeal_ple_finite m) (c : Dev nD) :
    (∀ i, IsReal ((m ((c : Thread nD τ).loc main_arg0) : FVec Ideal S4096x1024 .f32) i))
    ∧ (∀ i, IsReal ((m ((c : Thread nD τ).loc main_arg1) : FVec Ideal S1x1024 .f32) i))
    ∧ (∀ i, IsReal ((m ((c : Thread nD τ).loc main_arg2) : FVec Ideal S1024x1024 .f32) i))
    ∧ (∀ i, IsReal ((m ((c : Thread nD τ).loc main_arg3) : FVec Ideal S4096x256 .f32) i))
    ∧ (∀ i, IsReal ((m ((c : Thread nD τ).loc main_arg4) : FVec Ideal S256x1024 .f32) i))
    ∧ (∀ i, IsReal ((m ((c : Thread nD τ).loc main_arg5) : FVec Ideal S4096x1024 .f32) i)) :=
  ⟨isReal_of_abs (hpre c).1 rfl, isReal_of_abs (hpre c).2.1 rfl, isReal_of_abs (hpre c).2.2.1 rfl,
    isReal_of_abs (hpre c).2.2.2.1 rfl, isReal_of_abs (hpre c).2.2.2.2.1 rfl, isReal_of_abs (hpre c).2.2.2.2.2 rfl⟩

/-- The normalized input times the gain is real. -/
theorem un_real {x0 : FVec Ideal S4096x1024 .f32} {x1 : FVec Ideal S1x1024 .f32} (h0 : ∀ i, IsReal (x0 i)) (h1 : ∀ i, IsReal (x1 i)) (i : Fin 4096) (j : Fin 1024) : IsReal (val_main_v14 (F := Ideal) x0 x1 (ix2 i j)) := by
  pointwise [val_main_v14, val_main_v13, val_main_v12, val_main_v11, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  exact ((h0 _).mul (real_rsqrt (meansq_pos fun k => h0 _))).mul (h1 _)

/-- The gate is real. -/
theorem sg_real {x0 : FVec Ideal S4096x1024 .f32} {x1 : FVec Ideal S1x1024 .f32} {x2 : FVec Ideal S1024x1024 .f32} (h0 : ∀ i, IsReal (x0 i)) (h1 : ∀ i, IsReal (x1 i)) (h2 : ∀ i, IsReal (x2 i)) (i : Fin 4096) (j : Fin 1024) : IsReal (val_main_v22 (F := Ideal) x0 x1 x2 (ix2 i j)) := by
  pointwise [val_main_v15, val_main_v22, val_main_v21, val_main_v20, val_main_v19, val_main_v18, val_main_v17, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  exact real_logistic (IsReal.sum fun k => (un_real h0 h1 _ _).mul (h2 _))

/-- The projected embedding is real. -/
theorem pp_real {x3 : FVec Ideal S4096x256 .f32} {x4 : FVec Ideal S256x1024 .f32} (h3 : ∀ i, IsReal (x3 i)) (h4 : ∀ i, IsReal (x4 i)) (i : Fin 4096) (j : Fin 1024) : IsReal (val_main_v16 (F := Ideal) x3 x4 (ix2 i j)) := by
  pointwise [val_main_v16]
  exact IsReal.sum fun k => (h3 _).mul (h4 _)

/-- The error is real. -/
theorem df_real {x0 : FVec Ideal S4096x1024 .f32} {x1 : FVec Ideal S1x1024 .f32} {x2 : FVec Ideal S1024x1024 .f32} {x3 : FVec Ideal S4096x256 .f32} {x4 : FVec Ideal S256x1024 .f32} {x5 : FVec Ideal S4096x1024 .f32} (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : Fin 4096) (j : Fin 1024) :
    IsReal (val_main_v30 (F := Ideal) x0 x1 x2 x3 x4 x5 (ix2 i j)) := by
  pointwise [val_main_v30, val_main_v27, val_main_v26]
  exact ((h0 _).add ((sg_real h0 h1 h2 _ _).mul (pp_real h3 h4 _ _))).sub (h5 _)

/-- The cotangent of the gate's logits is real. -/
theorem dz_real {x0 : FVec Ideal S4096x1024 .f32} {x1 : FVec Ideal S1x1024 .f32} {x2 : FVec Ideal S1024x1024 .f32} {x3 : FVec Ideal S4096x256 .f32} {x4 : FVec Ideal S256x1024 .f32} {x5 : FVec Ideal S4096x1024 .f32} (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : Fin 4096) (j : Fin 1024) :
    IsReal (val_main_v47 (F := Ideal) x0 x1 x2 x3 x4 x5 (ix2 i j)) := by
  pointwise [val_main_v47, val_main_v46, val_main_v25, val_main_v24, val_main_v23, val_main_cst_5]
  rw [ref_dy, word_mean]
  exact (((df_real h0 h1 h2 h3 h4 h5 _ _).mul ⟨_, rfl⟩).mul (pp_real h3 h4 _ _)).mul
    ((sg_real h0 h1 h2 _ _).mul (real_one.sub (sg_real h0 h1 h2 _ _)))

/-- The cotangent of the norm's output is real. -/
theorem dun_real {x0 : FVec Ideal S4096x1024 .f32} {x1 : FVec Ideal S1x1024 .f32} {x2 : FVec Ideal S1024x1024 .f32} {x3 : FVec Ideal S4096x256 .f32} {x4 : FVec Ideal S256x1024 .f32} {x5 : FVec Ideal S4096x1024 .f32} (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : Fin 4096) (j : Fin 1024) :
    IsReal (val_main_v48 (F := Ideal) x0 x1 x2 x3 x4 x5 (ix2 i j)) := by
  pointwise [val_main_v48]
  exact IsReal.sum fun k => (dz_real h0 h1 h2 h3 h4 h5 _ _).mul (h2 _)

/-- The cotangent of the input at a point. -/
theorem dh_at (hpre : Cert.Pre_PleIdeal_ple_finite m) (c : Dev nD) (t : Fin cfg0.N) (i : Fin 512) (j : Fin 1024) :
    k0_pay17 (iblk m c 0 t) (iblk m c 1 t) (k0_pay4 (iblk m c 0 t)) (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t))
        (iblk m c 2 t) (ix2 i j)
      = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, by have := lt_of_lt_of_eq t.isLt N_0; omega⟩ j) := by
  obtain ⟨h0, h1, h2, h3, h4, h5⟩ := finite m hpre c
  pointwise [k0_pay17, k0_pay13, k0_pay4, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  simp only [ref_dy, dun_at, df_at, h_at, g_at, Fin.sum_univ_one, ← add_assoc]
  exact norm_grad (meansq_pos fun k => h0 _)
    (IsReal.sum fun k => (h0 _).mul ((dun_real h0 h1 h2 h3 h4 h5 _ _).mul (h1 _))) ((dun_real h0 h1 h2 h3 h4 h5 _ _).mul (h1 _)) (h0 _) _

/-- Where point `t`'s block of the input's cotangent lies. -/
theorem lands (t : Fin cfg0.N) (i : Fin 512) (j : Fin 1024) : ((cfg0.win 6).blk t).view.emb (ix2 i j)
    = ix2 ⟨t.val * 512 + i.val, by have := lt_of_lt_of_eq t.isLt N_0; omega⟩ j := by
  blk_ext [idx t]

/-- After the run the input's cotangent is the reference's. -/
theorem final_6 (hpre : Cert.Pre_PleIdeal_ple_finite m) (c : Dev nD) : (dats m 0 c).arrAt 6 cfg0.N
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  refine Eq.trans (b := k0_pay17 (iblk m c 0 t) (iblk m c 1 t) (k0_pay4 (iblk m c 0 t)) (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) (iblk m c 2 t) y) ?_ ?_
  · by_cases h : t.val % 8 = 0
    · rw [outsAt0_A m c t h]; frame_out
    · rw [outsAt0_B m c t h]; frame_out
  · refine (congrArg _ (eq_ix2 y)).trans ((dh_at m hpre c t (y 0) (y 1)).trans (congrArg _ ?_))
    rw [← lands t (y 0) (y 1)]
    exact congrArg _ (eq_ix2 y).symm

/-- After the run its half is the reference's. -/
theorem final_7 (hpre : Cert.Pre_PleIdeal_ple_finite m) (c : Dev nD) : (dats m 0 c).arrAt 7 cfg0.N
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t _ y => ?_
  blk_simp
  rw [after0_7]
  refine Eq.trans (b := k0_pay18 (iblk m c 0 t) (iblk m c 1 t) (k0_pay4 (iblk m c 0 t)) (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) (iblk m c 2 t) y) ?_ ?_
  · by_cases h : t.val % 8 = 0
    · rw [outsAt0_A m c t h]; frame_out
    · rw [outsAt0_B m c t h]; frame_out
  · pointwise [k0_pay18, val_main_v71, val_main_v70, val_main_v69, val_main_cst_18]
    refine congrArg (_ * ·) ?_
    refine (congrArg _ (eq_ix2 y)).trans ((dh_at m hpre c t (y 0) (y 1)).trans (congrArg _ ?_))
    rw [← lands t (y 0) (y 1)]
    exact congrArg _ (eq_ix2 y).symm

/-- After the run the normalized input is the reference's. -/
theorem final_8 (c : Dev nD) : (dats m 0 c).arrAt 8 cfg0.N
    = val_main_v72 (F := Ideal) (m ((c : Thread nD τ).loc main_arg0)) (m ((c : Thread nD τ).loc main_arg1)) := by
  refine (dats m 0 c).arrAt_eq_of_covers 8 _ (by decide +kernel) fun t _ y => ?_
  blk_simp
  rw [after0_8]
  refine Eq.trans (b := k0_pay6 (iblk m c 0 t) (iblk m c 1 t) y) ?_ ?_
  · by_cases h : t.val % 8 = 0
    · rw [outsAt0_A m c t h]; frame_out
    · rw [outsAt0_B m c t h]; frame_out
  · pointwise [val_main_v72]
    refine (congrArg _ (eq_ix2 y)).trans ((un_at m c t (y 0) (y 1)).trans (congrArg _ ?_))
    rw [← lands t (y 0) (y 1)]
    exact congrArg _ (eq_ix2 y).symm

/-- After the run the cotangent of the gate's logits is the reference's. -/
theorem final_9 (c : Dev nD) : (dats m 0 c).arrAt 9 cfg0.N
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_covers 9 _ (by decide +kernel) fun t _ y => ?_
  blk_simp
  rw [after0_9]
  refine Eq.trans (b := k0_pay14 (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) y) ?_ ?_
  · by_cases h : t.val % 8 = 0
    · rw [outsAt0_A m c t h]; frame_out
    · rw [outsAt0_B m c t h]; frame_out
  · pointwise [val_main_v73]
    refine (congrArg _ (eq_ix2 y)).trans ((dz_at m c t (y 0) (y 1)).trans (congrArg _ ?_))
    rw [← lands t (y 0) (y 1)]
    exact congrArg _ (eq_ix2 y).symm

/-- After the run the cotangent of the projected embedding is the reference's. -/
theorem final_10 (c : Dev nD) : (dats m 0 c).arrAt 10 cfg0.N
    = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_covers 10 _ (by decide +kernel) fun t _ y => ?_
  blk_simp
  rw [after0_10]
  refine Eq.trans (b := k0_pay1 (k0_pay7 (iblk m c 0 t) (iblk m c 1 t) (iblk m c 2 t)) (k0_pay13 (k0_pay9 (iblk m c 0 t) (iblk m c 1 t) (iblk m c 2 t) (iblk m c 3 t) (iblk m c 4 t) (iblk m c 5 t))) y) ?_ ?_
  · by_cases h : t.val % 8 = 0
    · rw [outsAt0_A m c t h]; frame_out
    · rw [outsAt0_B m c t h]; frame_out
  · refine (congrArg _ (eq_ix2 y)).trans ((dpp_at m c t (y 0) (y 1)).trans (congrArg _ ?_))
    rw [← lands t (y 0) (y 1)]
    exact congrArg _ (eq_ix2 y).symm

/-- What is added into the gain's cotangent at a point: over the rows, the cotangent of the norm's output times the
    normalized `h`. -/
theorem gain_step (X sg pp df : FVec Ideal S512x1024 .f32) (W : FVec Ideal S1024x1024 .bf16) (acc : FVec Ideal S1x1024 .f32) (j : S1x1024.Idx) :
    k0_pay16 (k0_pay5 X) sg pp df W acc j
      = acc j + ∑ i : Fin 512, gainRow ((k0_pay15 sg pp df W : FVec Ideal S512x1024 .f32) (ix2 i (j 1))) (fun k => X (ix2 i k)) (j 1) := by
  pointwise [k0_pay16, k0_pay5, k0_pay4, gainRow]

/-- What is added into the column sums at a point: the squared errors of its rows. -/
theorem sq_step (x0 x1 x2 x3 x4 x5) (acc : FVec Ideal S1x1024 .f32) (j : S1x1024.Idx) :
    k0_pay12 (k0_pay10 acc) (k0_pay11 x0 x1 x2 x3 x4 x5) j
      = acc j + ∑ i : Fin 512, (k0_pay9 x0 x1 x2 x3 x4 x5 : FVec Ideal S512x1024 .f32) (ix2 i (j 1))
          * (k0_pay9 x0 x1 x2 x3 x4 x5 : FVec Ideal S512x1024 .f32) (ix2 i (j 1)) := by
  pointwise [k0_pay12, k0_pay11, k0_pay10]

/-- The gain's cotangent starts from zero. -/
theorem gain_zero (j : S1x1024.Idx) : k0_pay2 (F := Ideal) j = 0 := by
  pointwise [k0_pay2]

/-- The column sums start from zero. -/
theorem sq_zero (j : S1x1024.Idx) : k0_pay3 (F := Ideal) j = 0 := by
  pointwise [k0_pay3]

/-- The reference's gain cotangent is the same sum over all rows. -/
theorem gain_ref (x0 x1 x2 x3 x4 x5) (j : S1x1024.Idx) : val_main_v51 (F := Ideal) x0 x1 x2 x3 x4 x5 j
    = ∑ i : Fin 4096, gainRow (val_main_v48 (F := Ideal) x0 x1 x2 x3 x4 x5 (ix2 i (j 1))) (fun k => x0 (ix2 i k)) (j 1) := by
  pointwise [val_main_v51, val_main_v50, val_main_v49, val_main_v12, val_main_v11, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, gainRow]
  exact Finset.sum_congr rfl fun i _ => mul_comm _ _

/-- The reference's column sums are the same sum over all rows. -/
theorem sq_ref (x0 x1 x2 x3 x4 x5) (j : S1x1024.Idx) : val_main_v76 (F := Ideal) x0 x1 x2 x3 x4 x5 j
    = ∑ i : Fin 4096, val_main_v30 (F := Ideal) x0 x1 x2 x3 x4 x5 (ix2 i (j 1)) * val_main_v30 (F := Ideal) x0 x1 x2 x3 x4 x5 (ix2 i (j 1)) := by
  pointwise [val_main_v76, val_main_v75, val_main_v30, val_main_v29, val_main_v28, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]

/-- What a row adds to the gain's cotangent at a point is what the reference's row adds. -/
theorem gain_row (c : Dev nD) (t : Fin cfg0.N) (i : Fin 512) (j : Fin 1024) (hl : t.val * 512 + i.val < 4096) :
    gainRow ((k0_pay15 (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) (iblk m c 2 t) : FVec Ideal S512x1024 .f32) (ix2 i j)) (fun k => (iblk m c 0 t : FVec Ideal S512x1024 .f32) (ix2 i k)) j
      = gainRow (val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, hl⟩ j))
          (fun k => (m ((c : Thread nD τ).loc main_arg0) : FVec Ideal S4096x1024 .f32) (ix2 ⟨t.val * 512 + i.val, hl⟩ k)) j := by
  simp only [dun_at, h_at]

/-- What a row adds to the column sums at a point is what the reference's row adds. -/
theorem sq_row (c : Dev nD) (t : Fin cfg0.N) (i : Fin 512) (j : Fin 1024) (hl : t.val * 512 + i.val < 4096) :
    (k0_pay9 (iblk m c 0 t) (iblk m c 1 t) (iblk m c 2 t) (iblk m c 3 t) (iblk m c 4 t) (iblk m c 5 t) : FVec Ideal S512x1024 .f32) (ix2 i j) * (k0_pay9 (iblk m c 0 t) (iblk m c 1 t) (iblk m c 2 t) (iblk m c 3 t) (iblk m c 4 t) (iblk m c 5 t) : FVec Ideal S512x1024 .f32) (ix2 i j)
      = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, hl⟩ j)
        * val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (ix2 ⟨t.val * 512 + i.val, hl⟩ j) := by
  simp only [df_at]

/-- After the run the gain's cotangent is the reference's. -/
theorem final_11 (c : Dev nD) : (dats m 0 c).arrAt 11 cfg0.N
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_after_last 11 t0_7 (by decide +kernel) _ fun j => ?_
  blk_simp
  rw [after0_11, Pipeline.eq_sum_fin_of_reset_step_apply_last (fun n h => (outsAt0 m c n h).2.2.2.2.2.1) 8 (fun _ => 0) _
    (fun t h j => by rw [outsAt0_A m c t h]; frame_out; exact (gain_step (iblk m c 0 t) (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) (iblk m c 2 t) _ j).trans (by rw [gain_zero]))
    (fun t h j => by rw [outsAt0_B m c t h]; frame_out; exact gain_step (iblk m c 0 t) (k0_pay7 (iblk m c 0 t) (iblk m c 1 t) (iblk m c 2 t)) (k0_pay8 (iblk m c 3 t) (iblk m c 4 t)) (k0_pay9 (iblk m c 0 t) (iblk m c 1 t) (iblk m c 2 t) (iblk m c 3 t) (iblk m c 4 t) (iblk m c 5 t)) (iblk m c 2 t) _ j)
    (le_of_eq N_0) t0_7 rfl j, zero_add, gain_ref]
  refine Fin.sum_mul_add_congr fun t i hl => ?_
  exact gain_row m c t i (j 1) hl

/-- After the run the column sums of the squared error are the reference's. -/
theorem final_12 (c : Dev nD) : (dats m 0 c).arrAt 12 cfg0.N
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) := by
  refine (dats m 0 c).arrAt_eq_of_after_last 12 t0_7 (by decide +kernel) _ fun j => ?_
  blk_simp
  rw [after0_12, Pipeline.eq_sum_fin_of_reset_step_apply_last (fun n h => (outsAt0 m c n h).2.2.2.2.2.2) 8 (fun _ => 0) _
    (fun t h j => by rw [outsAt0_A m c t h]; frame_out; exact (sq_step (iblk m c 0 t) (iblk m c 1 t) (iblk m c 2 t) (iblk m c 3 t) (iblk m c 4 t) (iblk m c 5 t) _ j).trans (by rw [sq_zero]))
    (fun t h j => by rw [outsAt0_B m c t h]; frame_out; exact sq_step (iblk m c 0 t) (iblk m c 1 t) (iblk m c 2 t) (iblk m c 3 t) (iblk m c 4 t) (iblk m c 5 t) _ j)
    (le_of_eq N_0) t0_7 rfl j, zero_add, sq_ref]
  refine Fin.sum_mul_add_congr fun t i hl => ?_
  exact sq_row m c t i (j 1) hl

end Cert.PleIdeal.Value

/-- The kernel's seven results are the reference's, where all six arguments are real. -/
theorem Cert.Proof.ple : Cert.algebraic_PleIdeal_PleRefIdeal_pre_ple_finite := by
  pair_intro
  · run_from Cert.PleIdeal.Value.run_blocks m g
  · refine Idealize.ShloMosaic.θ_run_mono (Cert.PleRefIdeal.Value.run m' g') ?_
    intro r hr c
    obtain ⟨e68, e71, e72, e73, e74, e51, e76, hargs⟩ := hr c
    obtain ⟨a0, a1, a2, a3, a4, a5⟩ := hagree c
    rw [Cert.PleRefIdeal.Read.val_main_v68_eq] at e68
    rw [Cert.PleRefIdeal.Read.val_main_v71_eq] at e71
    rw [Cert.PleRefIdeal.Read.val_main_v51_eq] at e51
    rw [Cert.PleRefIdeal.Read.val_main_v72_eq] at e72
    rw [Cert.PleRefIdeal.Read.val_main_v73_eq] at e73
    rw [Cert.PleRefIdeal.Read.val_main_v74_eq] at e74
    rw [Cert.PleRefIdeal.Read.val_main_v76_eq] at e76
    exact ⟨e68.trans ((Cert.PleIdeal.Value.same (Cert.PleRefIdeal.Read.val_main_v68 (F := Ideal)) a0 a1 a2 a3 a4 a5).trans (Cert.PleIdeal.Value.final_6 m hpre c).symm),
      e71.trans ((Cert.PleIdeal.Value.same (Cert.PleRefIdeal.Read.val_main_v71 (F := Ideal)) a0 a1 a2 a3 a4 a5).trans (Cert.PleIdeal.Value.final_7 m hpre c).symm),
      e72.trans ((congrArg₂ (Cert.PleRefIdeal.Read.val_main_v72 (F := Ideal)) a0 a1).trans (Cert.PleIdeal.Value.final_8 m c).symm),
      e73.trans ((Cert.PleIdeal.Value.same (Cert.PleRefIdeal.Read.val_main_v73 (F := Ideal)) a0 a1 a2 a3 a4 a5).trans (Cert.PleIdeal.Value.final_9 m c).symm),
      e74.trans ((Cert.PleIdeal.Value.same (Cert.PleRefIdeal.Read.val_main_v74 (F := Ideal)) a0 a1 a2 a3 a4 a5).trans (Cert.PleIdeal.Value.final_10 m c).symm),
      e51.trans ((Cert.PleIdeal.Value.same (Cert.PleRefIdeal.Read.val_main_v51 (F := Ideal)) a0 a1 a2 a3 a4 a5).trans (Cert.PleIdeal.Value.final_11 m c).symm),
      e76.trans ((Cert.PleIdeal.Value.same (Cert.PleRefIdeal.Read.val_main_v76 (F := Ideal)) a0 a1 a2 a3 a4 a5).trans (Cert.PleIdeal.Value.final_12 m c).symm), hargs⟩
-- ==== Proof.MixNormBwd.lean ====
/- The call that closes the gradient of the mixing half: the cotangents of its input and of its gain, from those of the
   projected columns. The columns are padded, and the product runs over the weights laid out by rows with zeros where
   the padding is; the gain's cotangent is accumulated over the eight row blocks. -/
module

public import proofs.«01_k».proof.Defs
public import proofs.«01_k».proof.Proof.Gen.MixNormBwdIdeal.Value
public import proofs.«01_k».proof.Proof.Gen.MixNormBwdRefIdeal.Run
public import proofs.«01_k».proof.Proof.Gen.MixNormBwdRefIdeal.Read
public import Idealize.ShloMosaic.Lib.Pipeline.ValueKit
public import Idealize.ShloMosaic.Lib.Claim
public import proofs.«01_k».proof.Proof.Gen.Pre_mix_norm_bwd_finite
public import proofs.«01_k».proof.Proof.Norms
public import proofs.«01_k».proof.Proof.MixIn

@[expose] public section

set_option maxRecDepth 16384

noncomputable section

open Idealize.ShloMosaic Idealize.ShloMosaic.TcCoe Idealize.SL.Sem
open Idealize.ShloMosaic.Pipeline (Dat)

namespace Cert.MixNormBwdIdeal.Value

open Cert.MixNormBwdIdeal Cert.MixNormBwdIdeal.Gen
open Cert.MixNormBwdRefIdeal.Read

variable (m : (ℓ : Loc nD τ sig) → Buf (Elt Ideal) ℓ)

open Cert.Reals (IsReal isReal_of_abs)
open Cert.Norms (norm_grad meansq_pos gainRow)
open Cert.MixInIdeal.Value (stacked byRows laidOut laidOut_at)

/-- Which block each window holds at point `t`: the row block is `t`, the weights and the gain are whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

/-- The window on the weights holds the whole laid-out array at every point. -/
theorem weights (c : Dev nD) (t : Fin cfg0.N) : iblk m c 1 t = V m c main_v8 := by
  have h := idx t
  blk_ext! [iblk, idx t]

/-- What the region finds in the weights' window is the laid-out array of the second argument. -/
theorem laid (c : Dev nD) : V m c main_v8 = laidOut (m ((c : Thread nD τ).loc main_arg1)) := by
  have h3 : V m c main_v3 = extractStridedSlice S640x1024 ![0, 0] (byRows (m ((c : Thread nD τ).loc main_arg1)))
      slices_S4256x1024_S640x1024_0_0 := by
    unfold byRows; show StableHlo.after hostOps0 _ _ = _; after_results
  have h4 : V m c main_v4 = broadcastInDim S64x1024 ![] bcast_S_S64x1024 (constant (F := Ideal) S_ .bf16 0x0000#16) := by
    show StableHlo.after hostOps0 _ _ = _; after_results
  have h5 : V m c main_v5 = extractStridedSlice S32x1024 ![640, 0] (byRows (m ((c : Thread nD τ).loc main_arg1)))
      slices_S4256x1024_S32x1024_640_0 := by
    unfold byRows; show StableHlo.after hostOps0 _ _ = _; after_results
  have h6 : V m c main_v6 = broadcastInDim S32x1024 ![] bcast_S_S32x1024 (constant (F := Ideal) S_ .bf16 0x0000#16) := by
    show StableHlo.after hostOps0 _ _ = _; after_results
  have h7 : V m c main_v7 = extractStridedSlice S3584x1024 ![672, 0] (byRows (m ((c : Thread nD τ).loc main_arg1)))
      slices_S4256x1024_S3584x1024_672_0 := by
    unfold byRows; show StableHlo.after hostOps0 _ _ = _; after_results
  have h8 : V m c main_v8 = stacked (V m c main_v3) (V m c main_v4) (V m c main_v5) (V m c main_v6) (V m c main_v7) := by
    dsimp only [V]
    simp only [StableHlo.after_cons, StableHlo.after_nil]
    rw [StableHlo.nary_result]
    rw [StableHlo.nary_result_ne _ _ _ _ _ _ (by decide), StableHlo.nary_result_ne _ _ _ _ _ _ (by decide),
      StableHlo.nary_result_ne _ _ _ _ _ _ (by decide), StableHlo.nary_result_ne _ _ _ _ _ _ (by decide),
      StableHlo.nary_result_ne _ _ _ _ _ _ (by decide)]
    rfl
  rw [h8, h3, h4, h5, h6, h7]
  rfl

/-- Where a column of the weights stands among the padded columns. -/
def wide (k : Fin 4256) : Fin 4352 :=
  ⟨if k.val < 640 then k.val else if k.val < 672 then k.val + 64 else k.val + 96, by split_ifs <;> omega⟩

/-- The reference takes from the padded columns those that stand for a column of the weights. -/
theorem narrow_at (x : FVec Ideal S4096x4352 .f32) (i : Fin 4096) (k : Fin 4256) :
    val_main_v33 (F := Ideal) x (ix2 i k) = x (ix2 i (wide k)) := by
  pointwise [val_main_v33, val_main_v32, val_main_v31, val_main_v30, val_main_v29, val_main_v28, val_main_v26, val_main_v24,
    val_main_cst_7, val_main_cst_8, val_main_cst_9]
  by_cases h1 : k.val < 640
  · rw [dif_neg (by omega), dif_neg (by omega), dif_pos h1, zero_add, zero_add]
    exact congrArg (fun z => x (ix2 i z)) (Fin.ext (by simp [wide, h1]))
  · by_cases h2 : k.val < 672
    · rw [dif_neg (by omega), dif_pos ⟨by omega, by omega⟩, dif_neg h1, zero_add, add_zero]
      exact congrArg (fun z => x (ix2 i z)) (Fin.ext (by simp only [wide, h1, h2, if_true, if_false]; omega))
    · rw [dif_pos ⟨by omega, by omega⟩, dif_neg (by omega), dif_neg h1, add_zero, add_zero]
      exact congrArg (fun z => x (ix2 i z)) (Fin.ext (by simp only [wide, h1, h2, if_false]; omega))

/-- The laid-out weights hold a column where it stands. -/
theorem laidOut_wide (w : FVec Ideal S1024x4256 .f32) (k : Fin 4256) (j : Fin 1024) :
    laidOut w (ix2 (wide k) j) = w (ix2 j k) := by
  rw [laidOut_at]
  by_cases h1 : k.val < 640
  · have e : (wide k).val = k.val := by simp [wide, h1]
    rw [dif_pos (by omega)]
    exact congrArg (fun z => w (ix2 j z)) (Fin.ext e)
  · by_cases h2 : k.val < 672
    · have e : (wide k).val = k.val + 64 := by simp [wide, h1, h2]
      rw [dif_neg (by omega), dif_neg (by omega), dif_pos (by omega)]
      exact congrArg (fun z => w (ix2 j z)) (Fin.ext (by dsimp only; omega))
    · have e : (wide k).val = k.val + 96 := by simp [wide, h1, h2]
      rw [dif_neg (by omega), dif_neg (by omega), dif_neg (by omega), dif_neg (by omega)]
      exact congrArg (fun z => w (ix2 j z)) (Fin.ext (by dsimp only; omega))

/-- The laid-out weights are zero elsewhere. -/
theorem laidOut_pad (w : FVec Ideal S1024x4256 .f32) (k : Fin 4352) (j : Fin 1024) (hk : k ∉ Set.range wide) :
    laidOut w (ix2 k j) = 0 := by
  rw [laidOut_at]
  have h1 : ¬ k.val < 640 := fun h => hk ⟨⟨k.val, by omega⟩, Fin.ext (by simp [wide, h])⟩
  rw [dif_neg h1]
  by_cases h2 : k.val < 704
  · rw [dif_pos h2]
  have h3 : ¬ k.val < 736 := fun h => hk ⟨⟨k.val - 64, by omega⟩, Fin.ext (by
    show (if _ then _ else if _ then _ else _ : ℕ) = _
    rw [if_neg (by dsimp only; omega), if_pos (by dsimp only; omega)]; dsimp only; omega)⟩
  have h4 : k.val < 768 := by
    by_contra h
    exact hk ⟨⟨k.val - 96, by omega⟩, Fin.ext (by
      show (if _ then _ else if _ then _ else _ : ℕ) = _
      rw [if_neg (by dsimp only; omega), if_neg (by dsimp only; omega)]; dsimp only; omega)⟩
  rw [dif_neg h2, dif_neg h3, dif_pos h4]

/-- No two columns stand at one place. -/
theorem wide_inj : Function.Injective wide := fun a b h => by
  have := congrArg Fin.val h
  simp only [wide] at this
  refine Fin.ext ?_
  split_ifs at this <;> omega

/-- A point's rows of the product with the laid-out weights are the reference's rows of the product. -/
theorem du_at (c : Dev nD) (t : Fin cfg0.N) (i : Fin 512) (j : Fin 1024) :
    k0_pay4 (iblk m c 0 t) (iblk m c 1 t) (ix2 i j) = val_main_v34 (m ((c : Thread nD τ).loc main_arg0)) (m ((c : Thread nD τ).loc main_arg1))
      (ix2 ⟨t.val * 512 + i.val, by have := lt_of_lt_of_eq t.isLt N_0; omega⟩ j) := by
  rw [weights, laid]
  pointwise [k0_pay4, val_main_v34]
  simp only [narrow_at]
  refine (Fintype.sum_of_injective wide wide_inj _ _ (fun k hk => ?_) fun k => ?_).symm
  · rw [laidOut_pad _ _ _ hk, mul_zero]
  · rw [laidOut_wide]
    refine congrArg (· * _) ?_
    blk_point [iblk, V, idx t]

/-- A point's rows of `h`. -/
theorem h_at (c : Dev nD) (t : Fin cfg0.N) (i : Fin 512) (j : Fin 1024) :
    (iblk m c 2 t : FVec Ideal S512x1024 .f32) (ix2 i j)
      = (m ((c : Thread nD τ).loc main_arg2) : FVec Ideal S4096x1024 .f32) (ix2 ⟨t.val * 512 + i.val, by have := lt_of_lt_of_eq t.isLt N_0; omega⟩ j) := by
  blk_ext [iblk, V, idx t]

/-- The gain is whole at every point. -/
theorem g_at (c : Dev nD) (t : Fin cfg0.N) (j : Fin 1024) :
    (iblk m c 3 t : FVec Ideal S1x1024 .f32) (ix2 0 j)
      = (m ((c : Thread nD τ).loc main_arg3) : FVec Ideal S1x1024 .f32) (ix2 0 j) := by
  blk_ext [iblk, V, idx t]

/-- A point's rows of what passes by the half-step. -/
theorem z_at (c : Dev nD) (t : Fin cfg0.N) (i : Fin 512) (j : Fin 1024) :
    (iblk m c 4 t : FVec Ideal S512x1024 .f32) (ix2 i j)
      = (m ((c : Thread nD τ).loc main_arg4) : FVec Ideal S4096x1024 .f32) (ix2 ⟨t.val * 512 + i.val, by have := lt_of_lt_of_eq t.isLt N_0; omega⟩ j) := by
  blk_ext [iblk, V, idx t]

/-- What the precondition says: the columns' cotangents, `w_in`, `h` and the gain hold real numbers. -/
theorem finite (hpre : Cert.Pre_MixNormBwdIdeal_mix_norm_bwd_finite m) (c : Dev nD) :
    (∀ i, IsReal ((m ((c : Thread nD τ).loc main_arg0) : FVec Ideal S4096x4352 .f32) i))
    ∧ (∀ i, IsReal ((m ((c : Thread nD τ).loc main_arg1) : FVec Ideal S1024x4256 .f32) i))
    ∧ (∀ i, IsReal ((m ((c : Thread nD τ).loc main_arg2) : FVec Ideal S4096x1024 .f32) i))
    ∧ (∀ i, IsReal ((m ((c : Thread nD τ).loc main_arg3) : FVec Ideal S1x1024 .f32) i)) :=
  ⟨isReal_of_abs (hpre c).1 rfl, isReal_of_abs (hpre c).2.1 rfl, isReal_of_abs (hpre c).2.2.1 rfl,
    isReal_of_abs (hpre c).2.2.2 rfl⟩

/-- The product with the transposed weights is real. -/
theorem du_real (hpre : Cert.Pre_MixNormBwdIdeal_mix_norm_bwd_finite m) (c : Dev nD) (i : Fin 4096) (j : Fin 1024) :
    IsReal (val_main_v34 (F := Ideal) (m ((c : Thread nD τ).loc main_arg0)) (m ((c : Thread nD τ).loc main_arg1)) (ix2 i j)) := by
  obtain ⟨h0, h1, -, -⟩ := finite m hpre c
  pointwise [val_main_v34]
  simp only [narrow_at]
  exact IsReal.sum fun k => (h0 _).mul (h1 _)

/-- An entry of the input's cotangent is the reference's. -/
theorem dx_at (hpre : Cert.Pre_MixNormBwdIdeal_mix_norm_bwd_finite m) (c : Dev nD) (t : Fin cfg0.N) (i : Fin 512) (j : Fin 1024) :
    k0_pay1 (iblk m c 2 t) (iblk m c 4 t) (k0_pay8 (iblk m c 0 t) (iblk m c 1 t) (iblk m c 2 t) (iblk m c 3 t))
      (k0_pay9 (iblk m c 2 t)) (k0_pay10 (iblk m c 0 t) (iblk m c 1 t) (iblk m c 2 t) (iblk m c 3 t)) (ix2 i j)
      = val_main_v54 (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨t.val * 512 + i.val, by have := lt_of_lt_of_eq t.isLt N_0; omega⟩ j) := by
  obtain ⟨-, -, h2, h3⟩ := finite m hpre c
  pointwise [k0_pay1, k0_pay8, k0_pay9, k0_pay10, k0_pay7, k0_pay5, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  simp only [du_at, h_at, g_at, z_at, Fin.sum_univ_one]
  exact norm_grad (meansq_pos fun k => h2 _)
    (IsReal.sum fun k => (h2 _).mul ((du_real m hpre c _ _).mul (h3 _))) ((du_real m hpre c _ _).mul (h3 _)) (h2 _) _

/-- Where point `t`'s block of the input's cotangent lies. -/
theorem lands (t : Fin cfg0.N) (i : Fin 512) (j : Fin 1024) : ((cfg0.win 5).blk t).view.emb (ix2 i j)
    = ix2 ⟨t.val * 512 + i.val, by have := lt_of_lt_of_eq t.isLt N_0; omega⟩ j := by
  blk_ext [idx t]

/-- After the run the input's cotangent is the reference's. -/
theorem final_5 (hpre : Cert.Pre_MixNormBwdIdeal_mix_norm_bwd_finite m) (c : Dev nD) : (dats m 0 c).arrAt 5 cfg0.N
    = val_main_v54 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  refine Eq.trans (b := k0_pay1 (iblk m c 2 t) (iblk m c 4 t) (k0_pay8 (iblk m c 0 t) (iblk m c 1 t) (iblk m c 2 t) (iblk m c 3 t))
      (k0_pay9 (iblk m c 2 t)) (k0_pay10 (iblk m c 0 t) (iblk m c 1 t) (iblk m c 2 t) (iblk m c 3 t)) y) ?_ ?_
  · by_cases h : t.val % 8 = 0
    · rw [outsAt0_A m c t h]; frame_out
    · rw [outsAt0_B m c t h]; frame_out
  · refine (congrArg _ (eq_ix2 y)).trans ((dx_at m hpre c t (y 0) (y 1)).trans (congrArg _ ?_))
    rw [← lands t (y 0) (y 1)]
    exact congrArg _ (eq_ix2 y).symm

/-- After the run the halved copy of the input's cotangent is the reference's. -/
theorem final_6 (hpre : Cert.Pre_MixNormBwdIdeal_mix_norm_bwd_finite m) (c : Dev nD) : (dats m 0 c).arrAt 6 cfg0.N
    = val_main_v57 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  refine Eq.trans (b := k0_pay2 (iblk m c 2 t) (iblk m c 4 t) (k0_pay8 (iblk m c 0 t) (iblk m c 1 t) (iblk m c 2 t) (iblk m c 3 t))
      (k0_pay9 (iblk m c 2 t)) (k0_pay10 (iblk m c 0 t) (iblk m c 1 t) (iblk m c 2 t) (iblk m c 3 t)) y) ?_ ?_
  · by_cases h : t.val % 8 = 0
    · rw [outsAt0_A m c t h]; frame_out
    · rw [outsAt0_B m c t h]; frame_out
  · pointwise [k0_pay2, val_main_v57, val_main_v56, val_main_v55, val_main_cst_14]
    refine congrArg (_ * ·) ?_
    refine (congrArg _ (eq_ix2 y)).trans ((dx_at m hpre c t (y 0) (y 1)).trans (congrArg _ ?_))
    rw [← lands t (y 0) (y 1)]
    exact congrArg _ (eq_ix2 y).symm

/-- What is added into the gain's cotangent at a point: over the rows, `du` times the normalized `h`. -/
theorem step_at (x0 : FVec Ideal S512x4352 .bf16) (x1 : FVec Ideal S4352x1024 .bf16) (X : FVec Ideal S512x1024 .f32) (acc : FVec Ideal S1x1024 .f32) (j : S1x1024.Idx) :
    k0_pay6 x0 x1 X acc j
      = acc j + ∑ i : Fin 512, gainRow ((k0_pay4 x0 x1 : FVec Ideal S512x1024 .f32) (ix2 i (j 1))) (fun k => X (ix2 i k)) (j 1) := by
  pointwise [k0_pay6, k0_pay5, gainRow]

/-- The gain's cotangent starts from zero. -/
theorem zero_at (j : S1x1024.Idx) : k0_pay3 (F := Ideal) j = 0 := by
  pointwise [k0_pay3]

/-- The reference's gain cotangent is the same sum over all rows. -/
theorem ref_at (x0 x1 x2) (j : S1x1024.Idx) : val_main_v37 (F := Ideal) x0 x1 x2 j
    = ∑ i : Fin 4096, gainRow (val_main_v34 (F := Ideal) x0 x1 (ix2 i (j 1))) (fun k => x2 (ix2 i k)) (j 1) := by
  pointwise [val_main_v37, val_main_v36, val_main_v35, val_main_v12, val_main_v11, val_main_v7, val_main_v6, val_main_v5,
    val_main_v4, val_main_v3, val_main_v2, val_main_v1, val_main_v0, val_main_cst, val_main_cst_0, val_main_cst_1,
    val_main_cst_10, gainRow]
  exact Finset.sum_congr rfl fun i _ => mul_comm _ _

/-- What a row adds at a point is what the reference's row adds. -/
theorem row_at (c : Dev nD) (t : Fin cfg0.N) (i : Fin 512) (j : Fin 1024) (hl : t.val * 512 + i.val < 4096) :
    gainRow (k0_pay4 (iblk m c 0 t) (iblk m c 1 t) (ix2 i j)) (fun k => (iblk m c 2 t : FVec Ideal S512x1024 .f32) (ix2 i k)) j
      = gainRow (val_main_v34 (F := Ideal) (m ((c : Thread nD τ).loc main_arg0)) (m ((c : Thread nD τ).loc main_arg1)) (ix2 ⟨t.val * 512 + i.val, hl⟩ j))
          (fun k => (m ((c : Thread nD τ).loc main_arg2) : FVec Ideal S4096x1024 .f32) (ix2 ⟨t.val * 512 + i.val, hl⟩ k)) j := by
  simp only [du_at, h_at]

/-- After the run the gain's cotangent is the reference's. -/
theorem final_7 (c : Dev nD) : (dats m 0 c).arrAt 7 cfg0.N
    = val_main_v37 (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [outsAt0_A m c t h]; frame_out; exact (step_at (iblk m c 0 t) (iblk m c 1 t) (iblk m c 2 t) _ j).trans (by rw [zero_at]))
    (fun t h j => by rw [outsAt0_B m c t h]; frame_out; exact step_at (iblk m c 0 t) (iblk m c 1 t) (iblk m c 2 t) _ j)
    (le_of_eq N_0) t0_7 rfl j, zero_add, ref_at]
  refine Fin.sum_mul_add_congr fun t i hl => ?_
  exact row_at m c t i (j 1) hl

end Cert.MixNormBwdIdeal.Value

/-- The kernel's three results are the reference's, where the columns' cotangents, `w_in`, `h` and the gain are real. -/
theorem Cert.Proof.mix_norm_bwd : Cert.algebraic_MixNormBwdIdeal_MixNormBwdRefIdeal_pre_mix_norm_bwd_finite := by
  pair_intro
  · run_from Cert.MixNormBwdIdeal.Value.run_blocks m g
  · refine Idealize.ShloMosaic.θ_run_mono (Cert.MixNormBwdRefIdeal.Value.run m' g') ?_
    intro r hr c
    obtain ⟨e54, e57, e37, hargs⟩ := hr c
    obtain ⟨a0, a1, a2, a3, a4⟩ := hagree c
    rw [Cert.MixNormBwdRefIdeal.Read.val_main_v54_eq] at e54
    rw [Cert.MixNormBwdRefIdeal.Read.val_main_v57_eq] at e57
    rw [a0, a1, a2, a3, a4] at hargs
    rw [e54, e57, e37, a0, a1, a2, a3, a4]
    exact ⟨(Cert.MixNormBwdIdeal.Value.final_5 m hpre c).symm, (Cert.MixNormBwdIdeal.Value.final_6 m hpre c).symm,
      (Cert.MixNormBwdIdeal.Value.final_7 m c).symm, hargs⟩
-- ==== Proof.DwMix.lean ====
/- The gradient of the mixing half's input weights: `dprojᵀ · u`. The grid runs over seventeen row blocks; the whole
   contraction is done at each point. -/
module

public import proofs.«01_k».proof.Defs
public import proofs.«01_k».proof.Proof.Gen.DwMixIdeal.Value
public import proofs.«01_k».proof.Proof.Gen.DwMixRefIdeal.Run
public import proofs.«01_k».proof.Proof.Gen.DwMixRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwMixIdeal.Value

open Cert.DwMixIdeal Cert.DwMixIdeal.Gen
open Cert.DwMixRefIdeal.Read

variable (m : (ℓ : Loc nD τ sig) → Buf (Elt Ideal) ℓ)

/-- Which block each window holds at point `t`: the row block is `t`. -/
theorem idx : ∀ t : Fin cfg0.N, win0_0.index t = ![0, t.val] ∧ win0_1.index t = ![0, 0]
    ∧ win0_2.index t = ![t.val, 0] :=
  (by decide +kernel : ∀ t : Fin grid0.N, _)

/-- The block of the gradient that point `t` computes is the reference's, at the block's place. -/
theorem point (c : Dev nD) (t : Fin cfg0.N) (y) :
    k0_pay1 (F := Ideal) (iblk m c 0 t) (iblk m c 1 t) y
      = val_main_v6 (m ((c : Thread nD τ).loc main_arg0)) (m ((c : Thread nD τ).loc main_arg1))
          (((cfg0.win 2).blk t).view.emb y) := by
  pointwise [k0_pay1, val_main_v6, val_main_v5, val_main_v4, val_main_v3, val_main_v2]
  blk_point [iblk, V, idx t]

/-- After the run the result is the reference's gradient. -/
theorem final (c : Dev nD) : (dats m 0 c).arrAt 2 cfg0.N
    = val_main_v6 (m ((c : Thread nD τ).loc main_arg0)) (m ((c : Thread nD τ).loc main_arg1)) := by
  refine (dats m 0 c).arrAt_eq_of_covers 2 _ (by decide +kernel) fun t _ y => ?_
  blk_simp
  rw [after0_2]; unfold Gen.outsAt0; frame_out
  exact point m c t y

end Cert.DwMixIdeal.Value

/-- The kernel's gradient of the input weights is the reference's. -/
theorem Cert.Proof.dw_mix : Cert.algebraic_DwMixIdeal_DwMixRefIdeal := by
  pair_intro
  · run_from Cert.DwMixIdeal.Value.run_blocks m g
  · run_from Cert.DwMixRefIdeal.Value.run m' g'
    exact (Cert.DwMixIdeal.Value.final m c).symm
-- ==== Proof.DwSquare.lean ====
/- The gradient of a square weight, the embedding's gate or the latent attention's branch: `xᵀ · dy`. The grid runs over
   two row blocks; the whole contraction is done at each point. -/
module

public import proofs.«01_k».proof.Defs
public import proofs.«01_k».proof.Proof.Gen.DwSquareIdeal.Value
public import proofs.«01_k».proof.Proof.Gen.DwSquareRefIdeal.Run
public import proofs.«01_k».proof.Proof.Gen.DwSquareRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwSquareIdeal.Value

open Cert.DwSquareIdeal Cert.DwSquareIdeal.Gen
open Cert.DwSquareRefIdeal.Read

variable (m : (ℓ : Loc nD τ sig) → Buf (Elt Ideal) ℓ)

/-- Which block each window holds at point `t`: the row block is `t`. -/
theorem idx : ∀ t : Fin cfg0.N, win0_0.index t = ![0, t.val] ∧ win0_1.index t = ![0, 0]
    ∧ win0_2.index t = ![t.val, 0] :=
  (by decide +kernel : ∀ t : Fin grid0.N, _)

/-- The block of the gradient that point `t` computes is the reference's, at the block's place. -/
theorem point (c : Dev nD) (t : Fin cfg0.N) (y) :
    k0_pay1 (F := Ideal) (iblk m c 0 t) (iblk m c 1 t) y
      = val_main_v4 (m ((c : Thread nD τ).loc main_arg0)) (m ((c : Thread nD τ).loc main_arg1))
          (((cfg0.win 2).blk t).view.emb y) := by
  pointwise [k0_pay1, val_main_v4, val_main_v3, val_main_v2]
  refine Fin.sum_fin_congr fun k => (mul_comm _ _).trans ?_
  blk_point [iblk, V, idx t]

/-- After the run the result is the reference's gradient. -/
theorem final (c : Dev nD) : (dats m 0 c).arrAt 2 cfg0.N
    = val_main_v4 (m ((c : Thread nD τ).loc main_arg0)) (m ((c : Thread nD τ).loc main_arg1)) := by
  refine (dats m 0 c).arrAt_eq_of_covers 2 _ (by decide +kernel) fun t _ y => ?_
  blk_simp
  rw [after0_2]; unfold Gen.outsAt0; frame_out
  exact point m c t y

end Cert.DwSquareIdeal.Value

/-- The kernel's gradient of a square weight is the reference's. -/
theorem Cert.Proof.dw_square : Cert.algebraic_DwSquareIdeal_DwSquareRefIdeal := by
  pair_intro
  · run_from Cert.DwSquareIdeal.Value.run_blocks m g
  · run_from Cert.DwSquareRefIdeal.Value.run m' g'
    exact (Cert.DwSquareIdeal.Value.final m c).symm
-- ==== Proof.DwBranch.lean ====
/- The gradient of the stick-breaking attention's branch weight: `oᵀ · dy`. The two points of the grid each take half of
   the tokens; a scratch array holds the sum so far, and the second point stores it as the result. -/
module

public import proofs.«01_k».proof.Defs
public import proofs.«01_k».proof.Proof.Gen.DwBranchIdeal.Value
public import proofs.«01_k».proof.Proof.Gen.DwBranchRefIdeal.Run
public import proofs.«01_k».proof.Proof.Gen.DwBranchRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwBranchIdeal.Value

open Cert.DwBranchIdeal Cert.DwBranchIdeal.Gen
open Cert.DwBranchRefIdeal.Read

variable (m : (ℓ : Loc nD τ sig) → Buf (Elt Ideal) ℓ)

/-- Which block each window holds at point `t`: the half of the tokens is `t`, and the result is whole. -/
theorem idx : ∀ t : Fin cfg0.N, win0_0.index t = ![t.val, 0] ∧ win0_1.index t = ![t.val, 0]
    ∧ win0_2.index t = ![0, 0] :=
  (by decide +kernel : ∀ t : Fin grid0.N, _)

/-- What a half of the tokens adds to an entry. -/
theorem part_at (x y) (j : S512x1024.Idx) : k0_pay1 (F := Ideal) x y j
    = ∑ k : Fin 2048, x (ix2 k (j 0)) * y (ix2 k (j 1)) := by
  pointwise [k0_pay1]

/-- The reference's entry is the same sum over all tokens. -/
theorem ref_at (x y) (j : S512x1024.Idx) : val_main_v4 (F := Ideal) x y j
    = ∑ l : Fin 4096, x (ix2 l (j 0)) * y (ix2 l (j 1)) := by
  pointwise [val_main_v4, val_main_v3, val_main_v2]
  exact Finset.sum_congr rfl fun _ _ => mul_comm _ _

/-- What the first point leaves in the scratch array. -/
theorem start_at (x y) (j : S512x1024.Idx) : k0_pay2 (F := Ideal) x y j = 0 + k0_pay1 (F := Ideal) x y j := by
  pointwise [k0_pay2, zero_add]

/-- What the second point adds to the scratch array. -/
theorem step_at (x y acc) (j : S512x1024.Idx) : k0_pay3 (F := Ideal) x y acc j
    = acc j + k0_pay1 (F := Ideal) x y j := by
  pointwise [k0_pay3]

/-- The result is the scratch array cast, which changes nothing here. -/
theorem cast_at (acc) (j : S512x1024.Idx) : k0_pay4 (F := Ideal) acc j = acc j := by
  pointwise [k0_pay4]

/-- What the second point stores as the result is the scratch array. -/
theorem stored (c : Dev nD) (j) : (outsAt0 m c t0_1.val t0_1.isLt).1 j = (outsAt0 m c t0_1.val t0_1.isLt).2 j := by
  rw [outsAt0_B m c t0_1 (by decide) (by decide) (by decide)]; frame_out
  exact cast_at _ j

/-- After the run the result is the reference's gradient. -/
theorem final (c : Dev nD) : (dats m 0 c).arrAt 2 cfg0.N
    = val_main_v4 (m ((c : Thread nD τ).loc main_arg0)) (m ((c : Thread nD τ).loc main_arg1)) := by
  refine (dats m 0 c).arrAt_eq_of_after_last 2 t0_1 (by decide +kernel) _ fun j => ?_
  blk_simp
  rw [after0_2, stored, Pipeline.eq_sum_fin_of_reset_step_apply_last (fun n h => (outsAt0 m c n h).2) 2 (fun _ => 0) _
    (fun t h j => by rw [outsAt0_A m c t h (by omega) (by omega)]; frame_out; exact start_at _ _ j)
    (fun t h j => by
      rw [outsAt0_B m c t h (by omega) (by omega)]; frame_out
      exact (congrFun (congrArg (k0_pay3 _ _) ((Memref.isWhole_whole cc0_scratch0).read_unread _)) j).trans (step_at _ _ _ j))
    (le_of_eq N_0) t0_1 rfl j, zero_add, ref_at]
  simp only [part_at]
  refine Fin.sum_mul_add_congr fun t i hl => ?_
  blk_point [iblk, V, idx t]

end Cert.DwBranchIdeal.Value

/-- The kernel's gradient of the branch weight is the reference's. -/
theorem Cert.Proof.dw_branch : Cert.algebraic_DwBranchIdeal_DwBranchRefIdeal := by
  pair_intro
  · run_from Cert.DwBranchIdeal.Value.run_blocks m g
  · run_from Cert.DwBranchRefIdeal.Value.run m' g'
    exact (Cert.DwBranchIdeal.Value.final m c).symm
-- ==== Proof.DwProj.lean ====
/- The gradient of the embedding's projection weight: `pᵀ · dy`. The two points of the grid each take half of
   the tokens; a scratch array holds the sum so far, and the second point stores it as the result. -/
module

public import proofs.«01_k».proof.Defs
public import proofs.«01_k».proof.Proof.Gen.DwProjIdeal.Value
public import proofs.«01_k».proof.Proof.Gen.DwProjRefIdeal.Run
public import proofs.«01_k».proof.Proof.Gen.DwProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwProjIdeal.Value

open Cert.DwProjIdeal Cert.DwProjIdeal.Gen
open Cert.DwProjRefIdeal.Read

variable (m : (ℓ : Loc nD τ sig) → Buf (Elt Ideal) ℓ)

/-- Which block each window holds at point `t`: the half of the tokens is `t`, and the result is whole. -/
theorem idx : ∀ t : Fin cfg0.N, win0_0.index t = ![t.val, 0] ∧ win0_1.index t = ![t.val, 0]
    ∧ win0_2.index t = ![0, 0] :=
  (by decide +kernel : ∀ t : Fin grid0.N, _)

/-- What a half of the tokens adds to an entry. -/
theorem part_at (x y) (j : S256x1024.Idx) : k0_pay1 (F := Ideal) x y j
    = ∑ k : Fin 2048, x (ix2 k (j 0)) * y (ix2 k (j 1)) := by
  pointwise [k0_pay1]

/-- The reference's entry is the same sum over all tokens. -/
theorem ref_at (x y) (j : S256x1024.Idx) : val_main_v4 (F := Ideal) x y j
    = ∑ l : Fin 4096, x (ix2 l (j 0)) * y (ix2 l (j 1)) := by
  pointwise [val_main_v4, val_main_v3, val_main_v2]
  exact Finset.sum_congr rfl fun _ _ => mul_comm _ _

/-- What the first point leaves in the scratch array. -/
theorem start_at (x y) (j : S256x1024.Idx) : k0_pay2 (F := Ideal) x y j = 0 + k0_pay1 (F := Ideal) x y j := by
  pointwise [k0_pay2, zero_add]

/-- What the second point adds to the scratch array. -/
theorem step_at (x y acc) (j : S256x1024.Idx) : k0_pay3 (F := Ideal) x y acc j
    = acc j + k0_pay1 (F := Ideal) x y j := by
  pointwise [k0_pay3]

/-- The result is the scratch array cast, which changes nothing here. -/
theorem cast_at (acc) (j : S256x1024.Idx) : k0_pay4 (F := Ideal) acc j = acc j := by
  pointwise [k0_pay4]

/-- What the second point stores as the result is the scratch array. -/
theorem stored (c : Dev nD) (j) : (outsAt0 m c t0_1.val t0_1.isLt).1 j = (outsAt0 m c t0_1.val t0_1.isLt).2 j := by
  rw [outsAt0_B m c t0_1 (by decide) (by decide) (by decide)]; frame_out
  exact cast_at _ j

/-- After the run the result is the reference's gradient. -/
theorem final (c : Dev nD) : (dats m 0 c).arrAt 2 cfg0.N
    = val_main_v4 (m ((c : Thread nD τ).loc main_arg0)) (m ((c : Thread nD τ).loc main_arg1)) := by
  refine (dats m 0 c).arrAt_eq_of_after_last 2 t0_1 (by decide +kernel) _ fun j => ?_
  blk_simp
  rw [after0_2, stored, Pipeline.eq_sum_fin_of_reset_step_apply_last (fun n h => (outsAt0 m c n h).2) 2 (fun _ => 0) _
    (fun t h j => by rw [outsAt0_A m c t h (by omega) (by omega)]; frame_out; exact start_at _ _ j)
    (fun t h j => by
      rw [outsAt0_B m c t h (by omega) (by omega)]; frame_out
      exact (congrFun (congrArg (k0_pay3 _ _) ((Memref.isWhole_whole cc0_scratch0).read_unread _)) j).trans (step_at _ _ _ j))
    (le_of_eq N_0) t0_1 rfl j, zero_add, ref_at]
  simp only [part_at]
  refine Fin.sum_mul_add_congr fun t i hl => ?_
  blk_point [iblk, V, idx t]

end Cert.DwProjIdeal.Value

/-- The kernel's gradient of the projection weight is the reference's. -/
theorem Cert.Proof.dw_proj : Cert.algebraic_DwProjIdeal_DwProjRefIdeal := by
  pair_intro
  · run_from Cert.DwProjIdeal.Value.run_blocks m g
  · run_from Cert.DwProjRefIdeal.Value.run m' g'
    exact (Cert.DwProjIdeal.Value.final m c).symm
-- ==== Proof.Adam.lean ====
/- AdamW's step of one element, over the extended reals, with the optimizer's constants as the words the programs have. The
   kernels compute it element by element in blocks and the references element by element in whole arrays, so that both
   are these functions of the four elements. -/
module

public import Idealize.ShloMosaic.PureOps.Ideal

@[expose] public section

noncomputable section

open Idealize.ShloMosaic

namespace Cert.Adam

/-- The first moment from the gradient and the moment before. -/
def first (g m : EReal) : EReal := Ideal.ofBits .f32 0x3F666666#32 * m + Ideal.ofBits .f32 0x3DCCCCCD#32 * g

/-- The second moment from the gradient and the moment before. -/
def second (g v : EReal) : EReal := Ideal.ofBits .f32 0x3F7FBE77#32 * v + Ideal.ofBits .f32 0x3A83126F#32 * (g * g)

/-- The change of the weight: the moments without their bias, their quotient, and the decay of the weight. -/
def change (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- Equal elements have equal changes. -/
theorem change_congr {w w' g g' m m' v v' : EReal} (hw : w = w') (hg : g = g') (hm : m = m') (hv : v = v') :
    change w g m v = change w' g' m' v' := by
  subst hw hg hm hv
  rfl

end Cert.Adam
-- ==== Proof.AdamGains.lean ====
/- AdamW's step of the eight gains, packed as rows. The grid runs over one point. -/
module

public import proofs.«01_k».proof.Defs
public import proofs.«01_k».proof.Proof.Adam
public import proofs.«01_k».proof.Proof.Gen.AdamGainsIdeal.Value
public import proofs.«01_k».proof.Proof.Gen.AdamGainsRefIdeal.Run
public import proofs.«01_k».proof.Proof.Gen.AdamGainsRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamGainsIdeal.Value

open Cert.AdamGainsIdeal Cert.AdamGainsIdeal.Gen
open Cert.AdamGainsRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (val_main_v0 (m ((c : Thread nD τ).loc main_arg1))) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  rw [val_main_v0_apply]; refine ⟨?_, ?_, ?_, ?_⟩ <;> blk_point [iblk, V, idx t]

/-- After the run the four results are the reference's: the gradient, the change of the weights and the two moments. -/
theorem final (c : Dev nD) :
    (dats m 0 c).arrAt 4 cfg0.N = val_main_v0 (m ((c : Thread nD τ).loc main_arg1))
    ∧ (dats m 0 c).arrAt 5 cfg0.N = val_main_v24 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v5 (m ((c : Thread nD τ).loc main_arg1)) (m ((c : Thread nD τ).loc main_arg2))
    ∧ (dats m 0 c).arrAt 7 cfg0.N = val_main_v11 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamGainsIdeal.Value

/-- The kernel's gradient, change of the weights and two moments are the reference's. -/
theorem Cert.Proof.adam_gains : Cert.algebraic_AdamGainsIdeal_AdamGainsRefIdeal := by
  pair_intro
  · run_from Cert.AdamGainsIdeal.Value.run_blocks m g
  · run_from Cert.AdamGainsRefIdeal.Value.run m' g'
    all_goals obtain ⟨h4, h5, h6, h7⟩ := Cert.AdamGainsIdeal.Value.final m c
    · exact h4.symm
    · exact h5.symm
    · exact h6.symm
    · exact h7.symm
-- ==== Proof.AdamFfnIn.lean ====
/- AdamW's step of one shard of a feed-forward half-step's input weights. The grid runs over four blocks of 256
   rows. -/
module

public import proofs.«01_k».proof.Defs
public import proofs.«01_k».proof.Proof.Adam
public import proofs.«01_k».proof.Proof.Gen.AdamFfnInIdeal.Value
public import proofs.«01_k».proof.Proof.Gen.AdamFfnInRefIdeal.Run
public import proofs.«01_k».proof.Proof.Gen.AdamFfnInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamFfnInIdeal.Value

open Cert.AdamFfnInIdeal Cert.AdamFfnInIdeal.Gen
open Cert.AdamFfnInRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (m ((c : Thread nD τ).loc main_arg1)) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  refine ⟨?_, ?_, ?_, ?_⟩ <;> blk_point [iblk, V, idx t]

/-- After the run the four results are the reference's: the gradient, the change of the weights and the two moments. -/
theorem final (c : Dev nD) :
    (dats m 0 c).arrAt 4 cfg0.N = m ((c : Thread nD τ).loc main_arg1)
    ∧ (dats m 0 c).arrAt 5 cfg0.N = val_main_v23 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v4 (m ((c : Thread nD τ).loc main_arg1)) (m ((c : Thread nD τ).loc main_arg2))
    ∧ (dats m 0 c).arrAt 7 cfg0.N = val_main_v10 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamFfnInIdeal.Value

/-- The kernel's gradient, change of the weights and two moments are the reference's. -/
theorem Cert.Proof.adam_ffn_in : Cert.algebraic_AdamFfnInIdeal_AdamFfnInRefIdeal := by
  pair_intro
  · run_from Cert.AdamFfnInIdeal.Value.run_blocks m g
  · run_from Cert.AdamFfnInRefIdeal.Value.run m' g'
    all_goals obtain ⟨h4, h5, h6, h7⟩ := Cert.AdamFfnInIdeal.Value.final m c
    · exact h4.symm
    · exact h5.symm
    · exact h6.symm
    · exact h7.symm
-- ==== Proof.AdamFfnOut.lean ====
/- AdamW's step of one shard of a feed-forward half-step's output weights, whose summed gradient is at the top of a longer array. Each element stands alone; the grid runs
   over four blocks of 176 rows. -/
module

public import proofs.«01_k».proof.Defs
public import proofs.«01_k».proof.Proof.Gen.AdamFfnOutIdeal.Value
public import proofs.«01_k».proof.Proof.Gen.AdamFfnOutRefIdeal.Run
public import proofs.«01_k».proof.Proof.Gen.AdamFfnOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamFfnOutIdeal.Value

open Cert.AdamFfnOutIdeal Cert.AdamFfnOutIdeal.Gen
open Cert.AdamFfnOutRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The gradient's array has rows after the last block, but no point's block is cut: the block holds the rows of its
    point. -/
theorem grad_at (c : Dev nD) (t : Fin cfg0.N) (y : S176x1024.Idx) : (X0_1 m c t : FVec Ideal S176x1024 .f32) y
    = (m ((c : Thread nD τ).loc main_arg1) : FVec Ideal S1216x1024 .f32)
        (ix2 ⟨t.val * 176 + (y 0).val, by have := lt_of_lt_of_eq t.isLt N_0; have : (y 0).val < 176 := (y 0).isLt; omega⟩ (y 1)) := by
  unfold X0_1 Pipeline.Window.fill
  rw [dif_pos (moved0_1 t y)]
  blk_point [iblk, V, idx t]

/-- The block of the gradient that point `t` stores is the reference's, at the block's place. -/
theorem point_grad (c : Dev nD) (t : Fin cfg0.N) (y : S176x1024.Idx) :
    (X0_1 m c t) y
      = val_main_v0 (m ((c : Thread nD τ).loc main_arg1)) (((cfg0.win 4).blk t).view.emb y) := by
  pointwise [val_main_v0]
  rw [grad_at]
  blk_point [iblk, V, idx t]

/-- The block of the change of the weights that point `t` stores is the reference's, at the block's place. -/
theorem point_delta (c : Dev nD) (t : Fin cfg0.N) (y : S176x1024.Idx) :
    k0_pay3 (F := Ideal) (X0_1 m c t) (iblk m c 2 t) (iblk m c 3 t) (iblk m c 0 t) y
      = val_main_v24 (m ((c : Thread nD τ).loc main_arg0)) (m ((c : Thread nD τ).loc main_arg1)) (m ((c : Thread nD τ).loc main_arg2)) (m ((c : Thread nD τ).loc main_arg3))
          (((cfg0.win 5).blk t).view.emb y) := by
  pointwise [k0_pay3, k0_pay2, k0_pay1, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_cst, val_main_cst_0, val_main_cst_1,
    val_main_cst_2, val_main_cst_3, val_main_cst_4, val_main_cst_5, val_main_cst_6, val_main_cst_7]
  rw [grad_at]
  blk_point [iblk, V, idx t]

/-- The block of the first moment that point `t` stores is the reference's, at the block's place. -/
theorem point_m (c : Dev nD) (t : Fin cfg0.N) (y : S176x1024.Idx) :
    k0_pay1 (F := Ideal) (X0_1 m c t) (iblk m c 2 t) y
      = val_main_v5 (m ((c : Thread nD τ).loc main_arg1)) (m ((c : Thread nD τ).loc main_arg2))
          (((cfg0.win 6).blk t).view.emb y) := by
  pointwise [k0_pay1, val_main_v5, val_main_v4, val_main_v3, val_main_v2, val_main_v1, val_main_v0, val_main_cst,
    val_main_cst_0]
  rw [grad_at]
  blk_point [iblk, V, idx t]

/-- The block of the second moment that point `t` stores is the reference's, at the block's place. -/
theorem point_v (c : Dev nD) (t : Fin cfg0.N) (y : S176x1024.Idx) :
    k0_pay2 (F := Ideal) (X0_1 m c t) (iblk m c 3 t) y
      = val_main_v11 (m ((c : Thread nD τ).loc main_arg1)) (m ((c : Thread nD τ).loc main_arg3))
          (((cfg0.win 7).blk t).view.emb y) := by
  pointwise [k0_pay2, val_main_v11, val_main_v10, val_main_v9, val_main_v8, val_main_v7, val_main_v6, val_main_v0,
    val_main_cst_1, val_main_cst_2]
  rw [grad_at]
  blk_point [iblk, V, idx t]

/-- After the run the gradient is the reference's. -/
theorem final_grad (c : Dev nD) : (dats m 0 c).arrAt 4 cfg0.N
    = val_main_v0 (m ((c : Thread nD τ).loc main_arg1)) := by
  refine (dats m 0 c).arrAt_eq_of_covers 4 _ (by decide +kernel) fun t _ y => ?_
  blk_simp
  rw [after0_4]; unfold Gen.outsAt0; frame_out
  exact point_grad m c t y

/-- After the run the change of the weights is the reference's. -/
theorem final_delta (c : Dev nD) : (dats m 0 c).arrAt 5 cfg0.N
    = val_main_v24 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold Gen.outsAt0; frame_out
  exact point_delta m c t y

/-- After the run the first moment is the reference's. -/
theorem final_m (c : Dev nD) : (dats m 0 c).arrAt 6 cfg0.N
    = val_main_v5 (m ((c : Thread nD τ).loc main_arg1)) (m ((c : Thread nD τ).loc main_arg2)) := by
  refine (dats m 0 c).arrAt_eq_of_covers 6 _ (by decide +kernel) fun t _ y => ?_
  blk_simp
  rw [after0_6]; unfold Gen.outsAt0; frame_out
  exact point_m m c t y

/-- After the run the second moment is the reference's. -/
theorem final_v (c : Dev nD) : (dats m 0 c).arrAt 7 cfg0.N
    = val_main_v11 (m ((c : Thread nD τ).loc main_arg1)) (m ((c : Thread nD τ).loc main_arg3)) := by
  refine (dats m 0 c).arrAt_eq_of_covers 7 _ (by decide +kernel) fun t _ y => ?_
  blk_simp
  rw [after0_7]; unfold Gen.outsAt0; frame_out
  exact point_v m c t y

end Cert.AdamFfnOutIdeal.Value

/-- The kernel's gradient, change of the weights and two moments are the reference's. -/
theorem Cert.Proof.adam_ffn_out : Cert.algebraic_AdamFfnOutIdeal_AdamFfnOutRefIdeal := by
  pair_intro
  · run_from Cert.AdamFfnOutIdeal.Value.run_blocks m g
  · run_from Cert.AdamFfnOutRefIdeal.Value.run m' g'
    · exact (Cert.AdamFfnOutIdeal.Value.final_grad m c).symm
    · exact (Cert.AdamFfnOutIdeal.Value.final_delta m c).symm
    · exact (Cert.AdamFfnOutIdeal.Value.final_m m c).symm
    · exact (Cert.AdamFfnOutIdeal.Value.final_v m c).symm
-- ==== Proof.AdamMixIn.lean ====
/- AdamW's step of one shard of the mixers' input weights, transposed. Each element stands alone; the grid runs
   over seven blocks of 152 rows. -/
module

public import proofs.«01_k».proof.Defs
public import proofs.«01_k».proof.Proof.Gen.AdamMixInIdeal.Value
public import proofs.«01_k».proof.Proof.Gen.AdamMixInRefIdeal.Run
public import proofs.«01_k».proof.Proof.Gen.AdamMixInRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamMixInIdeal.Value

open Cert.AdamMixInIdeal Cert.AdamMixInIdeal.Gen
open Cert.AdamMixInRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The gradient's array has rows after the last block, but no point's block is cut: the block holds the rows of its
    point. -/
theorem grad_at (c : Dev nD) (t : Fin cfg0.N) (y : S152x1024.Idx) : (X0_1 m c t : FVec Ideal S152x1024 .f32) y
    = (m ((c : Thread nD τ).loc main_arg1) : FVec Ideal S1088x1024 .f32)
        (ix2 ⟨t.val * 152 + (y 0).val, by have := lt_of_lt_of_eq t.isLt N_0; have : (y 0).val < 152 := (y 0).isLt; omega⟩ (y 1)) := by
  unfold X0_1 Pipeline.Window.fill
  rw [dif_pos (moved0_1 t y)]
  blk_point [iblk, V, idx t]

/-- The block of the gradient that point `t` stores is the reference's, at the block's place. -/
theorem point_grad (c : Dev nD) (t : Fin cfg0.N) (y : S152x1024.Idx) :
    (X0_1 m c t) y
      = val_main_v26 (m ((c : Thread nD τ).loc main_arg1)) (((cfg0.win 4).blk t).view.emb y) := by
  pointwise [val_main_v26, val_main_v1, val_main_v0]
  rw [grad_at]
  blk_point [iblk, V, idx t]

/-- The block of the change of the weights that point `t` stores is the reference's, at the block's place. -/
theorem point_delta (c : Dev nD) (t : Fin cfg0.N) (y : S152x1024.Idx) :
    k0_pay3 (F := Ideal) (X0_1 m c t) (iblk m c 2 t) (iblk m c 3 t) (iblk m c 0 t) y
      = val_main_v27 (m ((c : Thread nD τ).loc main_arg0)) (m ((c : Thread nD τ).loc main_arg1)) (m ((c : Thread nD τ).loc main_arg2)) (m ((c : Thread nD τ).loc main_arg3))
          (((cfg0.win 5).blk t).view.emb y) := by
  pointwise [k0_pay3, k0_pay2, k0_pay1, val_main_v27, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2, val_main_cst_3, val_main_cst_4, val_main_cst_5, val_main_cst_6, val_main_cst_7]
  rw [grad_at]
  blk_point [iblk, V, idx t]

/-- The block of the first moment that point `t` stores is the reference's, at the block's place. -/
theorem point_m (c : Dev nD) (t : Fin cfg0.N) (y : S152x1024.Idx) :
    k0_pay1 (F := Ideal) (X0_1 m c t) (iblk m c 2 t) y
      = val_main_v28 (m ((c : Thread nD τ).loc main_arg1)) (m ((c : Thread nD τ).loc main_arg2))
          (((cfg0.win 6).blk t).view.emb y) := by
  pointwise [k0_pay1, val_main_v28, val_main_v6, val_main_v5, val_main_v4, val_main_v3, val_main_v2, val_main_v1,
    val_main_v0, val_main_cst, val_main_cst_0]
  rw [grad_at]
  blk_point [iblk, V, idx t]

/-- The block of the second moment that point `t` stores is the reference's, at the block's place. -/
theorem point_v (c : Dev nD) (t : Fin cfg0.N) (y : S152x1024.Idx) :
    k0_pay2 (F := Ideal) (X0_1 m c t) (iblk m c 3 t) y
      = val_main_v29 (m ((c : Thread nD τ).loc main_arg1)) (m ((c : Thread nD τ).loc main_arg3))
          (((cfg0.win 7).blk t).view.emb y) := by
  pointwise [k0_pay2, val_main_v29, val_main_v12, val_main_v11, val_main_v10, val_main_v9, val_main_v8,
    val_main_v7, val_main_v1, val_main_v0, val_main_cst_1, val_main_cst_2]
  rw [grad_at]
  blk_point [iblk, V, idx t]

/-- After the run the gradient is the reference's. -/
theorem final_grad (c : Dev nD) : (dats m 0 c).arrAt 4 cfg0.N
    = val_main_v26 (m ((c : Thread nD τ).loc main_arg1)) := by
  refine (dats m 0 c).arrAt_eq_of_covers 4 _ (by decide +kernel) fun t _ y => ?_
  blk_simp
  rw [after0_4]; unfold Gen.outsAt0; frame_out
  exact point_grad m c t y

/-- After the run the change of the weights is the reference's. -/
theorem final_delta (c : Dev nD) : (dats m 0 c).arrAt 5 cfg0.N
    = val_main_v27 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold Gen.outsAt0; frame_out
  exact point_delta m c t y

/-- After the run the first moment is the reference's. -/
theorem final_m (c : Dev nD) : (dats m 0 c).arrAt 6 cfg0.N
    = val_main_v28 (m ((c : Thread nD τ).loc main_arg1)) (m ((c : Thread nD τ).loc main_arg2)) := by
  refine (dats m 0 c).arrAt_eq_of_covers 6 _ (by decide +kernel) fun t _ y => ?_
  blk_simp
  rw [after0_6]; unfold Gen.outsAt0; frame_out
  exact point_m m c t y

/-- After the run the second moment is the reference's. -/
theorem final_v (c : Dev nD) : (dats m 0 c).arrAt 7 cfg0.N
    = val_main_v29 (m ((c : Thread nD τ).loc main_arg1)) (m ((c : Thread nD τ).loc main_arg3)) := by
  refine (dats m 0 c).arrAt_eq_of_covers 7 _ (by decide +kernel) fun t _ y => ?_
  blk_simp
  rw [after0_7]; unfold Gen.outsAt0; frame_out
  exact point_v m c t y

end Cert.AdamMixInIdeal.Value

/-- The kernel's gradient, change of the weights and two moments are the reference's. -/
theorem Cert.Proof.adam_mix_in : Cert.algebraic_AdamMixInIdeal_AdamMixInRefIdeal := by
  pair_intro
  · run_from Cert.AdamMixInIdeal.Value.run_blocks m g
  · run_from Cert.AdamMixInRefIdeal.Value.run m' g'
    · exact (Cert.AdamMixInIdeal.Value.final_grad m c).symm
    · exact (Cert.AdamMixInIdeal.Value.final_delta m c).symm
    · exact (Cert.AdamMixInIdeal.Value.final_m m c).symm
    · exact (Cert.AdamMixInIdeal.Value.final_v m c).symm
-- ==== Proof.AdamOut.lean ====
/- AdamW's step of one shard of the merge's output weights, whose summed gradient begins at row 704 of a longer
   array. The grid runs over four blocks of 64 rows. -/
module

public import proofs.«01_k».proof.Defs
public import proofs.«01_k».proof.Proof.Adam
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutIdeal.Value

open Cert.AdamOutIdeal Cert.AdamOutIdeal.Gen
open Cert.AdamOutRefIdeal.Read

variable (m : (ℓ : Loc nD τ sig) → Buf (Elt Ideal) ℓ)

/-- Which block each window holds at point `t`. -/
theorem idx : ∀ t : Fin cfg0.N, win0_0.index t = ![t.val, 0] ∧ win0_1.index t = ![11 + t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (val_main_v0 (m ((c : Thread nD τ).loc main_arg1))) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  rw [val_main_v0_apply]; refine ⟨?_, ?_, ?_, ?_⟩ <;> blk_point [iblk, V, idx t]

/-- After the run the four results are the reference's: the gradient, the change of the weights and the two moments. -/
theorem final (c : Dev nD) :
    (dats m 0 c).arrAt 4 cfg0.N = val_main_v0 (m ((c : Thread nD τ).loc main_arg1))
    ∧ (dats m 0 c).arrAt 5 cfg0.N = val_main_v24 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v5 (m ((c : Thread nD τ).loc main_arg1)) (m ((c : Thread nD τ).loc main_arg2))
    ∧ (dats m 0 c).arrAt 7 cfg0.N = val_main_v11 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamOutIdeal.Value

/-- The kernel's gradient, change of the weights and two moments are the reference's. -/
theorem Cert.Proof.adam_out : Cert.algebraic_AdamOutIdeal_AdamOutRefIdeal := by
  pair_intro
  · run_from Cert.AdamOutIdeal.Value.run_blocks m g
  · run_from Cert.AdamOutRefIdeal.Value.run m' g'
    all_goals obtain ⟨h4, h5, h6, h7⟩ := Cert.AdamOutIdeal.Value.final m c
    · exact h4.symm
    · exact h5.symm
    · exact h6.symm
    · exact h7.symm
-- ==== Proof.Norm.lean ====
/- The call that norms the rows of the input: `u = rms_norm h * g`. The grid runs over row blocks; whole rows are at hand
   at each point, so the norm's mean is taken inside the block. -/
module

public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen
open Cert.NormRefIdeal.Read

variable (m : (ℓ : Loc nD τ sig) → Buf (Elt Ideal) ℓ)

/-- Which block each window holds at point `t`: the row block is `t`, the gain is whole. -/
theorem idx : ∀ t : Fin cfg0.N, win0_0.index t = ![t.val, 0] ∧ win0_1.index t = ![0, 0] ∧ win0_2.index t = ![t.val, 0] :=
  (by decide +kernel : ∀ t : Fin grid0.N, _)

/-- The normed rows that point `t` computes are the reference's, at the block's place. -/
theorem point (c : Dev nD) (t : Fin cfg0.N) (y) :
    k0_pay1 (F := Ideal) (iblk m c 0 t) (iblk m c 1 t) y
      = val_main_v12 (m ((c : Thread nD τ).loc main_arg0)) (m ((c : Thread nD τ).loc main_arg1))
          (((cfg0.win 2).blk t).view.emb y) := by
  pointwise [k0_pay1, val_main_v12, val_main_v11, val_main_v10, val_main_v9, val_main_v8, val_main_v7,
    val_main_v6, val_main_v5, val_main_v4, val_main_v3, val_main_v2, val_main_v1, val_main_v0, val_main_cst,
    val_main_cst_0, val_main_cst_1]
  blk_point [iblk, V, idx t]

/-- After the run the result is the reference's. -/
theorem final (c : Dev nD) : (dats m 0 c).arrAt 2 cfg0.N
    = val_main_v12 (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Value

/-- The kernel's normed rows are the reference's. -/
theorem Cert.Proof.norm : Cert.algebraic_NormIdeal_NormRefIdeal := by
  pair_intro
  · run_from Cert.NormIdeal.Value.run_blocks m g
  · run_from Cert.NormRefIdeal.Value.run m' g'
    exact (Cert.NormIdeal.Value.final m c).symm
-- ==== Proof.GainSum.lean ====
/- The call that adds the eight devices' packed gradients of the gains, and the loss taken from its result: the row that
   follows the gains holds the columns' squared errors, and the loss is half their sum over the number of columns. The grid
   has one point, which adds the eight blocks one after another; the host code after it takes the loss. -/
module

public import proofs.«01_k».proof.Defs
public import proofs.«01_k».proof.Proof.Gen.GainSumIdeal.Frame
public import proofs.«01_k».proof.Proof.Gen.GainSumRefIdeal.Run
public import proofs.«01_k».proof.Proof.Gen.GainSumRefIdeal.Read
public import proofs.«01_k».proof.Proof.Norms
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GainSumIdeal.Value

open Cert.GainSumIdeal Cert.GainSumIdeal.Gen
open Cert.GainSumRefIdeal.Read

variable (m : (ℓ : Loc nD τ sig) → Buf (Elt Ideal) ℓ)

/-- At the one point both windows are whole. -/
theorem idx : ∀ t : Fin cfg0.N, win0_0.index t = ![0, t.val, 0] ∧ win0_1.index t = ![t.val, 0] :=
  (by decide +kernel : ∀ t : Fin grid0.N, _)

/-- The sum that the point computes is the reference's, at the block's place. -/
theorem point (c : Dev nD) (t : Fin cfg0.N) (y) :
    out0_1 (F := Ideal) (iblk m c 0 t) y
      = val_main_v0 (m ((c : Thread nD τ).loc main_arg0)) (((cfg0.win 1).blk t).view.emb y) := by
  rw [val_main_v0_apply, Fin.sum_univ_eight]
  frame_out
  pointwise [k0_pay1, val_main_cst]
  blk_point [iblk, V, idx t]

/-- After the region the first result is the reference's. -/
theorem final (c : Dev nD) : (dats m 0 c).arrAt 1 cfg0.N
    = val_main_v0 (m ((c : Thread nD τ).loc main_arg0)) := by
  refine (dats m 0 c).arrAt_eq_of_covers 1 _ (by decide +kernel) fun t _ y => ?_
  blk_simp
  rw [after0_1]
  exact point m c t y

/-- The loss the host takes from the sum over the devices. -/
def loss (z : FVec Ideal S16x1024 .f32) : FVec Ideal S_ .f32 :=
  Host.divf (mulf (constant S_ .f32 0x3F000000#32)
    (Host.reduceAdd (shapeCast _ (extractStridedSlice S1x1024 ![8, 0] z slices_S16x1024_S1x1024_8_0) shapeCasts_S1x1024_S1024)
      (constant S_ .f32 0x00000000#32) reducesTo_S1024_S_d0 h_S_)) (constant S_ .f32 0x44800000#32)

/-- What the host code after the region leaves in the second result: the loss of the first. -/
theorem tail (c : Dev nD) :
    Pipeline.afterTail₀ cfgs (dats m) 0 (V0 m) [hostOps1] c main_v5 = loss ((dats m 0 c).arrAt 1 cfg0.N) := by
  have e : Pipeline.withArrays (cfgs 0).spec c (V0 m c) (fun w => (dats m 0 c).arrAt w (cfgs 0).N)
      (Proc.devRef .tc main_v0) = (dats m 0 c).arrAt 1 cfg0.N :=
    Pipeline.withArrays_arr spec0 launch0.win.arr_inj c (V0 m c) (fun w => (dats m 0 c).arrAt w cfg0.N) 1
  unfold Pipeline.afterTail₀
  generalize (dats m 0 c).arrAt 1 cfg0.N = z at e ⊢
  generalize Pipeline.withArrays (cfgs 0).spec c (V0 m c) (fun w => (dats m 0 c).arrAt w (cfgs 0).N) = A at e ⊢
  simp only [List.flatten_cons, List.flatten_nil, List.append_nil]
  subst e
  after_results
  rfl

/-- The loss the reference takes from the same sum: it divides before it halves. -/
theorem loss_eq (x) : loss (val_main_v0 x) = val_main_v5 (F := Ideal) x := by
  funext i
  show Ideal.div (Ideal.ofBits .f32 0x3F000000#32 * val_main_v3 (F := Ideal) x i) (Ideal.ofBits .f32 0x44800000#32)
    = Ideal.ofBits .f32 0x3F000000#32 * Ideal.div (val_main_v3 (F := Ideal) x i) (Ideal.ofBits .f32 0x44800000#32)
  rw [Cert.Norms.word_width, Ideal.div_coe (by norm_num), Ideal.div_coe (by norm_num), mul_assoc]

/-- The run leaves the two results at the reference's values. -/
theorem run (g : Dev nD → PrngReg) :
    θ_run defs (onTc (τ := τ) (main (F := Ideal))) ⟨m, fun _ => 0, g⟩ fun r => ∀ c : Dev nD,
      r.2.mem ((c.tc : Thread nD τ).loc main_v0) = val_main_v0 (m ((c : Thread nD τ).loc main_arg0))
      ∧ r.2.mem ((c.tc : Thread nD τ).loc main_v5) = val_main_v5 (m ((c : Thread nD τ).loc main_arg0))
      ∧ r.2.mem ((c.tc : Thread nD τ).loc main_arg0) = m ((c.tc : Thread nD τ).loc main_arg0) :=
  (θ_run defs _ _).mono (fun _ h c =>
    ⟨((h.1 c).1 1).trans (final m c),
      ((h.1 c).2 main_v5 (by decide)).trans ((tail m c).trans ((congrArg loss (final m c)).trans (loss_eq _))), h.2 c⟩)
    (θ_run_and (run_main m g) (unchanged m g))

end Cert.GainSumIdeal.Value

open Cert.GainSumRefIdeal.Read in
/-- The kernel's sum over the devices and its loss are the reference's. -/
theorem Cert.Proof.gain_sum : Cert.algebraic_GainSumIdeal_GainSumRefIdeal := by
  intro m g m' g' _ hagree
  refine ⟨fun c => val_main_v0 (m (c.tc.loc Cert.GainSumIdeal.main_arg0)),
    fun c => val_main_v5 (m (c.tc.loc Cert.GainSumIdeal.main_arg0)), Cert.GainSumIdeal.Value.run m g, ?_⟩
  refine (θ_run _ _ _).mono (fun r h c => ?_) (Cert.GainSumRefIdeal.Value.run m' g')
  obtain ⟨h0, h1, h2⟩ := h c
  rw [hagree c] at h0 h1
  exact ⟨h0.trans (val_main_v0_eq _), h1.trans (val_main_v5_eq _), h2⟩
-- ==== Proof.AdamFfn1Out.lean ====
/- AdamW's step of one shard of `ffn1_w_out`, whose summed gradient is an array of its own. The grid runs over
   four blocks of 176 rows. -/
module

public import proofs.«01_k».proof.Defs
public import proofs.«01_k».proof.Proof.Adam
public import proofs.«01_k».proof.Proof.Gen.AdamFfn1OutIdeal.Value
public import proofs.«01_k».proof.Proof.Gen.AdamFfn1OutRefIdeal.Run
public import proofs.«01_k».proof.Proof.Gen.AdamFfn1OutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamFfn1OutIdeal.Value

open Cert.AdamFfn1OutIdeal Cert.AdamFfn1OutIdeal.Gen
open Cert.AdamFfn1OutRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (m ((c : Thread nD τ).loc main_arg1)) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  refine ⟨?_, ?_, ?_, ?_⟩ <;> blk_point [iblk, V, idx t]

/-- After the run the four results are the reference's: the gradient, the change of the weights and the two moments. -/
theorem final (c : Dev nD) :
    (dats m 0 c).arrAt 4 cfg0.N = m ((c : Thread nD τ).loc main_arg1)
    ∧ (dats m 0 c).arrAt 5 cfg0.N = val_main_v23 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v4 (m ((c : Thread nD τ).loc main_arg1)) (m ((c : Thread nD τ).loc main_arg2))
    ∧ (dats m 0 c).arrAt 7 cfg0.N = val_main_v10 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamFfn1OutIdeal.Value

/-- The kernel's gradient, change of the weights and two moments are the reference's. -/
theorem Cert.Proof.adam_ffn1_out : Cert.algebraic_AdamFfn1OutIdeal_AdamFfn1OutRefIdeal := by
  pair_intro
  · run_from Cert.AdamFfn1OutIdeal.Value.run_blocks m g
  · run_from Cert.AdamFfn1OutRefIdeal.Value.run m' g'
    all_goals obtain ⟨h4, h5, h6, h7⟩ := Cert.AdamFfn1OutIdeal.Value.final m c
    · exact h4.symm
    · exact h5.symm
    · exact h6.symm
    · exact h7.symm
-- ==== Proof.AdamGate.lean ====
/- AdamW's step of one shard of the embedding's gate, whose summed gradient begins at row 960 of a longer array.
   The grid runs over four blocks of 64 rows. -/
module

public import proofs.«01_k».proof.Defs
public import proofs.«01_k».proof.Proof.Adam
public import proofs.«01_k».proof.Proof.Gen.AdamGateIdeal.Value
public import proofs.«01_k».proof.Proof.Gen.AdamGateRefIdeal.Run
public import proofs.«01_k».proof.Proof.Gen.AdamGateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamGateIdeal.Value

open Cert.AdamGateIdeal Cert.AdamGateIdeal.Gen
open Cert.AdamGateRefIdeal.Read

variable (m : (ℓ : Loc nD τ sig) → Buf (Elt Ideal) ℓ)

/-- Which block each window holds at point `t`. -/
theorem idx : ∀ t : Fin cfg0.N, win0_0.index t = ![t.val, 0] ∧ win0_1.index t = ![15 + t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (val_main_v0 (m ((c : Thread nD τ).loc main_arg1))) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  rw [val_main_v0_apply]; refine ⟨?_, ?_, ?_, ?_⟩ <;> blk_point [iblk, V, idx t]

/-- After the run the four results are the reference's: the gradient, the change of the weights and the two moments. -/
theorem final (c : Dev nD) :
    (dats m 0 c).arrAt 4 cfg0.N = val_main_v0 (m ((c : Thread nD τ).loc main_arg1))
    ∧ (dats m 0 c).arrAt 5 cfg0.N = val_main_v24 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v5 (m ((c : Thread nD τ).loc main_arg1)) (m ((c : Thread nD τ).loc main_arg2))
    ∧ (dats m 0 c).arrAt 7 cfg0.N = val_main_v11 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamGateIdeal.Value

/-- The kernel's gradient, change of the weights and two moments are the reference's. -/
theorem Cert.Proof.adam_gate : Cert.algebraic_AdamGateIdeal_AdamGateRefIdeal := by
  pair_intro
  · run_from Cert.AdamGateIdeal.Value.run_blocks m g
  · run_from Cert.AdamGateRefIdeal.Value.run m' g'
    all_goals obtain ⟨h4, h5, h6, h7⟩ := Cert.AdamGateIdeal.Value.final m c
    · exact h4.symm
    · exact h5.symm
    · exact h6.symm
    · exact h7.symm
-- ==== Proof.AdamBranch.lean ====
/- AdamW's step of one shard of the stick-breaking branch weight, whose summed gradient begins at row 512 of a
   longer array. The grid runs over two blocks of 256 rows. -/
module

public import proofs.«01_k».proof.Defs
public import proofs.«01_k».proof.Proof.Adam
public import proofs.«01_k».proof.Proof.Gen.AdamBranchIdeal.Value
public import proofs.«01_k».proof.Proof.Gen.AdamBranchRefIdeal.Run
public import proofs.«01_k».proof.Proof.Gen.AdamBranchRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamBranchIdeal.Value

open Cert.AdamBranchIdeal Cert.AdamBranchIdeal.Gen
open Cert.AdamBranchRefIdeal.Read

variable (m : (ℓ : Loc nD τ sig) → Buf (Elt Ideal) ℓ)

/-- Which block each window holds at point `t`. -/
theorem idx : ∀ t : Fin cfg0.N, win0_0.index t = ![t.val, 0] ∧ win0_1.index t = ![2 + t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (val_main_v0 (m ((c : Thread nD τ).loc main_arg1))) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  rw [val_main_v0_apply]; refine ⟨?_, ?_, ?_, ?_⟩ <;> blk_point [iblk, V, idx t]

/-- After the run the four results are the reference's: the gradient, the change of the weights and the two moments. -/
theorem final (c : Dev nD) :
    (dats m 0 c).arrAt 4 cfg0.N = val_main_v0 (m ((c : Thread nD τ).loc main_arg1))
    ∧ (dats m 0 c).arrAt 5 cfg0.N = val_main_v24 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v5 (m ((c : Thread nD τ).loc main_arg1)) (m ((c : Thread nD τ).loc main_arg2))
    ∧ (dats m 0 c).arrAt 7 cfg0.N = val_main_v11 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamBranchIdeal.Value

/-- The kernel's gradient, change of the weights and two moments are the reference's. -/
theorem Cert.Proof.adam_branch : Cert.algebraic_AdamBranchIdeal_AdamBranchRefIdeal := by
  pair_intro
  · run_from Cert.AdamBranchIdeal.Value.run_blocks m g
  · run_from Cert.AdamBranchRefIdeal.Value.run m' g'
    all_goals obtain ⟨h4, h5, h6, h7⟩ := Cert.AdamBranchIdeal.Value.final m c
    · exact h4.symm
    · exact h5.symm
    · exact h6.symm
    · exact h7.symm
-- ==== Proof.AdamLatent.lean ====
/- AdamW's step of one shard of the latent branch weight, whose summed gradient is at the top of a longer array.
   The grid runs over two blocks of 256 rows. -/
module

public import proofs.«01_k».proof.Defs
public import proofs.«01_k».proof.Proof.Adam
public import proofs.«01_k».proof.Proof.Gen.AdamLatentIdeal.Value
public import proofs.«01_k».proof.Proof.Gen.AdamLatentRefIdeal.Run
public import proofs.«01_k».proof.Proof.Gen.AdamLatentRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamLatentIdeal.Value

open Cert.AdamLatentIdeal Cert.AdamLatentIdeal.Gen
open Cert.AdamLatentRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (val_main_v0 (m ((c : Thread nD τ).loc main_arg1))) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  rw [val_main_v0_apply]; refine ⟨?_, ?_, ?_, ?_⟩ <;> blk_point [iblk, V, idx t]

/-- After the run the four results are the reference's: the gradient, the change of the weights and the two moments. -/
theorem final (c : Dev nD) :
    (dats m 0 c).arrAt 4 cfg0.N = val_main_v0 (m ((c : Thread nD τ).loc main_arg1))
    ∧ (dats m 0 c).arrAt 5 cfg0.N = val_main_v24 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v5 (m ((c : Thread nD τ).loc main_arg1)) (m ((c : Thread nD τ).loc main_arg2))
    ∧ (dats m 0 c).arrAt 7 cfg0.N = val_main_v11 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamLatentIdeal.Value

/-- The kernel's gradient, change of the weights and two moments are the reference's. -/
theorem Cert.Proof.adam_latent : Cert.algebraic_AdamLatentIdeal_AdamLatentRefIdeal := by
  pair_intro
  · run_from Cert.AdamLatentIdeal.Value.run_blocks m g
  · run_from Cert.AdamLatentRefIdeal.Value.run m' g'
    all_goals obtain ⟨h4, h5, h6, h7⟩ := Cert.AdamLatentIdeal.Value.final m c
    · exact h4.symm
    · exact h5.symm
    · exact h6.symm
    · exact h7.symm
-- ==== Proof.AdamProj.lean ====
/- AdamW's step of one shard of the embedding's projection, whose summed gradient begins at row 1024 of a longer
   array. The grid runs over one block. -/
module

public import proofs.«01_k».proof.Defs
public import proofs.«01_k».proof.Proof.Adam
public import proofs.«01_k».proof.Proof.Gen.AdamProjIdeal.Value
public import proofs.«01_k».proof.Proof.Gen.AdamProjRefIdeal.Run
public import proofs.«01_k».proof.Proof.Gen.AdamProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamProjIdeal.Value

open Cert.AdamProjIdeal Cert.AdamProjIdeal.Gen
open Cert.AdamProjRefIdeal.Read

variable (m : (ℓ : Loc nD τ sig) → Buf (Elt Ideal) ℓ)

/-- Which block each window holds at point `t`. -/
theorem idx : ∀ t : Fin cfg0.N, win0_0.index t = ![t.val, 0] ∧ win0_1.index t = ![4 + t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (val_main_v0 (m ((c : Thread nD τ).loc main_arg1))) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  rw [val_main_v0_apply]; refine ⟨?_, ?_, ?_, ?_⟩ <;> blk_point [iblk, V, idx t]

/-- After the run the four results are the reference's: the gradient, the change of the weights and the two moments. -/
theorem final (c : Dev nD) :
    (dats m 0 c).arrAt 4 cfg0.N = val_main_v0 (m ((c : Thread nD τ).loc main_arg1))
    ∧ (dats m 0 c).arrAt 5 cfg0.N = val_main_v24 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v5 (m ((c : Thread nD τ).loc main_arg1)) (m ((c : Thread nD τ).loc main_arg2))
    ∧ (dats m 0 c).arrAt 7 cfg0.N = val_main_v11 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamProjIdeal.Value

/-- The kernel's gradient, change of the weights and two moments are the reference's. -/
theorem Cert.Proof.adam_proj : Cert.algebraic_AdamProjIdeal_AdamProjRefIdeal := by
  pair_intro
  · run_from Cert.AdamProjIdeal.Value.run_blocks m g
  · run_from Cert.AdamProjRefIdeal.Value.run m' g'
    all_goals obtain ⟨h4, h5, h6, h7⟩ := Cert.AdamProjIdeal.Value.final m c
    · exact h4.symm
    · exact h5.symm
    · exact h6.symm
    · exact h7.symm
-- ==== Proof.AdamQUp.lean ====
/- AdamW's step of one shard of the queries' up-projection, whose summed gradient is an array of its own. The grid
   runs over two blocks of 192 rows. -/
module

public import proofs.«01_k».proof.Defs
public import proofs.«01_k».proof.Proof.Adam
public import proofs.«01_k».proof.Proof.Gen.AdamQUpIdeal.Value
public import proofs.«01_k».proof.Proof.Gen.AdamQUpRefIdeal.Run
public import proofs.«01_k».proof.Proof.Gen.AdamQUpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamQUpIdeal.Value

open Cert.AdamQUpIdeal Cert.AdamQUpIdeal.Gen
open Cert.AdamQUpRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (m ((c : Thread nD τ).loc main_arg1)) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  refine ⟨?_, ?_, ?_, ?_⟩ <;> blk_point [iblk, V, idx t]

/-- After the run the four results are the reference's: the gradient, the change of the weights and the two moments. -/
theorem final (c : Dev nD) :
    (dats m 0 c).arrAt 4 cfg0.N = m ((c : Thread nD τ).loc main_arg1)
    ∧ (dats m 0 c).arrAt 5 cfg0.N = val_main_v23 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v4 (m ((c : Thread nD τ).loc main_arg1)) (m ((c : Thread nD τ).loc main_arg2))
    ∧ (dats m 0 c).arrAt 7 cfg0.N = val_main_v10 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamQUpIdeal.Value

/-- The kernel's gradient, change of the weights and two moments are the reference's. -/
theorem Cert.Proof.adam_q_up : Cert.algebraic_AdamQUpIdeal_AdamQUpRefIdeal := by
  pair_intro
  · run_from Cert.AdamQUpIdeal.Value.run_blocks m g
  · run_from Cert.AdamQUpRefIdeal.Value.run m' g'
    all_goals obtain ⟨h4, h5, h6, h7⟩ := Cert.AdamQUpIdeal.Value.final m c
    · exact h4.symm
    · exact h5.symm
    · exact h6.symm
    · exact h7.symm
-- ==== Proof.AdamKvUp.lean ====
/- AdamW's step of one shard of the keys' and values' up-projection, whose summed gradient is an array of its own.
   The grid runs over one block. -/
module

public import proofs.«01_k».proof.Defs
public import proofs.«01_k».proof.Proof.Adam
public import proofs.«01_k».proof.Proof.Gen.AdamKvUpIdeal.Value
public import proofs.«01_k».proof.Proof.Gen.AdamKvUpRefIdeal.Run
public import proofs.«01_k».proof.Proof.Gen.AdamKvUpRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamKvUpIdeal.Value

open Cert.AdamKvUpIdeal Cert.AdamKvUpIdeal.Gen
open Cert.AdamKvUpRefIdeal.Read

variable (m : (ℓ : Loc nD τ sig) → Buf (Elt Ideal) ℓ)

/-- Which block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- Each argument's block holds the argument at the place of the results' block. -/
theorem blocks (c : Dev nD) (t : Fin cfg0.N) (y) :
    iblk m c 0 t y = (m ((c : Thread nD τ).loc main_arg0)) (((cfg0.win 4).blk t).view.emb y)
    ∧ iblk m c 1 t y = (m ((c : Thread nD τ).loc main_arg1)) (((cfg0.win 4).blk t).view.emb y)
    ∧ iblk m c 2 t y = (m ((c : Thread nD τ).loc main_arg2)) (((cfg0.win 4).blk t).view.emb y)
    ∧ iblk m c 3 t y = (m ((c : Thread nD τ).loc main_arg3)) (((cfg0.win 4).blk t).view.emb y) := by
  refine ⟨?_, ?_, ?_, ?_⟩ <;> blk_point [iblk, V, idx t]

/-- After the run the four results are the reference's: the gradient, the change of the weights and the two moments. -/
theorem final (c : Dev nD) :
    (dats m 0 c).arrAt 4 cfg0.N = m ((c : Thread nD τ).loc main_arg1)
    ∧ (dats m 0 c).arrAt 5 cfg0.N = val_main_v23 (m ((c : Thread nD τ).loc main_arg0)) (m ((c : Thread nD τ).loc main_arg1)) (m ((c : Thread nD τ).loc main_arg2)) (m ((c : Thread nD τ).loc main_arg3))
    ∧ (dats m 0 c).arrAt 6 cfg0.N = val_main_v4 (m ((c : Thread nD τ).loc main_arg1)) (m ((c : Thread nD τ).loc main_arg2))
    ∧ (dats m 0 c).arrAt 7 cfg0.N = val_main_v10 (m ((c : Thread nD τ).loc main_arg1)) (m ((c : Thread nD τ).loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  all_goals obtain ⟨hw, hg, h1, h2⟩ := blocks m c t y
  · rw [after0_4]; frame_out
    exact hg
  · rw [after0_5]; frame_out
    exact Adam.change_congr hw hg h1 h2
  · rw [after0_6]; frame_out
    exact congrArg₂ Adam.first hg h1
  · rw [after0_7]; frame_out
    exact congrArg₂ Adam.second hg h2

end Cert.AdamKvUpIdeal.Value

/-- The kernel's gradient, change of the weights and two moments are the reference's. -/
theorem Cert.Proof.adam_kv_up : Cert.algebraic_AdamKvUpIdeal_AdamKvUpRefIdeal := by
  pair_intro
  · run_from Cert.AdamKvUpIdeal.Value.run_blocks m g
  · run_from Cert.AdamKvUpRefIdeal.Value.run m' g'
    all_goals obtain ⟨h4, h5, h6, h7⟩ := Cert.AdamKvUpIdeal.Value.final m c
    · exact h4.symm
    · exact h5.symm
    · exact h6.symm
    · exact h7.symm
-- ==== Proof.lean ====
/- The certificate: every kernel's and every reference's frame, and every kernel's value, put together.
   The values are proved in the modules named after the calls. -/
module

public import proofs.«01_k».proof.Defs
public import proofs.«01_k».proof.Proof.Gen.FfnBwd.Frame
public import proofs.«01_k».proof.Proof.Gen.FfnBwdIdeal.Frame
public import proofs.«01_k».proof.Proof.Gen.FfnBwdRefIdeal.Run
public import proofs.«01_k».proof.Proof.FfnBwd
public import proofs.«01_k».proof.Proof.Gen.Pre_ffn_bwd_finite
public import proofs.«01_k».proof.Proof.Gen.FfnIn.Frame
public import proofs.«01_k».proof.Proof.Gen.FfnInIdeal.Frame
public import proofs.«01_k».proof.Proof.Gen.FfnInRefIdeal.Run
public import proofs.«01_k».proof.Proof.FfnIn
public import proofs.«01_k».proof.Proof.Gen.FfnOut.Frame
public import proofs.«01_k».proof.Proof.Gen.FfnOutIdeal.Frame
public import proofs.«01_k».proof.Proof.Gen.FfnOutRefIdeal.Run
public import proofs.«01_k».proof.Proof.FfnOut
public import proofs.«01_k».proof.Proof.Gen.FfnNormBwd.Frame
public import proofs.«01_k».proof.Proof.Gen.FfnNormBwdIdeal.Frame
public import proofs.«01_k».proof.Proof.Gen.FfnNormBwdRefIdeal.Run
public import proofs.«01_k».proof.Proof.FfnNormBwd
public import proofs.«01_k».proof.Proof.Gen.Pre_ffn_norm_bwd_finite
public import proofs.«01_k».proof.Proof.Gen.DwOut.Frame
public import proofs.«01_k».proof.Proof.Gen.DwOutIdeal.Frame
public import proofs.«01_k».proof.Proof.Gen.DwOutRefIdeal.Run
public import proofs.«01_k».proof.Proof.DwOut
public import proofs.«01_k».proof.Proof.Gen.DwIn.Frame
public import proofs.«01_k».proof.Proof.Gen.DwInIdeal.Frame
public import proofs.«01_k».proof.Proof.Gen.DwInRefIdeal.Run
public import proofs.«01_k».proof.Proof.DwIn
public import proofs.«01_k».proof.Proof.Gen.MixIn.Frame
public import proofs.«01_k».proof.Proof.Gen.MixInIdeal.Frame
public import proofs.«01_k».proof.Proof.Gen.MixInRefIdeal.Run
public import proofs.«01_k».proof.Proof.MixIn
public import proofs.«01_k».proof.Proof.Gen.MergeOut.Frame
public import proofs.«01_k».proof.Proof.Gen.MergeOutIdeal.Frame
public import proofs.«01_k».proof.Proof.Gen.MergeOutRefIdeal.Run
public import proofs.«01_k».proof.Proof.MergeOut
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.MergeBwd
public import proofs.«01_k».proof.Proof.Gen.Ple.Frame
public import proofs.«01_k».proof.Proof.Gen.PleIdeal.Frame
public import proofs.«01_k».proof.Proof.Gen.PleRefIdeal.Run
public import proofs.«01_k».proof.Proof.Ple
public import proofs.«01_k».proof.Proof.Gen.Pre_ple_finite
public import proofs.«01_k».proof.Proof.Gen.MixNormBwd.Frame
public import proofs.«01_k».proof.Proof.Gen.MixNormBwdIdeal.Frame
public import proofs.«01_k».proof.Proof.Gen.MixNormBwdRefIdeal.Run
public import proofs.«01_k».proof.Proof.MixNormBwd
public import proofs.«01_k».proof.Proof.Gen.Pre_mix_norm_bwd_finite
public import proofs.«01_k».proof.Proof.Gen.DwMix.Frame
public import proofs.«01_k».proof.Proof.Gen.DwMixIdeal.Frame
public import proofs.«01_k».proof.Proof.Gen.DwMixRefIdeal.Run
public import proofs.«01_k».proof.Proof.DwMix
public import proofs.«01_k».proof.Proof.Gen.DwSquare.Frame
public import proofs.«01_k».proof.Proof.Gen.DwSquareIdeal.Frame
public import proofs.«01_k».proof.Proof.Gen.DwSquareRefIdeal.Run
public import proofs.«01_k».proof.Proof.DwSquare
public import proofs.«01_k».proof.Proof.Gen.DwBranch.Frame
public import proofs.«01_k».proof.Proof.Gen.DwBranchIdeal.Frame
public import proofs.«01_k».proof.Proof.Gen.DwBranchRefIdeal.Run
public import proofs.«01_k».proof.Proof.DwBranch
public import proofs.«01_k».proof.Proof.Gen.DwProj.Frame
public import proofs.«01_k».proof.Proof.Gen.DwProjIdeal.Frame
public import proofs.«01_k».proof.Proof.Gen.DwProjRefIdeal.Run
public import proofs.«01_k».proof.Proof.DwProj
public import proofs.«01_k».proof.Proof.Gen.AdamGains.Frame
public import proofs.«01_k».proof.Proof.Gen.AdamGainsIdeal.Frame
public import proofs.«01_k».proof.Proof.Gen.AdamGainsRefIdeal.Run
public import proofs.«01_k».proof.Proof.AdamGains
public import proofs.«01_k».proof.Proof.Gen.AdamFfnIn.Frame
public import proofs.«01_k».proof.Proof.Gen.AdamFfnInIdeal.Frame
public import proofs.«01_k».proof.Proof.Gen.AdamFfnInRefIdeal.Run
public import proofs.«01_k».proof.Proof.AdamFfnIn
public import proofs.«01_k».proof.Proof.Gen.AdamFfnOut.Frame
public import proofs.«01_k».proof.Proof.Gen.AdamFfnOutIdeal.Frame
public import proofs.«01_k».proof.Proof.Gen.AdamFfnOutRefIdeal.Run
public import proofs.«01_k».proof.Proof.AdamFfnOut
public import proofs.«01_k».proof.Proof.Gen.AdamMixIn.Frame
public import proofs.«01_k».proof.Proof.Gen.AdamMixInIdeal.Frame
public import proofs.«01_k».proof.Proof.Gen.AdamMixInRefIdeal.Run
public import proofs.«01_k».proof.Proof.AdamMixIn
public import proofs.«01_k».proof.Proof.Gen.AdamOut.Frame
public import proofs.«01_k».proof.Proof.Gen.AdamOutIdeal.Frame
public import proofs.«01_k».proof.Proof.Gen.AdamOutRefIdeal.Run
public import proofs.«01_k».proof.Proof.AdamOut
public import proofs.«01_k».proof.Proof.Gen.Norm.Frame
public import proofs.«01_k».proof.Proof.Gen.NormIdeal.Frame
public import proofs.«01_k».proof.Proof.Gen.NormRefIdeal.Run
public import proofs.«01_k».proof.Proof.Norm
public import proofs.«01_k».proof.Proof.Gen.GainSum.Frame
public import proofs.«01_k».proof.Proof.Gen.GainSumIdeal.Frame
public import proofs.«01_k».proof.Proof.Gen.GainSumRefIdeal.Run
public import proofs.«01_k».proof.Proof.GainSum
public import proofs.«01_k».proof.Proof.Gen.AdamFfn1Out.Frame
public import proofs.«01_k».proof.Proof.Gen.AdamFfn1OutIdeal.Frame
public import proofs.«01_k».proof.Proof.Gen.AdamFfn1OutRefIdeal.Run
public import proofs.«01_k».proof.Proof.AdamFfn1Out
public import proofs.«01_k».proof.Proof.Gen.AdamGate.Frame
public import proofs.«01_k».proof.Proof.Gen.AdamGateIdeal.Frame
public import proofs.«01_k».proof.Proof.Gen.AdamGateRefIdeal.Run
public import proofs.«01_k».proof.Proof.AdamGate
public import proofs.«01_k».proof.Proof.Gen.AdamBranch.Frame
public import proofs.«01_k».proof.Proof.Gen.AdamBranchIdeal.Frame
public import proofs.«01_k».proof.Proof.Gen.AdamBranchRefIdeal.Run
public import proofs.«01_k».proof.Proof.AdamBranch
public import proofs.«01_k».proof.Proof.Gen.AdamLatent.Frame
public import proofs.«01_k».proof.Proof.Gen.AdamLatentIdeal.Frame
public import proofs.«01_k».proof.Proof.Gen.AdamLatentRefIdeal.Run
public import proofs.«01_k».proof.Proof.AdamLatent
public import proofs.«01_k».proof.Proof.Gen.AdamProj.Frame
public import proofs.«01_k».proof.Proof.Gen.AdamProjIdeal.Frame
public import proofs.«01_k».proof.Proof.Gen.AdamProjRefIdeal.Run
public import proofs.«01_k».proof.Proof.AdamProj
public import proofs.«01_k».proof.Proof.Gen.AdamQUp.Frame
public import proofs.«01_k».proof.Proof.Gen.AdamQUpIdeal.Frame
public import proofs.«01_k».proof.Proof.Gen.AdamQUpRefIdeal.Run
public import proofs.«01_k».proof.Proof.AdamQUp
public import proofs.«01_k».proof.Proof.Gen.AdamKvUp.Frame
public import proofs.«01_k».proof.Proof.Gen.AdamKvUpIdeal.Frame
public import proofs.«01_k».proof.Proof.Gen.AdamKvUpRefIdeal.Run
public import proofs.«01_k».proof.Proof.AdamKvUp

@[expose] public section

noncomputable section

namespace Cert.Proof

open Idealize.ShloMosaic Idealize.SL.Sem

/-- The reference of the opening of a feed-forward half-step's gradient runs and leaves its arguments alone: read off its run. It has no semaphores. -/
theorem ffn_bwd_ref : Cert.quiescent_FfnBwdRefIdeal := fun m ρ _ =>
  (θ_run _ _ _).mono (fun r h => ⟨fun c => (h c).2.2, sem_eq_zero_of_no_sems (by decide) r.2⟩)
    (Cert.FfnBwdRefIdeal.Value.run (F := Ideal) m ρ)

/-- The reference of the first half of a feed-forward half-step runs and leaves its arguments alone: read off its run. It has no semaphores. -/
theorem ffn_in_ref : Cert.quiescent_FfnInRefIdeal := fun m ρ _ =>
  (θ_run _ _ _).mono (fun r h => ⟨fun c => (h c).2.2.2, sem_eq_zero_of_no_sems (by decide) r.2⟩)
    (Cert.FfnInRefIdeal.Value.run (F := Ideal) m ρ)

/-- The reference of the second half of a feed-forward half-step runs and leaves its arguments alone: read off its run. It has no semaphores. -/
theorem ffn_out_ref : Cert.quiescent_FfnOutRefIdeal := fun m ρ _ =>
  (θ_run _ _ _).mono (fun r h => ⟨fun c => (h c).2.2, sem_eq_zero_of_no_sems (by decide) r.2⟩)
    (Cert.FfnOutRefIdeal.Value.run (F := Ideal) m ρ)

/-- The reference of the end of a feed-forward half-step's gradient runs and leaves its arguments alone: read off its run. It has no semaphores. -/
theorem ffn_norm_bwd_ref : Cert.quiescent_FfnNormBwdRefIdeal := fun m ρ _ =>
  (θ_run _ _ _).mono (fun r h => ⟨fun c => (h c).2.2.2, sem_eq_zero_of_no_sems (by decide) r.2⟩)
    (Cert.FfnNormBwdRefIdeal.Value.run (F := Ideal) m ρ)

/-- The reference of the gradient of the second feed-forward weight runs and leaves its arguments alone: read off its run. It has no semaphores. -/
theorem dw_out_ref : Cert.quiescent_DwOutRefIdeal := fun m ρ _ =>
  (θ_run _ _ _).mono (fun r h => ⟨fun c => (h c).2, sem_eq_zero_of_no_sems (by decide) r.2⟩)
    (Cert.DwOutRefIdeal.Value.run (F := Ideal) m ρ)

/-- The reference of the gradient of the first feed-forward weight runs and leaves its arguments alone: read off its run. It has no semaphores. -/
theorem dw_in_ref : Cert.quiescent_DwInRefIdeal := fun m ρ _ =>
  (θ_run _ _ _).mono (fun r h => ⟨fun c => (h c).2, sem_eq_zero_of_no_sems (by decide) r.2⟩)
    (Cert.DwInRefIdeal.Value.run (F := Ideal) m ρ)

/-- The reference of the mixer's input projections runs and leaves its arguments alone: read off its run. It has no semaphores. -/
theorem mix_in_ref : Cert.quiescent_MixInRefIdeal := fun m ρ _ =>
  (θ_run _ _ _).mono (fun r h => ⟨fun c => (h c).2.2.2.2.2.2.2, sem_eq_zero_of_no_sems (by decide) r.2⟩)
    (Cert.MixInRefIdeal.Value.run (F := Ideal) m ρ)

/-- The reference of the merge of the two branches runs and leaves its arguments alone: read off its run. It has no semaphores. -/
theorem merge_out_ref : Cert.quiescent_MergeOutRefIdeal := fun m ρ _ =>
  (θ_run _ _ _).mono (fun r h => ⟨fun c => (h c).2.2.2.2.2, sem_eq_zero_of_no_sems (by decide) r.2⟩)
    (Cert.MergeOutRefIdeal.Value.run (F := Ideal) m ρ)

/-- The reference of the gradient of the merge runs and leaves its arguments alone: read off its run. It has no semaphores. -/
theorem merge_bwd_ref : Cert.quiescent_MergeBwdRefIdeal := fun m ρ _ =>
  (θ_run _ _ _).mono (fun r h => ⟨fun c => (h c).2.2.2.2.2, sem_eq_zero_of_no_sems (by decide) r.2⟩)
    (Cert.MergeBwdRefIdeal.Value.run (F := Ideal) m ρ)

/-- The reference of the closing per-layer embedding with its loss and gradient runs and leaves its arguments alone: read off its run. It has no semaphores. -/
theorem ple_ref : Cert.quiescent_PleRefIdeal := fun m ρ _ =>
  (θ_run _ _ _).mono (fun r h => ⟨fun c => (h c).2.2.2.2.2.2.2, sem_eq_zero_of_no_sems (by decide) r.2⟩)
    (Cert.PleRefIdeal.Value.run (F := Ideal) m ρ)

/-- The reference of the end of the mixer's gradient runs and leaves its arguments alone: read off its run. It has no semaphores. -/
theorem mix_norm_bwd_ref : Cert.quiescent_MixNormBwdRefIdeal := fun m ρ _ =>
  (θ_run _ _ _).mono (fun r h => ⟨fun c => (h c).2.2.2, sem_eq_zero_of_no_sems (by decide) r.2⟩)
    (Cert.MixNormBwdRefIdeal.Value.run (F := Ideal) m ρ)

/-- The reference of the gradient of the mixer's weight runs and leaves its arguments alone: read off its run. It has no semaphores. -/
theorem dw_mix_ref : Cert.quiescent_DwMixRefIdeal := fun m ρ _ =>
  (θ_run _ _ _).mono (fun r h => ⟨fun c => (h c).2, sem_eq_zero_of_no_sems (by decide) r.2⟩)
    (Cert.DwMixRefIdeal.Value.run (F := Ideal) m ρ)

/-- The reference of the gradient of a square weight runs and leaves its arguments alone: read off its run. It has no semaphores. -/
theorem dw_square_ref : Cert.quiescent_DwSquareRefIdeal := fun m ρ _ =>
  (θ_run _ _ _).mono (fun r h => ⟨fun c => (h c).2, sem_eq_zero_of_no_sems (by decide) r.2⟩)
    (Cert.DwSquareRefIdeal.Value.run (F := Ideal) m ρ)

/-- The reference of the gradient of the stick-breaking branch weight runs and leaves its arguments alone: read off its run. It has no semaphores. -/
theorem dw_branch_ref : Cert.quiescent_DwBranchRefIdeal := fun m ρ _ =>
  (θ_run _ _ _).mono (fun r h => ⟨fun c => (h c).2, sem_eq_zero_of_no_sems (by decide) r.2⟩)
    (Cert.DwBranchRefIdeal.Value.run (F := Ideal) m ρ)

/-- The reference of the gradient of the embedding's projection weight runs and leaves its arguments alone: read off its run. It has no semaphores. -/
theorem dw_proj_ref : Cert.quiescent_DwProjRefIdeal := fun m ρ _ =>
  (θ_run _ _ _).mono (fun r h => ⟨fun c => (h c).2, sem_eq_zero_of_no_sems (by decide) r.2⟩)
    (Cert.DwProjRefIdeal.Value.run (F := Ideal) m ρ)

/-- The reference of the optimizer's step of the gains runs and leaves its arguments alone: read off its run. It has no semaphores. -/
theorem adam_gains_ref : Cert.quiescent_AdamGainsRefIdeal := fun m ρ _ =>
  (θ_run _ _ _).mono (fun r h => ⟨fun c => (h c).2.2.2.2, sem_eq_zero_of_no_sems (by decide) r.2⟩)
    (Cert.AdamGainsRefIdeal.Value.run (F := Ideal) m ρ)

/-- The reference of the optimizer's step of a first feed-forward weight runs and leaves its arguments alone: read off its run. It has no semaphores. -/
theorem adam_ffn_in_ref : Cert.quiescent_AdamFfnInRefIdeal := fun m ρ _ =>
  (θ_run _ _ _).mono (fun r h => ⟨fun c => (h c).2.2.2.2, sem_eq_zero_of_no_sems (by decide) r.2⟩)
    (Cert.AdamFfnInRefIdeal.Value.run (F := Ideal) m ρ)

/-- The reference of the optimizer's step of a second feed-forward weight runs and leaves its arguments alone: read off its run. It has no semaphores. -/
theorem adam_ffn_out_ref : Cert.quiescent_AdamFfnOutRefIdeal := fun m ρ _ =>
  (θ_run _ _ _).mono (fun r h => ⟨fun c => (h c).2.2.2.2, sem_eq_zero_of_no_sems (by decide) r.2⟩)
    (Cert.AdamFfnOutRefIdeal.Value.run (F := Ideal) m ρ)

/-- The reference of the optimizer's step of the mixers' weight runs and leaves its arguments alone: read off its run. It has no semaphores. -/
theorem adam_mix_in_ref : Cert.quiescent_AdamMixInRefIdeal := fun m ρ _ =>
  (θ_run _ _ _).mono (fun r h => ⟨fun c => (h c).2.2.2.2, sem_eq_zero_of_no_sems (by decide) r.2⟩)
    (Cert.AdamMixInRefIdeal.Value.run (F := Ideal) m ρ)

/-- The reference of the optimizer's step of the merge's output weight runs and leaves its arguments alone: read off its run. It has no semaphores. -/
theorem adam_out_ref : Cert.quiescent_AdamOutRefIdeal := fun m ρ _ =>
  (θ_run _ _ _).mono (fun r h => ⟨fun c => (h c).2.2.2.2, sem_eq_zero_of_no_sems (by decide) r.2⟩)
    (Cert.AdamOutRefIdeal.Value.run (F := Ideal) m ρ)

/-- The reference of the norm of the input's rows runs and leaves its arguments alone: read off its run. It has no semaphores. -/
theorem norm_ref : Cert.quiescent_NormRefIdeal := fun m ρ _ =>
  (θ_run _ _ _).mono (fun r h => ⟨fun c => (h c).2, sem_eq_zero_of_no_sems (by decide) r.2⟩)
    (Cert.NormRefIdeal.Value.run (F := Ideal) m ρ)

/-- The reference of the sum of the gains' gradients over the devices runs and leaves its arguments alone: read off its run. It has no semaphores. -/
theorem gain_sum_ref : Cert.quiescent_GainSumRefIdeal := fun m ρ _ =>
  (θ_run _ _ _).mono (fun r h => ⟨fun c => (h c).2.2, sem_eq_zero_of_no_sems (by decide) r.2⟩)
    (Cert.GainSumRefIdeal.Value.run (F := Ideal) m ρ)

/-- The reference of the optimizer's step of the first half-step's second weight runs and leaves its arguments alone: read off its run. It has no semaphores. -/
theorem adam_ffn1_out_ref : Cert.quiescent_AdamFfn1OutRefIdeal := fun m ρ _ =>
  (θ_run _ _ _).mono (fun r h => ⟨fun c => (h c).2.2.2.2, sem_eq_zero_of_no_sems (by decide) r.2⟩)
    (Cert.AdamFfn1OutRefIdeal.Value.run (F := Ideal) m ρ)

/-- The reference of the optimizer's step of the embedding's gate runs and leaves its arguments alone: read off its run. It has no semaphores. -/
theorem adam_gate_ref : Cert.quiescent_AdamGateRefIdeal := fun m ρ _ =>
  (θ_run _ _ _).mono (fun r h => ⟨fun c => (h c).2.2.2.2, sem_eq_zero_of_no_sems (by decide) r.2⟩)
    (Cert.AdamGateRefIdeal.Value.run (F := Ideal) m ρ)

/-- The reference of the optimizer's step of the stick-breaking branch weight runs and leaves its arguments alone: read off its run. It has no semaphores. -/
theorem adam_branch_ref : Cert.quiescent_AdamBranchRefIdeal := fun m ρ _ =>
  (θ_run _ _ _).mono (fun r h => ⟨fun c => (h c).2.2.2.2, sem_eq_zero_of_no_sems (by decide) r.2⟩)
    (Cert.AdamBranchRefIdeal.Value.run (F := Ideal) m ρ)

/-- The reference of the optimizer's step of the latent branch weight runs and leaves its arguments alone: read off its run. It has no semaphores. -/
theorem adam_latent_ref : Cert.quiescent_AdamLatentRefIdeal := fun m ρ _ =>
  (θ_run _ _ _).mono (fun r h => ⟨fun c => (h c).2.2.2.2, sem_eq_zero_of_no_sems (by decide) r.2⟩)
    (Cert.AdamLatentRefIdeal.Value.run (F := Ideal) m ρ)

/-- The reference of the optimizer's step of the embedding's projection runs and leaves its arguments alone: read off its run. It has no semaphores. -/
theorem adam_proj_ref : Cert.quiescent_AdamProjRefIdeal := fun m ρ _ =>
  (θ_run _ _ _).mono (fun r h => ⟨fun c => (h c).2.2.2.2, sem_eq_zero_of_no_sems (by decide) r.2⟩)
    (Cert.AdamProjRefIdeal.Value.run (F := Ideal) m ρ)

/-- The reference of the optimizer's step of the queries' up-projection runs and leaves its arguments alone: read off its run. It has no semaphores. -/
theorem adam_q_up_ref : Cert.quiescent_AdamQUpRefIdeal := fun m ρ _ =>
  (θ_run _ _ _).mono (fun r h => ⟨fun c => (h c).2.2.2.2, sem_eq_zero_of_no_sems (by decide) r.2⟩)
    (Cert.AdamQUpRefIdeal.Value.run (F := Ideal) m ρ)

/-- The reference of the optimizer's step of the keys' and values' up-projection runs and leaves its arguments alone: read off its run. It has no semaphores. -/
theorem adam_kv_up_ref : Cert.quiescent_AdamKvUpRefIdeal := fun m ρ _ =>
  (θ_run _ _ _).mono (fun r h => ⟨fun c => (h c).2.2.2.2, sem_eq_zero_of_no_sems (by decide) r.2⟩)
    (Cert.AdamKvUpRefIdeal.Value.run (F := Ideal) m ρ)

/-- All the claims: the facts the programs state, the frames of the kernels and of their references, and the values. -/
theorem claim : Cert.Claim :=
  ⟨Cert.FfnBwd.Gen.facts,
    Cert.FfnBwdIdeal.Gen.facts,
    Cert.FfnBwdRefIdeal.Gen.facts,
    Cert.FfnIn.Gen.facts,
    Cert.FfnInIdeal.Gen.facts,
    Cert.FfnInRefIdeal.Gen.facts,
    Cert.FfnOut.Gen.facts,
    Cert.FfnOutIdeal.Gen.facts,
    Cert.FfnOutRefIdeal.Gen.facts,
    Cert.FfnNormBwd.Gen.facts,
    Cert.FfnNormBwdIdeal.Gen.facts,
    Cert.FfnNormBwdRefIdeal.Gen.facts,
    Cert.DwOut.Gen.facts,
    Cert.DwOutIdeal.Gen.facts,
    Cert.DwOutRefIdeal.Gen.facts,
    Cert.DwIn.Gen.facts,
    Cert.DwInIdeal.Gen.facts,
    Cert.DwInRefIdeal.Gen.facts,
    Cert.MixIn.Gen.facts,
    Cert.MixInIdeal.Gen.facts,
    Cert.MixInRefIdeal.Gen.facts,
    Cert.MergeOut.Gen.facts,
    Cert.MergeOutIdeal.Gen.facts,
    Cert.MergeOutRefIdeal.Gen.facts,
    Cert.MergeBwd.Gen.facts,
    Cert.MergeBwdIdeal.Gen.facts,
    Cert.MergeBwdRefIdeal.Gen.facts,
    Cert.Ple.Gen.facts,
    Cert.PleIdeal.Gen.facts,
    Cert.PleRefIdeal.Gen.facts,
    Cert.MixNormBwd.Gen.facts,
    Cert.MixNormBwdIdeal.Gen.facts,
    Cert.MixNormBwdRefIdeal.Gen.facts,
    Cert.DwMix.Gen.facts,
    Cert.DwMixIdeal.Gen.facts,
    Cert.DwMixRefIdeal.Gen.facts,
    Cert.DwSquare.Gen.facts,
    Cert.DwSquareIdeal.Gen.facts,
    Cert.DwSquareRefIdeal.Gen.facts,
    Cert.DwBranch.Gen.facts,
    Cert.DwBranchIdeal.Gen.facts,
    Cert.DwBranchRefIdeal.Gen.facts,
    Cert.DwProj.Gen.facts,
    Cert.DwProjIdeal.Gen.facts,
    Cert.DwProjRefIdeal.Gen.facts,
    Cert.AdamGains.Gen.facts,
    Cert.AdamGainsIdeal.Gen.facts,
    Cert.AdamGainsRefIdeal.Gen.facts,
    Cert.AdamFfnIn.Gen.facts,
    Cert.AdamFfnInIdeal.Gen.facts,
    Cert.AdamFfnInRefIdeal.Gen.facts,
    Cert.AdamFfnOut.Gen.facts,
    Cert.AdamFfnOutIdeal.Gen.facts,
    Cert.AdamFfnOutRefIdeal.Gen.facts,
    Cert.AdamMixIn.Gen.facts,
    Cert.AdamMixInIdeal.Gen.facts,
    Cert.AdamMixInRefIdeal.Gen.facts,
    Cert.AdamOut.Gen.facts,
    Cert.AdamOutIdeal.Gen.facts,
    Cert.AdamOutRefIdeal.Gen.facts,
    Cert.Norm.Gen.facts,
    Cert.NormIdeal.Gen.facts,
    Cert.NormRefIdeal.Gen.facts,
    Cert.GainSum.Gen.facts,
    Cert.GainSumIdeal.Gen.facts,
    Cert.GainSumRefIdeal.Gen.facts,
    Cert.AdamFfn1Out.Gen.facts,
    Cert.AdamFfn1OutIdeal.Gen.facts,
    Cert.AdamFfn1OutRefIdeal.Gen.facts,
    Cert.AdamGate.Gen.facts,
    Cert.AdamGateIdeal.Gen.facts,
    Cert.AdamGateRefIdeal.Gen.facts,
    Cert.AdamBranch.Gen.facts,
    Cert.AdamBranchIdeal.Gen.facts,
    Cert.AdamBranchRefIdeal.Gen.facts,
    Cert.AdamLatent.Gen.facts,
    Cert.AdamLatentIdeal.Gen.facts,
    Cert.AdamLatentRefIdeal.Gen.facts,
    Cert.AdamProj.Gen.facts,
    Cert.AdamProjIdeal.Gen.facts,
    Cert.AdamProjRefIdeal.Gen.facts,
    Cert.AdamQUp.Gen.facts,
    Cert.AdamQUpIdeal.Gen.facts,
    Cert.AdamQUpRefIdeal.Gen.facts,
    Cert.AdamKvUp.Gen.facts,
    Cert.AdamKvUpIdeal.Gen.facts,
    Cert.AdamKvUpRefIdeal.Gen.facts,
    Cert.Pre_ffn_bwd_finite.Gen.facts,
    Cert.Pre_ffn_norm_bwd_finite.Gen.facts,
    Cert.Pre_ple_finite.Gen.facts,
    Cert.Pre_mix_norm_bwd_finite.Gen.facts,
    fun m ρ _ => Cert.FfnBwd.Gen.frame m ρ,
    fun m ρ _ => Cert.FfnBwdIdeal.Gen.frame m ρ,
    fun m ρ _ => Cert.FfnBwdIdeal.Gen.frame m ρ,
    ffn_bwd_ref,
    fun m ρ _ => ffn_bwd_ref m ρ trivial,
    fun m ρ _ => Cert.FfnIn.Gen.frame m ρ,
    fun m ρ _ => Cert.FfnInIdeal.Gen.frame m ρ,
    ffn_in_ref,
    fun m ρ _ => Cert.FfnOut.Gen.frame m ρ,
    fun m ρ _ => Cert.FfnOutIdeal.Gen.frame m ρ,
    ffn_out_ref,
    fun m ρ _ => Cert.FfnNormBwd.Gen.frame m ρ,
    fun m ρ _ => Cert.FfnNormBwdIdeal.Gen.frame m ρ,
    fun m ρ _ => Cert.FfnNormBwdIdeal.Gen.frame m ρ,
    ffn_norm_bwd_ref,
    fun m ρ _ => ffn_norm_bwd_ref m ρ trivial,
    fun m ρ _ => Cert.DwOut.Gen.frame m ρ,
    fun m ρ _ => Cert.DwOutIdeal.Gen.frame m ρ,
    dw_out_ref,
    fun m ρ _ => Cert.DwIn.Gen.frame m ρ,
    fun m ρ _ => Cert.DwInIdeal.Gen.frame m ρ,
    dw_in_ref,
    fun m ρ _ => Cert.MixIn.Gen.frame m ρ,
    fun m ρ _ => Cert.MixInIdeal.Gen.frame m ρ,
    mix_in_ref,
    fun m ρ _ => Cert.MergeOut.Gen.frame m ρ,
    fun m ρ _ => Cert.MergeOutIdeal.Gen.frame m ρ,
    merge_out_ref,
    fun m ρ _ => Cert.MergeBwd.Gen.frame m ρ,
    fun m ρ _ => Cert.MergeBwdIdeal.Gen.frame m ρ,
    merge_bwd_ref,
    fun m ρ _ => Cert.Ple.Gen.frame m ρ,
    fun m ρ _ => Cert.PleIdeal.Gen.frame m ρ,
    fun m ρ _ => Cert.PleIdeal.Gen.frame m ρ,
    ple_ref,
    fun m ρ _ => ple_ref m ρ trivial,
    fun m ρ _ => Cert.MixNormBwd.Gen.frame m ρ,
    fun m ρ _ => Cert.MixNormBwdIdeal.Gen.frame m ρ,
    fun m ρ _ => Cert.MixNormBwdIdeal.Gen.frame m ρ,
    mix_norm_bwd_ref,
    fun m ρ _ => mix_norm_bwd_ref m ρ trivial,
    fun m ρ _ => Cert.DwMix.Gen.frame m ρ,
    fun m ρ _ => Cert.DwMixIdeal.Gen.frame m ρ,
    dw_mix_ref,
    fun m ρ _ => Cert.DwSquare.Gen.frame m ρ,
    fun m ρ _ => Cert.DwSquareIdeal.Gen.frame m ρ,
    dw_square_ref,
    fun m ρ _ => Cert.DwBranch.Gen.frame m ρ,
    fun m ρ _ => Cert.DwBranchIdeal.Gen.frame m ρ,
    dw_branch_ref,
    fun m ρ _ => Cert.DwProj.Gen.frame m ρ,
    fun m ρ _ => Cert.DwProjIdeal.Gen.frame m ρ,
    dw_proj_ref,
    fun m ρ _ => Cert.AdamGains.Gen.frame m ρ,
    fun m ρ _ => Cert.AdamGainsIdeal.Gen.frame m ρ,
    adam_gains_ref,
    fun m ρ _ => Cert.AdamFfnIn.Gen.frame m ρ,
    fun m ρ _ => Cert.AdamFfnInIdeal.Gen.frame m ρ,
    adam_ffn_in_ref,
    fun m ρ _ => Cert.AdamFfnOut.Gen.frame m ρ,
    fun m ρ _ => Cert.AdamFfnOutIdeal.Gen.frame m ρ,
    adam_ffn_out_ref,
    fun m ρ _ => Cert.AdamMixIn.Gen.frame m ρ,
    fun m ρ _ => Cert.AdamMixInIdeal.Gen.frame m ρ,
    adam_mix_in_ref,
    fun m ρ _ => Cert.AdamOut.Gen.frame m ρ,
    fun m ρ _ => Cert.AdamOutIdeal.Gen.frame m ρ,
    adam_out_ref,
    fun m ρ _ => Cert.Norm.Gen.frame m ρ,
    fun m ρ _ => Cert.NormIdeal.Gen.frame m ρ,
    norm_ref,
    fun m ρ _ => Cert.GainSum.Gen.frame m ρ,
    fun m ρ _ => Cert.GainSumIdeal.Gen.frame m ρ,
    gain_sum_ref,
    fun m ρ _ => Cert.AdamFfn1Out.Gen.frame m ρ,
    fun m ρ _ => Cert.AdamFfn1OutIdeal.Gen.frame m ρ,
    adam_ffn1_out_ref,
    fun m ρ _ => Cert.AdamGate.Gen.frame m ρ,
    fun m ρ _ => Cert.AdamGateIdeal.Gen.frame m ρ,
    adam_gate_ref,
    fun m ρ _ => Cert.AdamBranch.Gen.frame m ρ,
    fun m ρ _ => Cert.AdamBranchIdeal.Gen.frame m ρ,
    adam_branch_ref,
    fun m ρ _ => Cert.AdamLatent.Gen.frame m ρ,
    fun m ρ _ => Cert.AdamLatentIdeal.Gen.frame m ρ,
    adam_latent_ref,
    fun m ρ _ => Cert.AdamProj.Gen.frame m ρ,
    fun m ρ _ => Cert.AdamProjIdeal.Gen.frame m ρ,
    adam_proj_ref,
    fun m ρ _ => Cert.AdamQUp.Gen.frame m ρ,
    fun m ρ _ => Cert.AdamQUpIdeal.Gen.frame m ρ,
    adam_q_up_ref,
    fun m ρ _ => Cert.AdamKvUp.Gen.frame m ρ,
    fun m ρ _ => Cert.AdamKvUpIdeal.Gen.frame m ρ,
    adam_kv_up_ref,
    trivial,
    ffn_bwd,
    trivial,
    ffn_in,
    trivial,
    ffn_out,
    trivial,
    ffn_norm_bwd,
    trivial,
    dw_out,
    trivial,
    dw_in,
    trivial,
    mix_in,
    trivial,
    merge_out,
    trivial,
    merge_bwd,
    trivial,
    ple,
    trivial,
    mix_norm_bwd,
    trivial,
    dw_mix,
    trivial,
    dw_square,
    trivial,
    dw_branch,
    trivial,
    dw_proj,
    trivial,
    adam_gains,
    trivial,
    adam_ffn_in,
    trivial,
    adam_ffn_out,
    trivial,
    adam_mix_in,
    trivial,
    adam_out,
    trivial,
    norm,
    trivial,
    gain_sum,
    trivial,
    adam_ffn1_out,
    trivial,
    adam_gate,
    trivial,
    adam_branch,
    trivial,
    adam_latent,
    trivial,
    adam_proj,
    trivial,
    adam_q_up,
    trivial,
    adam_kv_up⟩

end Cert.Proof

end
